-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "qk_scale_log2" .f32 0x3E0293EE#32 ((((Real.sqrt 128) * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "qk_scale_log2" .f32 0x3E0293EE#32 ((((Real.sqrt 128) * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v78) = v3 c
          ∧ r.2.mem ((c.tc : Thread Cert.Reference3Ideal.nD Cert.Reference3Ideal.τ).loc Cert.Reference3Ideal.main_v79) = v4 c
          ∧ r.2.mem ((c.tc : Thread Cert.Reference3Ideal.nD Cert.Reference3Ideal.τ).loc Cert.Reference3Ideal.main_v80) = v5 c
          ∧ r.2.mem ((c.tc : Thread Cert.Reference3Ideal.nD Cert.Reference3Ideal.τ).loc Cert.Reference3Ideal.main_v81) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "qk_scale_log2" .f32 0x3E0293EE#32 ((((Real.sqrt 128) * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)) (v6 : (c : Dev Cert.Kernel4Ideal.nD) → Buf (Elt Ideal) ((c.tc : Thread Cert.Kernel4Ideal.nD Cert.Kernel4Ideal.τ).loc Cert.Kernel4Ideal.main_v14_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_v14_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v54) = v4 c
          ∧ r.2.mem ((c.tc : Thread Cert.Reference4Ideal.nD Cert.Reference4Ideal.τ).loc Cert.Reference4Ideal.main_v55) = v5 c
          ∧ r.2.mem ((c.tc : Thread Cert.Reference4Ideal.nD Cert.Reference4Ideal.τ).loc Cert.Reference4Ideal.main_v56) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S8x4096x4x128 : Shape := ⟨4, ![8, 4096, 4, 128]⟩
abbrev S8x4096x2x128 : Shape := ⟨4, ![8, 4096, 2, 128]⟩
abbrev S8x2x512x2x128 : Shape := ⟨5, ![8, 2, 512, 2, 128]⟩
abbrev S_ : Shape := ⟨0, ![]⟩
abbrev S8x1x512x2x128 : Shape := ⟨5, ![8, 1, 512, 2, 128]⟩
abbrev S8x512x2x128 : Shape := ⟨4, ![8, 512, 2, 128]⟩

class Facts : Prop where
  bcast_S_S8x4096x4x128 : S_.BroadcastsInDim S8x4096x4x128 (![] : Fin 0 → Fin S8x4096x4x128.rank)
  reducesTo_S8x4096x4x128_S_d0_1_2_3 : S8x4096x4x128.ReducesTo [0, 1, 2, 3] S_
  h_S_ : 0 < S_.numel
  bcast_S_S8x4096x2x128 : S_.BroadcastsInDim S8x4096x2x128 (![] : Fin 0 → Fin S8x4096x2x128.rank)
  reducesTo_S8x4096x2x128_S_d0_1_2_3 : S8x4096x2x128.ReducesTo [0, 1, 2, 3] S_
  slices_S8x2x512x2x128_S8x1x512x2x128_0_0_0_0_0 : S8x2x512x2x128.Slices ![0, 0, 0, 0, 0] S8x1x512x2x128
  shapeCasts_S8x1x512x2x128_S8x512x2x128 : S8x1x512x2x128.ShapeCasts S8x512x2x128
  bcast_S_S8x512x2x128 : S_.BroadcastsInDim S8x512x2x128 (![] : Fin 0 → Fin S8x512x2x128.rank)
  reducesTo_S8x512x2x128_S_d0_1_2_3 : S8x512x2x128.ReducesTo [0, 1, 2, 3] S_

variable [Facts]

def fn {F : FTy → Type} [FloatOps F] (main_arg0 : FVec F S8x4096x4x128 .f32) (main_arg1 : FVec F S8x4096x2x128 .f32) (main_arg2 : FVec F S8x4096x2x128 .f32) (main_arg3 : FVec F S8x2x512x2x128 .f32) (main_arg4 : FVec F S8x2x512x2x128 .f32) : IVec S_ 1 :=
  let main_v0 : FVec F S8x4096x4x128 .f32 := Host.absf main_arg0
  let main_cst : FVec F S_ .f32 := constant S_ .f32 0x7F800000#32
  let main_v1 : FVec F S8x4096x4x128 .f32 := broadcastInDim S8x4096x4x128 ![] bcast_S_S8x4096x4x128 main_cst
  let main_v2 : IVec S8x4096x4x128 1 := cmpf .olt main_v0 main_v1
  let main_c : IVec S_ 1 := constantI S_ 1 1#1
  let main_v3 : IVec S_ 1 := (fun x v => Host.reduce IntOp.andi x v reducesTo_S8x4096x4x128_S_d0_1_2_3 h_S_) main_v2 main_c
  let main_v4 : FVec F S8x4096x2x128 .f32 := Host.absf main_arg1
  let main_cst_0 : FVec F S_ .f32 := constant S_ .f32 0x7F800000#32
  let main_v5 : FVec F S8x4096x2x128 .f32 := broadcastInDim S8x4096x2x128 ![] bcast_S_S8x4096x2x128 main_cst_0
  let main_v6 : IVec S8x4096x2x128 1 := cmpf .olt main_v4 main_v5
  let main_c_1 : IVec S_ 1 := constantI S_ 1 1#1
  let main_v7 : IVec S_ 1 := (fun x v => Host.reduce IntOp.andi x v reducesTo_S8x4096x2x128_S_d0_1_2_3 h_S_) main_v6 main_c_1
  let main_v8 : IVec S_ 1 := andi main_v3 main_v7
  let main_v9 : FVec F S8x1x512x2x128 .f32 := (extractStridedSlice S8x1x512x2x128 ![0, 0, 0, 0, 0] · slices_S8x2x512x2x128_S8x1x512x2x128_0_0_0_0_0) main_arg3
  let main_v10 : FVec F S8x512x2x128 .f32 := shapeCast S8x512x2x128 main_v9 shapeCasts_S8x1x512x2x128_S8x512x2x128
  let main_v11 : FVec F S8x512x2x128 .f32 := Host.absf main_v10
  let main_cst_2 : FVec F S_ .f32 := constant S_ .f32 0x7F800000#32
  let main_v12 : FVec F S8x512x2x128 .f32 := broadcastInDim S8x512x2x128 ![] bcast_S_S8x512x2x128 main_cst_2
  let main_v13 : IVec S8x512x2x128 1 := cmpf .olt main_v11 main_v12
  let main_c_3 : IVec S_ 1 := constantI S_ 1 1#1
  let main_v14 : IVec S_ 1 := (fun x v => Host.reduce IntOp.andi x v reducesTo_S8x512x2x128_S_d0_1_2_3 h_S_) main_v13 main_c_3
  let main_v15 : IVec S_ 1 := andi main_v8 main_v14
  main_v15
-- ==== Kernel.lean ====
abbrev S8x4096x4x128 : Shape := ⟨4, ![8, 4096, 4, 128]⟩
abbrev S8x4096x2x128 : Shape := ⟨4, ![8, 4096, 2, 128]⟩
abbrev S8x2x512x2x128 : Shape := ⟨5, ![8, 2, 512, 2, 128]⟩
abbrev S8x4096x512 : Shape := ⟨3, ![8, 4096, 512]⟩
abbrev S8x4096x256 : Shape := ⟨3, ![8, 4096, 256]⟩
abbrev S8x2x512x256 : Shape := ⟨4, ![8, 2, 512, 256]⟩
abbrev S1x1024x256 : Shape := ⟨3, ![1, 1024, 256]⟩
abbrev S1x4096x128 : Shape := ⟨3, ![1, 4096, 128]⟩
abbrev S1x1x512x128 : Shape := ⟨4, ![1, 1, 512, 128]⟩
abbrev S1x128 : Shape := ⟨2, ![1, 128]⟩
abbrev S1x1024x128 : Shape := ⟨3, ![1, 1024, 128]⟩
abbrev S1024x128 : Shape := ⟨2, ![1024, 128]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S128 : Shape := ⟨1, ![128]⟩
abbrev S512x128 : Shape := ⟨2, ![512, 128]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1 : Shape := ⟨1, ![1]⟩
abbrev S1x1x1 : Shape := ⟨3, ![1, 1, 1]⟩
abbrev S1024x2048 : Shape := ⟨2, ![1024, 2048]⟩
abbrev S1024x512 : Shape := ⟨2, ![1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S8x4096x4x128, .f32⟩
  | .hbm, ⟨1, _⟩ => ⟨S8x4096x2x128, .f32⟩
  | .hbm, ⟨2, _⟩ => ⟨S8x4096x2x128, .f32⟩
  | .hbm, ⟨3, _⟩ => ⟨S8x2x512x2x128, .f32⟩
  | .hbm, ⟨4, _⟩ => ⟨S8x2x512x2x128, .f32⟩
  | .hbm, ⟨5, _⟩ => ⟨S8x4096x512, .f32⟩
  | .hbm, ⟨6, _⟩ => ⟨S8x4096x256, .f32⟩
  | .hbm, ⟨7, _⟩ => ⟨S8x4096x256, .bf16⟩
  | .hbm, ⟨8, _⟩ => ⟨S8x4096x256, .f32⟩
  | .hbm, ⟨9, _⟩ => ⟨S8x4096x256, .bf16⟩
  | .hbm, ⟨10, _⟩ => ⟨S8x2x512x256, .f32⟩
  | .hbm, ⟨11, _⟩ => ⟨S8x2x512x256, .f32⟩
  | .hbm, ⟨12, _⟩ => ⟨S8x4096x512, .bf16⟩
  | .local _ .vmem, ⟨0, _⟩ => ⟨S1x1024x256, .f32⟩
  | .local _ .vmem, ⟨1, _⟩ => ⟨S1x1024x256, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x1x512x128, .f32⟩
  | .local _ .vmem, ⟨9, _⟩ => ⟨S1x1x512x128, .f32⟩
  | .local _ .vmem, ⟨10, _⟩ => ⟨S1x1024x256, .bf16⟩
  | .local _ .vmem, ⟨11, _⟩ => ⟨S1x1024x256, .bf16⟩
  | .local _ .vmem, ⟨12, _⟩ => ⟨S1x128, .f32⟩
  | _, _ => ⟨S8x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_5 : BitVec 32 := 0#32
  let v12 : BitVec 1 := Scalar.cmpi .ne v11 c0_i32_5
  v12

@[reducible] def k0_t1_loop : Scf.Loop 32 :=
  let c0_i32_42 : BitVec 32 := 0#32
  let c2_i32_43 : BitVec 32 := 2#32
  let v121 : BitVec 32 := Scalar.addi c0_i32_42 c2_i32_43
  let c1_i32_44 : BitVec 32 := 1#32
  ⟨c0_i32_42, v121, c1_i32_44⟩
def k0_mult1 (k0_t1 : Fin k0_t1_loop.trips) : BitVec 32 :=
  let c0_i32_42 : BitVec 32 := 0#32
  let c1_i32_44 : BitVec 32 := 1#32
  let arg10 : BitVec 32 := Scf.iv c0_i32_42 c1_i32_44 k0_t1
  let c2048_i32 : BitVec 32 := 2048#32
  let v139 : BitVec 32 := Scalar.muli arg10 c2048_i32
  v139
def k0_off1 (k0_t1 : Fin k0_t1_loop.trips) : Fin 3 → Nat :=
  let c0_54 : Index := 0#32
  let c0_i32_42 : BitVec 32 := 0#32
  let c1_i32_44 : BitVec 32 := 1#32
  let arg10 : BitVec 32 := Scf.iv c0_i32_42 c1_i32_44 k0_t1
  let c2048_i32 : BitVec 32 := 2048#32
  let v139 : BitVec 32 := Scalar.muli arg10 c2048_i32
  let v140 : BitVec 32 := v139
  let v141 : Index := Scalar.indexCast v140
  let c0_55 : Index := 0#32
  ![0, v141.toNat, 0]
@[reducible] def k0_t2_loop : Scf.Loop 32 :=
  let c0_i32_43 : BitVec 32 := 0#32
  let c2_i32_44 : BitVec 32 := 2#32
  let v122 : BitVec 32 := Scalar.addi c0_i32_43 c2_i32_44
  let c1_i32_45 : BitVec 32 := 1#32
  ⟨c0_i32_43, v122, c1_i32_45⟩
def k0_mult2 (k0_t2 : Fin k0_t2_loop.trips) : BitVec 32 :=
  let c0_i32_43 : BitVec 32 := 0#32
  let c1_i32_45 : BitVec 32 := 1#32
  let arg10 : BitVec 32 := Scf.iv c0_i32_43 c1_i32_45 k0_t2
  let c2048_i32 : BitVec 32 := 2048#32
  let v154 : BitVec 32 := Scalar.muli arg10 c2048_i32
  v154
def k0_off2 (k0_t2 : Fin k0_t2_loop.trips) : Fin 3 → Nat :=
  let c0_55 : Index := 0#32
  let c0_i32_43 : BitVec 32 := 0#32
  let c1_i32_45 : BitVec 32 := 1#32
  let arg10 : BitVec 32 := Scf.iv c0_i32_43 c1_i32_45 k0_t2
  let c2048_i32 : BitVec 32 := 2048#32
  let v154 : BitVec 32 := Scalar.muli arg10 c2048_i32
  let v155 : BitVec 32 := v154
  let v156 : Index := Scalar.indexCast v155
  let c0_56 : Index := 0#32
  ![0, v156.toNat, 0]
@[reducible] def k0_t3_loop : Scf.Loop 32 :=
  let c0_i32_19 : BitVec 32 := 0#32
  let c2_i32 : BitVec 32 := 2#32
  let v46 : BitVec 32 := Scalar.addi c0_i32_19 c2_i32
  let c1_i32 : BitVec 32 := 1#32
  ⟨c0_i32_19, v46, c1_i32⟩
def k0_mult3 (k0_t3 : Fin k0_t3_loop.trips) : BitVec 32 :=
  let c0_i32_19 : BitVec 32 := 0#32
  let c1_i32 : BitVec 32 := 1#32
  let arg10 : BitVec 32 := Scf.iv c0_i32_19 c1_i32 k0_t3
  let c2048_i32 : BitVec 32 := 2048#32
  let v120 : BitVec 32 := Scalar.muli arg10 c2048_i32
  v120
def k0_off3 (k0_t3 : Fin k0_t3_loop.trips) : Fin 3 → Nat :=
  let c0_41 : Index := 0#32
  let c0_i32_19 : BitVec 32 := 0#32
  let c1_i32 : BitVec 32 := 1#32
  let arg10 : BitVec 32 := Scf.iv c0_i32_19 c1_i32 k0_t3
  let c2048_i32 : BitVec 32 := 2048#32
  let v120 : BitVec 32 := Scalar.muli arg10 c2048_i32
  let v121 : BitVec 32 := v120
  let v122 : Index := Scalar.indexCast v121
  let c0_42 : Index := 0#32
  ![0, v122.toNat, 0]
def k0_mult4 (k0_t3 : Fin k0_t3_loop.trips) : BitVec 32 :=
  let c0_i32_19 : BitVec 32 := 0#32
  let c1_i32 : BitVec 32 := 1#32
  let arg10 : BitVec 32 := Scf.iv c0_i32_19 c1_i32 k0_t3
  let c2048_i32_43 : BitVec 32 := 2048#32
  let v125 : BitVec 32 := Scalar.muli arg10 c2048_i32_43
  v125
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qk_scale_log2" => some ((((Real.sqrt 128) * (Real.log 2))⁻¹ : ℝ) : EReal)
  | _ => none
-- ==== ReferenceIdeal.lean ====
abbrev S8x4096x4x128 : Shape := ⟨4, ![8, 4096, 4, 128]⟩
abbrev S8x4096x2x128 : Shape := ⟨4, ![8, 4096, 2, 128]⟩
abbrev S8x2x512x2x128 : Shape := ⟨5, ![8, 2, 512, 2, 128]⟩
abbrev S8x1x512x2x128 : Shape := ⟨5, ![8, 1, 512, 2, 128]⟩
abbrev S8x512x2x128 : Shape := ⟨4, ![8, 512, 2, 128]⟩
abbrev S8x4608x2x128 : Shape := ⟨4, ![8, 4608, 2, 128]⟩
abbrev S8x4096x2x2x128 : Shape := ⟨5, ![8, 4096, 2, 2, 128]⟩
abbrev S8x2x4608x4096x2 : Shape := ⟨5, ![8, 2, 4608, 4096, 2]⟩
abbrev S8x2x2x4096x4608 : Shape := ⟨5, ![8, 2, 2, 4096, 4608]⟩
abbrev S_ : Shape := ⟨0, ![]⟩
abbrev S8x2x2x4096 : Shape := ⟨4, ![8, 2, 2, 4096]⟩
abbrev S8x2x2x4096x1 : Shape := ⟨5, ![8, 2, 2, 4096, 1]⟩
abbrev S8x2x128x2x4096 : Shape := ⟨5, ![8, 2, 128, 2, 4096]⟩
abbrev S8x4096x512 : Shape := ⟨3, ![8, 4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x4x128, .f32⟩
  | .hbm, ⟨1, _⟩ => ⟨S8x4096x2x128, .f32⟩
  | .hbm, ⟨2, _⟩ => ⟨S8x4096x2x128, .f32⟩
  | .hbm, ⟨3, _⟩ => ⟨S8x2x512x2x128, .f32⟩
  | .hbm, ⟨4, _⟩ => ⟨S8x2x512x2x128, .f32⟩
  | .hbm, ⟨5, _⟩ => ⟨S8x1x512x2x128, .f32⟩
  | .hbm, ⟨6, _⟩ => ⟨S8x512x2x128, .f32⟩
  | .hbm, ⟨7, _⟩ => ⟨S8x4608x2x128, .f32⟩
  | .hbm, ⟨8, _⟩ => ⟨S8x1x512x2x128, .f32⟩
  | .hbm, ⟨9, _⟩ => ⟨S8x512x2x128, .f32⟩
  | .hbm, ⟨10, _⟩ => ⟨S8x4608x2x128, .f32⟩
  | .hbm, ⟨11, _⟩ => ⟨S8x4096x2x2x128, .f32⟩
  | .hbm, ⟨12, _⟩ => ⟨S8x2x4608x4096x2, .f32⟩
  | .hbm, ⟨13, _⟩ => ⟨S8x2x2x4096x4608, .f32⟩
  | .hbm, ⟨14, _⟩ => ⟨S_, .f32⟩
  | .hbm, ⟨15, _⟩ => ⟨S_, .f32⟩
  | .hbm, ⟨16, _⟩ => ⟨S8x2x2x4096x4608, .f32⟩
  | .hbm, ⟨17, _⟩ => ⟨S8x2x2x4096x4608, .f32⟩
  | .hbm, ⟨18, _⟩ => ⟨S_, .f32⟩
  | .hbm, ⟨19, _⟩ => ⟨S8x2x2x4096, .f32⟩
  | .hbm, ⟨20, _⟩ => ⟨S_, .f32⟩
  | .hbm, ⟨21, _⟩ => ⟨S8x2x2x4096, .f32⟩
  | .hbm, ⟨22, _⟩ => ⟨S8x2x2x4096, .f32⟩
  | .hbm, ⟨23, _⟩ => ⟨S8x2x2x4096x1, .f32⟩
  | .hbm, ⟨24, _⟩ => ⟨S8x2x2x4096x4608, .f32⟩
  | .hbm, ⟨25, _⟩ => ⟨S8x2x2x4096x4608, .f32⟩
  | .hbm, ⟨26, _⟩ => ⟨S8x2x2x4096x4608, .f32⟩
  | .hbm, ⟨27, _⟩ => ⟨S_, .f32⟩
  | .hbm, ⟨28, _⟩ => ⟨S8x2x2x4096, .f32⟩
  | .hbm, ⟨29, _⟩ => ⟨S8x2x2x4096x1, .f32⟩
  | .hbm, ⟨30, _⟩ => ⟨S8x2x2x4096x4608, .f32⟩
  | .hbm, ⟨31, _⟩ => ⟨S8x2x2x4096x4608, .f32⟩
  | .hbm, ⟨32, _⟩ => ⟨S8x2x128x2x4096, .f32⟩
  | .hbm, ⟨33, _⟩ => ⟨S8x4096x2x2x128, .f32⟩
  | .hbm, ⟨34, _⟩ => ⟨S8x4096x512, .f32⟩
  | .hbm, ⟨35, _⟩ => ⟨S8x4096x512, .bf16⟩
  | _, _ => ⟨S8x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S8x6x1024 : Shape := ⟨3, ![8, 6, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8x6x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S8x4096x1024 : Shape := ⟨3, ![8, 4096, 1024]⟩
abbrev S8x6144 : Shape := ⟨2, ![8, 6144]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel3.lean ====
abbrev S16x256x1024 : Shape := ⟨3, ![16, 256, 1024]⟩
abbrev S6144 : Shape := ⟨1, ![6144]⟩
abbrev S1024 : Shape := ⟨1, ![1024]⟩
abbrev S1024x3088 : Shape := ⟨2, ![1024, 3088]⟩
abbrev S128 : Shape := ⟨1, ![128]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1024x3200 : Shape := ⟨2, ![1024, 3200]⟩
abbrev S512x128 : Shape := ⟨2, ![512, 128]⟩
abbrev S1x4096x1024 : Shape := ⟨3, ![1, 4096, 1024]⟩
abbrev S1x6x1024 : Shape := ⟨3, ![1, 6, 1024]⟩
abbrev S1x1024 : Shape := ⟨2, ![1, 1024]⟩
abbrev S1x128 : Shape := ⟨2, ![1, 128]⟩
abbrev S1x4096x2048 : Shape := ⟨3, ![1, 4096, 2048]⟩
abbrev S1x4096x128 : Shape := ⟨3, ![1, 4096, 128]⟩
abbrev S1x4096x512 : Shape := ⟨3, ![1, 4096, 512]⟩
abbrev S1x4096x256 : Shape := ⟨3, ![1, 4096, 256]⟩
abbrev S1x512x1024 : Shape := ⟨3, ![1, 512, 1024]⟩
abbrev S1x512x2048 : Shape := ⟨3, ![1, 512, 2048]⟩
abbrev S1x512x128 : Shape := ⟨3, ![1, 512, 128]⟩
abbrev S1x512x512 : Shape := ⟨3, ![1, 512, 512]⟩
abbrev S1x512x256 : Shape := ⟨3, ![1, 512, 256]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩
abbrev S512x256 : Shape := ⟨2, ![512, 256]⟩

abbrev nBuf : Space → Nat
  | .hbm => 30
  | .vmem => 23
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x3088, .f32⟩
  | .hbm, ⟨4, _⟩ => ⟨S128, .f32⟩
  | .hbm, ⟨5, _⟩ => ⟨S128, .f32⟩
  | .hbm, ⟨6, _⟩ => ⟨S1024x2048, .f32⟩
  | .hbm, ⟨7, _⟩ => ⟨S1024x1024, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x3200, .f32⟩
  | .hbm, ⟨13, _⟩ => ⟨S1024x3200, .bf16⟩
  | .hbm, ⟨14, _⟩ => ⟨S_, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S1x4096x1024, .f32⟩
  | .hbm, ⟨19, _⟩ => ⟨S1x6x1024, .f32⟩
  | .hbm, ⟨20, _⟩ => ⟨S1x1024, .f32⟩
  | .hbm, ⟨21, _⟩ => ⟨S1x128, .f32⟩
  | .hbm, ⟨22, _⟩ => ⟨S1x128, .f32⟩
  | .hbm, ⟨23, _⟩ => ⟨S1x4096x2048, .f32⟩
  | .hbm, ⟨24, _⟩ => ⟨S1x4096x128, .f32⟩
  | .hbm, ⟨25, _⟩ => ⟨S1x4096x512, .bf16⟩
  | .hbm, ⟨26, _⟩ => ⟨S1x4096x256, .bf16⟩
  | .hbm, ⟨27, _⟩ => ⟨S1x4096x256, .bf16⟩
  | .hbm, ⟨28, _⟩ => ⟨S1x4096x256, .f32⟩
  | .hbm, ⟨29, _⟩ => ⟨S1x4096x256, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3200, .bf16⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | .local _ .vmem, ⟨9, _⟩ => ⟨S1x512x2048, .f32⟩
  | .local _ .vmem, ⟨10, _⟩ => ⟨S1x512x2048, .f32⟩
  | .local _ .vmem, ⟨11, _⟩ => ⟨S1x512x128, .f32⟩
  | .local _ .vmem, ⟨12, _⟩ => ⟨S1x512x128, .f32⟩
  | .local _ .vmem, ⟨13, _⟩ => ⟨S1x512x512, .bf16⟩
  | .local _ .vmem, ⟨14, _⟩ => ⟨S1x512x512, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel3Ideal.lean ====
variable {F : FTy → Type} [FloatOps F] [Named F]
def κ : String → Option EReal := fun
  | "qk_scale_log2" => some ((((Real.sqrt 128) * (Real.log 2))⁻¹ : ℝ) : EReal)
  | _ => none
-- ==== Reference3Ideal.lean ====
abbrev S16x256x1024 : Shape := ⟨3, ![16, 256, 1024]⟩
abbrev S6144 : Shape := ⟨1, ![6144]⟩
abbrev S1024 : Shape := ⟨1, ![1024]⟩
abbrev S1024x3088 : Shape := ⟨2, ![1024, 3088]⟩
abbrev S128 : Shape := ⟨1, ![128]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x3088 : Shape := ⟨3, ![16, 256, 3088]⟩
abbrev S16x256x512 : Shape := ⟨3, ![16, 256, 512]⟩
abbrev S16x256x8 : Shape := ⟨3, ![16, 256, 8]⟩
abbrev S16x256x256 : Shape := ⟨3, ![16, 256, 256]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S16x256x112 : Shape := ⟨3, ![16, 256, 112]⟩
abbrev S16x256x128 : Shape := ⟨3, ![16, 256, 128]⟩
abbrev S16x256x2048 : Shape := ⟨3, ![16, 256, 2048]⟩
abbrev S1x4096x2048 : Shape := ⟨3, ![1, 4096, 2048]⟩
abbrev S1x4096x128 : Shape := ⟨3, ![1, 4096, 128]⟩
abbrev S1x4096x512 : Shape := ⟨3, ![1, 4096, 512]⟩
abbrev S1x4096x256 : Shape := ⟨3, ![1, 4096, 256]⟩

abbrev nBuf : Space → Nat
  | .hbm => 101
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x3088, .f32⟩
  | .hbm, ⟨4, _⟩ => ⟨S128, .f32⟩
  | .hbm, ⟨5, _⟩ => ⟨S128, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x3088, .f32⟩
  | .hbm, ⟨37, _⟩ => ⟨S16x256x512, .f32⟩
  | .hbm, ⟨38, _⟩ => ⟨S16x256x512, .f32⟩
  | .hbm, ⟨39, _⟩ => ⟨S16x256x512, .f32⟩
  | .hbm, ⟨40, _⟩ => ⟨S16x256x512, .f32⟩
  | .hbm, ⟨41, _⟩ => ⟨S16x256x8, .f32⟩
  | .hbm, ⟨42, _⟩ => ⟨S16x256x8, .f32⟩
  | .hbm, ⟨43, _⟩ => ⟨S16x256x512, .f32⟩
  | .hbm, ⟨44, _⟩ => ⟨S16x256x256, .f32⟩
  | .hbm, ⟨45, _⟩ => ⟨S16x256x256, .f32⟩
  | .hbm, ⟨46, _⟩ => ⟨S16x256x4x128, .f32⟩
  | .hbm, ⟨47, _⟩ => ⟨S16x256x4x128, .f32⟩
  | .hbm, ⟨48, _⟩ => ⟨S_, .f32⟩
  | .hbm, ⟨49, _⟩ => ⟨S16x256x4, .f32⟩
  | .hbm, ⟨50, _⟩ => ⟨S16x256x4x1, .f32⟩
  | .hbm, ⟨51, _⟩ => ⟨S_, .f32⟩
  | .hbm, ⟨52, _⟩ => ⟨S16x256x4x1, .f32⟩
  | .hbm, ⟨53, _⟩ => ⟨S16x256x4x1, .f32⟩
  | .hbm, ⟨54, _⟩ => ⟨S_, .f32⟩
  | .hbm, ⟨55, _⟩ => ⟨S16x256x4x1, .f32⟩
  | .hbm, ⟨56, _⟩ => ⟨S16x256x4x1, .f32⟩
  | .hbm, ⟨57, _⟩ => ⟨S16x256x4x1, .f32⟩
  | .hbm, ⟨58, _⟩ => ⟨S16x256x4x128, .f32⟩
  | .hbm, ⟨59, _⟩ => ⟨S16x256x4x128, .f32⟩
  | .hbm, ⟨60, _⟩ => ⟨S1x1x1x128, .f32⟩
  | .hbm, ⟨61, _⟩ => ⟨S16x256x4x128, .f32⟩
  | .hbm, ⟨62, _⟩ => ⟨S16x256x4x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16x256x4x128, .f32⟩
  | .hbm, ⟨69, _⟩ => ⟨S16x256x4x128, .f32⟩
  | .hbm, ⟨70, _⟩ => ⟨S16x256x2x128, .f32⟩
  | .hbm, ⟨71, _⟩ => ⟨S16x256x2x128, .f32⟩
  | .hbm, ⟨72, _⟩ => ⟨S_, .f32⟩
  | .hbm, ⟨73, _⟩ => ⟨S16x256x2, .f32⟩
  | .hbm, ⟨74, _⟩ => ⟨S16x256x2x1, .f32⟩
  | .hbm, ⟨75, _⟩ => ⟨S_, .f32⟩
  | .hbm, ⟨76, _⟩ => ⟨S16x256x2x1, .f32⟩
  | .hbm, ⟨77, _⟩ => ⟨S16x256x2x1, .f32⟩
  | .hbm, ⟨78, _⟩ => ⟨S_, .f32⟩
  | .hbm, ⟨79, _⟩ => ⟨S16x256x2x1, .f32⟩
  | .hbm, ⟨80, _⟩ => ⟨S16x256x2x1, .f32⟩
  | .hbm, ⟨81, _⟩ => ⟨S16x256x2x1, .f32⟩
  | .hbm, ⟨82, _⟩ => ⟨S16x256x2x128, .f32⟩
  | .hbm, ⟨83, _⟩ => ⟨S16x256x2x128, .f32⟩
  | .hbm, ⟨84, _⟩ => ⟨S1x1x1x128, .f32⟩
  | .hbm, ⟨85, _⟩ => ⟨S16x256x2x128, .f32⟩
  | .hbm, ⟨86, _⟩ => ⟨S16x256x2x128, .f32⟩
  | .hbm, ⟨87, _⟩ => ⟨S_, .f32⟩
  | .hbm, ⟨88, _⟩ => ⟨S16x256x112, .f32⟩
  | .hbm, ⟨89, _⟩ => ⟨S16x256x128, .f32⟩
  | .hbm, ⟨90, _⟩ => ⟨S16x256x2048, .f32⟩
  | .hbm, ⟨91, _⟩ => ⟨S16x256x4x128, .bf16⟩
  | .hbm, ⟨92, _⟩ => ⟨S16x256x2x128, .bf16⟩
  | .hbm, ⟨93, _⟩ => ⟨S16x256x256, .bf16⟩
  | .hbm, ⟨94, _⟩ => ⟨S1x4096x2048, .f32⟩
  | .hbm, ⟨95, _⟩ => ⟨S1x4096x128, .f32⟩
  | .hbm, ⟨96, _⟩ => ⟨S1x4096x512, .bf16⟩
  | .hbm, ⟨97, _⟩ => ⟨S1x4096x256, .bf16⟩
  | .hbm, ⟨98, _⟩ => ⟨S1x4096x256, .bf16⟩
  | .hbm, ⟨99, _⟩ => ⟨S1x4096x256, .f32⟩
  | .hbm, ⟨100, _⟩ => ⟨S1x4096x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Kernel4.lean ====
abbrev S16x256x1024 : Shape := ⟨3, ![16, 256, 1024]⟩
abbrev S6144 : Shape := ⟨1, ![6144]⟩
abbrev S1024 : Shape := ⟨1, ![1024]⟩
abbrev S1024x3088 : Shape := ⟨2, ![1024, 3088]⟩
abbrev S1024x1024 : Shape := ⟨2, ![1024, 1024]⟩
abbrev S1024x512 : Shape := ⟨2, ![1024, 512]⟩
abbrev S1024x1536 : Shape := ⟨2, ![1024, 1536]⟩
abbrev S1024x16 : Shape := ⟨2, ![1024, 16]⟩
abbrev S1024x2x2x4 : Shape := ⟨4, ![1024, 2, 2, 4]⟩
abbrev S1024x2x8 : Shape := ⟨3, ![1024, 2, 8]⟩
abbrev S_ : Shape := ⟨0, ![]⟩
abbrev S1024x2x128 : Shape := ⟨3, ![1024, 2, 128]⟩
abbrev S1024x256 : Shape := ⟨2, ![1024, 256]⟩
abbrev S1024x3328 : Shape := ⟨2, ![1024, 3328]⟩
abbrev S1x4096x1024 : Shape := ⟨3, ![1, 4096, 1024]⟩
abbrev S1x6x1024 : Shape := ⟨3, ![1, 6, 1024]⟩
abbrev S1x1024 : Shape := ⟨2, ![1, 1024]⟩
abbrev S1x4096x1536 : Shape := ⟨3, ![1, 4096, 1536]⟩
abbrev S1x4096x256 : Shape := ⟨3, ![1, 4096, 256]⟩
abbrev S1x4096x512 : Shape := ⟨3, ![1, 4096, 512]⟩
abbrev S1x512x1024 : Shape := ⟨3, ![1, 512, 1024]⟩
abbrev S1x512x1536 : Shape := ⟨3, ![1, 512, 1536]⟩
abbrev S1x512x256 : Shape := ⟨3, ![1, 512, 256]⟩
abbrev S1x512x512 : Shape := ⟨3, ![1, 512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S512x512 : Shape := ⟨2, ![512, 512]⟩

abbrev nBuf : Space → Nat
  | .hbm => 27
  | .vmem => 19
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x3088, .f32⟩
  | .hbm, ⟨4, _⟩ => ⟨S1024x1024, .f32⟩
  | .hbm, ⟨5, _⟩ => ⟨S1024x512, .f32⟩
  | .hbm, ⟨6, _⟩ => ⟨S1024x1536, .f32⟩
  | .hbm, ⟨7, _⟩ => ⟨S1024x16, .f32⟩
  | .hbm, ⟨8, _⟩ => ⟨S1024x2x2x4, .f32⟩
  | .hbm, ⟨9, _⟩ => ⟨S1024x2x2x4, .f32⟩
  | .hbm, ⟨10, _⟩ => ⟨S1024x2x8, .f32⟩
  | .hbm, ⟨11, _⟩ => ⟨S_, .i32⟩
  | .hbm, ⟨12, _⟩ => ⟨S_, .f32⟩
  | .hbm, ⟨13, _⟩ => ⟨S1024x2x128, .f32⟩
  | .hbm, ⟨14, _⟩ => ⟨S1024x256, .f32⟩
  | .hbm, ⟨15, _⟩ => ⟨S1024x3328, .f32⟩
  | .hbm, ⟨16, _⟩ => ⟨S1024x3328, .bf16⟩
  | .hbm, ⟨17, _⟩ => ⟨S1x4096x1024, .f32⟩
  | .hbm, ⟨18, _⟩ => ⟨S1x6x1024, .f32⟩
  | .hbm, ⟨19, _⟩ => ⟨S1x1024, .f32⟩
  | .hbm, ⟨20, _⟩ => ⟨S1x4096x1536, .f32⟩
  | .hbm, ⟨21, _⟩ => ⟨S1x4096x256, .f32⟩
  | .hbm, ⟨22, _⟩ => ⟨S1x4096x512, .bf16⟩
  | .hbm, ⟨23, _⟩ => ⟨S1x4096x512, .bf16⟩
  | .hbm, ⟨24, _⟩ => ⟨S1x4096x512, .bf16⟩
  | .hbm, ⟨25, _⟩ => ⟨S1x4096x512, .f32⟩
  | .hbm, ⟨26, _⟩ => ⟨S1x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3328, .bf16⟩
  | .local _ .vmem, ⟨5, _⟩ => ⟨S1x512x1536, .f32⟩
  | .local _ .vmem, ⟨6, _⟩ => ⟨S1x512x1536, .f32⟩
  | .local _ .vmem, ⟨7, _⟩ => ⟨S1x512x256, .f32⟩
  | .local _ .vmem, ⟨8, _⟩ => ⟨S1x512x256, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
variable {F : FTy → Type} [FloatOps F] [Named F]
def κ : String → Option EReal := fun
  | "qk_scale_log2" => some ((((Real.sqrt 128) * (Real.log 2))⁻¹ : ℝ) : EReal)
  | _ => none
-- ==== Reference4Ideal.lean ====
abbrev S16x256x1024 : Shape := ⟨3, ![16, 256, 1024]⟩
abbrev S6144 : Shape := ⟨1, ![6144]⟩
abbrev S1024 : Shape := ⟨1, ![1024]⟩
abbrev S1024x3088 : Shape := ⟨2, ![1024, 3088]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x3088 : Shape := ⟨3, ![16, 256, 3088]⟩
abbrev S16x256x512 : Shape := ⟨3, ![16, 256, 512]⟩
abbrev S16x256x256 : Shape := ⟨3, ![16, 256, 256]⟩
abbrev S16x256x16 : Shape := ⟨3, ![16, 256, 16]⟩
abbrev S16x256x120 : Shape := ⟨3, ![16, 256, 120]⟩
abbrev S16x256x4 : Shape := ⟨3, ![16, 256, 4]⟩
abbrev S16x256x1536 : Shape := ⟨3, ![16, 256, 1536]⟩
abbrev S1x4096x1536 : Shape := ⟨3, ![1, 4096, 1536]⟩
abbrev S1x4096x256 : Shape := ⟨3, ![1, 4096, 256]⟩
abbrev S1x4096x512 : Shape := ⟨3, ![1, 4096, 512]⟩

abbrev nBuf : Space → Nat
  | .hbm => 68
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x3088, .f32⟩
  | .hbm, ⟨4, _⟩ => ⟨S1x1x6144, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S16x256x1024, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S1x1x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x3088, .f32⟩
  | .hbm, ⟨35, _⟩ => ⟨S16x256x512, .f32⟩
  | .hbm, ⟨36, _⟩ => ⟨S16x256x512, .f32⟩
  | .hbm, ⟨37, _⟩ => ⟨S16x256x256, .f32⟩
  | .hbm, ⟨38, _⟩ => ⟨S16x256x256, .f32⟩
  | .hbm, ⟨39, _⟩ => ⟨S16x256x16, .f32⟩
  | .hbm, ⟨40, _⟩ => ⟨S16x256x512, .f32⟩
  | .hbm, ⟨41, _⟩ => ⟨S16x256x512, .f32⟩
  | .hbm, ⟨42, _⟩ => ⟨S16x256x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x256x512, .f32⟩
  | .hbm, ⟨49, _⟩ => ⟨S16x256x512, .f32⟩
  | .hbm, ⟨50, _⟩ => ⟨S_, .f32⟩
  | .hbm, ⟨51, _⟩ => ⟨S16x256x120, .f32⟩
  | .hbm, ⟨52, _⟩ => ⟨S16x256x4, .f32⟩
  | .hbm, ⟨53, _⟩ => ⟨S16x256x4, .f32⟩
  | .hbm, ⟨54, _⟩ => ⟨S16x256x4, .f32⟩
  | .hbm, ⟨55, _⟩ => ⟨S16x256x4, .f32⟩
  | .hbm, ⟨56, _⟩ => ⟨S16x256x256, .f32⟩
  | .hbm, ⟨57, _⟩ => ⟨S16x256x1536, .f32⟩
  | .hbm, ⟨58, _⟩ => ⟨S16x256x512, .bf16⟩
  | .hbm, ⟨59, _⟩ => ⟨S16x256x512, .bf16⟩
  | .hbm, ⟨60, _⟩ => ⟨S16x256x512, .bf16⟩
  | .hbm, ⟨61, _⟩ => ⟨S1x4096x1536, .f32⟩
  | .hbm, ⟨62, _⟩ => ⟨S1x4096x256, .f32⟩
  | .hbm, ⟨63, _⟩ => ⟨S1x4096x512, .bf16⟩
  | .hbm, ⟨64, _⟩ => ⟨S1x4096x512, .bf16⟩
  | .hbm, ⟨65, _⟩ => ⟨S1x4096x512, .bf16⟩
  | .hbm, ⟨66, _⟩ => ⟨S1x4096x512, .f32⟩
  | .hbm, ⟨67, _⟩ => ⟨S1x4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== Kernel5.lean ====
abbrev S8x4096x512 : Shape := ⟨3, ![8, 4096, 512]⟩
abbrev S8x4096x1024 : Shape := ⟨3, ![8, 4096, 1024]⟩
abbrev S8x6144 : Shape := ⟨2, ![8, 6144]⟩
abbrev S1024x1024 : Shape := ⟨2, ![1024, 1024]⟩
abbrev S1024 : Shape := ⟨1, ![1024]⟩
abbrev S8x6x1024 : Shape := ⟨3, ![8, 6, 1024]⟩
abbrev S1x1024 : Shape := ⟨2, ![1, 1024]⟩
abbrev S1x512x512 : Shape := ⟨3, ![1, 512, 512]⟩
abbrev S1x512x1024 : Shape := ⟨3, ![1, 512, 1024]⟩
abbrev S1x6x1024 : Shape := ⟨3, ![1, 6, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S8x4096x512, .bf16⟩
  | .hbm, ⟨7, _⟩ => ⟨S8x4096x512, .bf16⟩
  | .hbm, ⟨8, _⟩ => ⟨S8x6x1024, .f32⟩
  | .hbm, ⟨9, _⟩ => ⟨S1024x1024, .bf16⟩
  | .hbm, ⟨10, _⟩ => ⟨S1x1024, .f32⟩
  | .hbm, ⟨11, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4096x512 : Shape := ⟨3, ![8, 4096, 512]⟩
abbrev S8x4096x1024 : Shape := ⟨3, ![8, 4096, 1024]⟩
abbrev S8x6144 : Shape := ⟨2, ![8, 6144]⟩
abbrev S1024x1024 : Shape := ⟨2, ![1024, 1024]⟩
abbrev S1024 : Shape := ⟨1, ![1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel6.lean ====
abbrev S8x4096x512 : Shape := ⟨3, ![8, 4096, 512]⟩
abbrev S8x4096x1024 : Shape := ⟨3, ![8, 4096, 1024]⟩
abbrev S8x6144 : Shape := ⟨2, ![8, 6144]⟩
abbrev S1024x1024 : Shape := ⟨2, ![1024, 1024]⟩
abbrev S1024 : Shape := ⟨1, ![1024]⟩
abbrev S512 : Shape := ⟨1, ![512]⟩
abbrev S8x6x1024 : Shape := ⟨3, ![8, 6, 1024]⟩
abbrev S1x1024 : Shape := ⟨2, ![1, 1024]⟩
abbrev S1x512 : Shape := ⟨2, ![1, 512]⟩
abbrev S1x512x512 : Shape := ⟨3, ![1, 512, 512]⟩
abbrev S1x512x1024 : Shape := ⟨3, ![1, 512, 1024]⟩
abbrev S1x6x1024 : Shape := ⟨3, ![1, 6, 1024]⟩
abbrev S512x512 : Shape := ⟨2, ![512, 512]⟩
abbrev S512x1 : Shape := ⟨2, ![512, 1]⟩
abbrev S512x1024 : Shape := ⟨2, ![512, 1024]⟩
abbrev S1x1x1024 : Shape := ⟨3, ![1, 1, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S512, .f32⟩
  | .hbm, ⟨7, _⟩ => ⟨S8x4096x512, .bf16⟩
  | .hbm, ⟨8, _⟩ => ⟨S8x6x1024, .f32⟩
  | .hbm, ⟨9, _⟩ => ⟨S1024x1024, .bf16⟩
  | .hbm, ⟨10, _⟩ => ⟨S1x1024, .f32⟩
  | .hbm, ⟨11, _⟩ => ⟨S1x512, .f32⟩
  | .hbm, ⟨12, _⟩ => ⟨S8x4096x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1x512, .f32⟩
  | .local _ .vmem, ⟨11, _⟩ => ⟨S1x512x1024, .f32⟩
  | .local _ .vmem, ⟨12, _⟩ => ⟨S1x512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8x4096x512 : Shape := ⟨3, ![8, 4096, 512]⟩
abbrev S8x4096x1024 : Shape := ⟨3, ![8, 4096, 1024]⟩
abbrev S8x6144 : Shape := ⟨2, ![8, 6144]⟩
abbrev S1024x1024 : Shape := ⟨2, ![1024, 1024]⟩
abbrev S1024 : Shape := ⟨1, ![1024]⟩
abbrev S512 : Shape := ⟨1, ![512]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x512 : Shape := ⟨3, ![1, 1, 512]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S512, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x512, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x512, .f32⟩
  | .hbm, ⟨26, _⟩ => ⟨S8x4096x512, .f32⟩
  | .hbm, ⟨27, _⟩ => ⟨S1x1x512, .f32⟩
  | .hbm, ⟨28, _⟩ => ⟨S8x4096x512, .f32⟩
  | .hbm, ⟨29, _⟩ => ⟨S8x4096x512, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x1024, .f32⟩
  | .hbm, ⟨44, _⟩ => ⟨S8x4096x1024, .f32⟩
  | .hbm, ⟨45, _⟩ => ⟨S1x1x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel7.lean ====
abbrev S16x256x1024 : Shape := ⟨3, ![16, 256, 1024]⟩
abbrev S6144 : Shape := ⟨1, ![6144]⟩
abbrev S1024 : Shape := ⟨1, ![1024]⟩
abbrev S1024x4096 : Shape := ⟨2, ![1024, 4096]⟩
abbrev S4096x1024 : Shape := ⟨2, ![4096, 1024]⟩
abbrev S1x4096x1024 : Shape := ⟨3, ![1, 4096, 1024]⟩
abbrev S1x6x1024 : Shape := ⟨3, ![1, 6, 1024]⟩
abbrev S1x1024 : Shape := ⟨2, ![1, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1x4096x1024, .f32⟩
  | .hbm, ⟨7, _⟩ => ⟨S1x6x1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | .local _ .vmem, ⟨12, _⟩ => ⟨S1024x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S16x256x1024 : Shape := ⟨3, ![16, 256, 1024]⟩
abbrev S6144 : Shape := ⟨1, ![6144]⟩
abbrev S1024 : Shape := ⟨1, ![1024]⟩
abbrev S1024x4096 : Shape := ⟨2, ![1024, 4096]⟩
abbrev S4096x1024 : Shape := ⟨2, ![4096, 1024]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x4096 : Shape := ⟨3, ![16, 256, 4096]⟩
abbrev S1x4096x1024 : Shape := ⟨3, ![1, 4096, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x4096, .f32⟩
  | .hbm, ⟨37, _⟩ => ⟨S_, .f32⟩
  | .hbm, ⟨38, _⟩ => ⟨S16x256x4096, .f32⟩
  | .hbm, ⟨39, _⟩ => ⟨S16x256x4096, .f32⟩
  | .hbm, ⟨40, _⟩ => ⟨S16x256x4096, .f32⟩
  | .hbm, ⟨41, _⟩ => ⟨S16x256x1024, .f32⟩
  | .hbm, ⟨42, _⟩ => ⟨S16x256x1024, .f32⟩
  | .hbm, ⟨43, _⟩ => ⟨S_, .f32⟩
  | .hbm, ⟨44, _⟩ => ⟨S16x256, .f32⟩
  | .hbm, ⟨45, _⟩ => ⟨S16x256x1, .f32⟩
  | .hbm, ⟨46, _⟩ => ⟨S_, .f32⟩
  | .hbm, ⟨47, _⟩ => ⟨S16x256x1, .f32⟩
  | .hbm, ⟨48, _⟩ => ⟨S16x256x1, .f32⟩
  | .hbm, ⟨49, _⟩ => ⟨S_, .f32⟩
  | .hbm, ⟨50, _⟩ => ⟨S16x256x1, .f32⟩
  | .hbm, ⟨51, _⟩ => ⟨S16x256x1, .f32⟩
  | .hbm, ⟨52, _⟩ => ⟨S16x256x1, .f32⟩
  | .hbm, ⟨53, _⟩ => ⟨S16x256x1024, .f32⟩
  | .hbm, ⟨54, _⟩ => ⟨S16x256x1024, .f32⟩
  | .hbm, ⟨55, _⟩ => ⟨S1x1x1024, .f32⟩
  | .hbm, ⟨56, _⟩ => ⟨S16x256x1024, .f32⟩
  | .hbm, ⟨57, _⟩ => ⟨S16x256x1024, .f32⟩
  | .hbm, ⟨58, _⟩ => ⟨S16x256x1024, .f32⟩
  | .hbm, ⟨59, _⟩ => ⟨S16x256x1024, .f32⟩
  | .hbm, ⟨60, _⟩ => ⟨S16x256x1024, .f32⟩
  | .hbm, ⟨61, _⟩ => ⟨S1x4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Flash.Steps.lean ====
/-
  What one grid point of the attention kernel computes, as functions of the blocks it reads: the norm bound kept in
  scratch, the shift subtracted from the scores, the two running sums over the key tiles, and the block it stores.
-/
module

public import proofs.«01_k».proof.Proof.Gen.KernelIdeal.Loops
public import proofs.«01_k».proof.Proof.Gen.KernelIdeal.Frame
public import Idealize.ShloMosaic.Lib.VecWindow
public import Idealize.ShloMosaic.Lib.WholeRead
public import Idealize.ShloMosaic.Lib.WritesUnit
public import Idealize.ShloMosaic.Lib.ValueIdx
public import Idealize.ShloMosaic.Lib.ValueIdxCoords

@[expose] public section

set_option maxRecDepth 16384

noncomputable section

namespace Cert.KernelIdeal.Flash

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- Tile `k` of the two key (value) tiles a sequence block is read in: rows `2048 k` to `2048 k + 2047`. -/
def tile (x : Vec F S1x4096x128 .bf16) (k : Fin 2) : Vec F S1x2048x128 .bf16 := fun y =>
  x (ix3 0 ⟨2048 * k.val + (y 1).val, by have h1 : (y 1).val < 2048 := (y 1).isLt; have h2 := k.isLt; omega⟩ ⟨(y 2).val, (y 2).isLt⟩)

/-- The first of the two query heads of a block: its columns 0 to 127. -/
def headA {e : EltTy} (x : Vec F S1x1024x256 e) : Vec F S1x1024x128 e := fun y =>
  x (ix3 0 ⟨(y 1).val, (y 1).isLt⟩ ⟨(y 2).val, by have h : (y 2).val < 128 := (y 2).isLt; omega⟩)

/-- The second query head: columns 128 to 255. -/
def headB {e : EltTy} (x : Vec F S1x1024x256 e) : Vec F S1x1024x128 e := fun y =>
  x (ix3 0 ⟨(y 1).val, (y 1).isLt⟩ ⟨128 + (y 2).val, by have h : (y 2).val < 128 := (y 2).isLt; omega⟩)

/-- The largest key norm of the group, as the first point of each group leaves it in scratch. -/
def normV (x1 : Vec F S1x4096x128 .bf16) (x3 : Vec F S1x1x512x128 .f32) : Vec F S1x128 .f32 :=
  k0_pay98 (k0_pay97 (k0_pay97 (k0_pay96 (F := F)) (tile x1 0)) (tile x1 1)) x3

/-- One key tile of the running row maxima, for both heads. -/
def step2 (v4 v9 : FVec F S1024x128 .bf16) (kt : Vec F S1x2048x128 .bf16) (acc : FVec F S1024x128 .f32 × FVec F S1024x128 .f32) : FVec F S1024x128 .f32 × FVec F S1024x128 .f32 :=
  (k0_pay5 v4 acc.1 kt,
    k0_pay107 (k0_pay4 v9 kt) (k0_pay13 v9 kt) (k0_pay14 v9 kt) (k0_pay15 v9 kt) (k0_pay16 v9 kt) (k0_pay17 v9 kt) (k0_pay18 v9 kt) (k0_pay19 v9 kt) (k0_pay20 v9 kt) (k0_pay106 acc.2 (k0_pay6 v9 kt) (k0_pay7 v9 kt) (k0_pay8 v9 kt) (k0_pay9 v9 kt) (k0_pay10 v9 kt) (k0_pay11 v9 kt) (k0_pay12 v9 kt)))

/-- One key tile of the first head's running sum of exponentials, kept per lane. -/
def sumA (v4 : FVec F S1024x128 .bf16) (m0 : FVec F S1024x128 .f32) (kt : Vec F S1x2048x128 .bf16) (l : FVec F S1024x128 .f32) : FVec F S1024x128 .f32 :=
  k0_pay46 m0 l (k0_pay25 v4 kt) (k0_pay26 v4 kt) (k0_pay27 v4 kt) (k0_pay28 v4 kt) (k0_pay29 v4 m0 kt) (k0_pay30 v4 m0 kt) (k0_pay31 v4 m0 kt) (k0_pay32 v4 m0 kt) (k0_pay33 v4 m0 kt) (k0_pay34 v4 m0 kt) (k0_pay35 v4 m0 kt) (k0_pay36 v4 m0 kt) (k0_pay37 v4 m0 kt) (k0_pay38 v4 m0 kt) (k0_pay39 v4 m0 kt) (k0_pay40 v4 m0 kt)

/-- The first head's exponentials over one key tile. -/
def expA (v4 : FVec F S1024x128 .bf16) (m0 : FVec F S1024x128 .f32) (kt : Vec F S1x2048x128 .bf16) : FVec F S1024x2048 .bf16 :=
  k0_pay47 m0 (k0_pay25 v4 kt) (k0_pay26 v4 kt) (k0_pay27 v4 kt) (k0_pay28 v4 kt) (k0_pay29 v4 m0 kt) (k0_pay30 v4 m0 kt) (k0_pay31 v4 m0 kt) (k0_pay32 v4 m0 kt) (k0_pay33 v4 m0 kt) (k0_pay34 v4 m0 kt) (k0_pay35 v4 m0 kt) (k0_pay36 v4 m0 kt) (k0_pay37 v4 m0 kt) (k0_pay38 v4 m0 kt) (k0_pay39 v4 m0 kt) (k0_pay40 v4 m0 kt)

/-- One key tile of the second head's running sum of exponentials. -/
def sumB (v9 : FVec F S1024x128 .bf16) (m1 : FVec F S1024x128 .f32) (kt : Vec F S1x2048x128 .bf16) (l : FVec F S1024x128 .f32) : FVec F S1024x128 .f32 :=
  k0_pay79 m1 l (k0_pay48 (k0_pay24 v9 kt)) (k0_pay49 (k0_pay24 v9 kt)) (k0_pay50 (k0_pay24 v9 kt)) (k0_pay51 (k0_pay24 v9 kt)) (k0_pay52 (k0_pay24 v9 kt)) (k0_pay53 (k0_pay24 v9 kt)) (k0_pay54 (k0_pay24 v9 kt)) (k0_pay55 (k0_pay24 v9 kt)) (k0_pay56 (k0_pay24 v9 kt)) (k0_pay57 (k0_pay24 v9 kt)) (k0_pay58 (k0_pay24 v9 kt)) (k0_pay59 (k0_pay24 v9 kt)) (k0_pay60 (k0_pay24 v9 kt)) (k0_pay61 (k0_pay24 v9 kt)) (k0_pay62 (k0_pay24 v9 kt)) (k0_pay63 m1 (k0_pay24 v9 kt))

/-- The second head's exponentials over one key tile. -/
def expB (v9 : FVec F S1024x128 .bf16) (m1 : FVec F S1024x128 .f32) (kt : Vec F S1x2048x128 .bf16) : FVec F S1024x2048 .bf16 :=
  k0_pay115 (k0_pay77 m1 (k0_pay61 (k0_pay24 v9 kt))) (k0_pay78 m1 (k0_pay62 (k0_pay24 v9 kt))) (k0_pay80 (k0_pay63 m1 (k0_pay24 v9 kt)))
    (k0_pay81 m1 (k0_pay48 (k0_pay24 v9 kt))) (k0_pay82 m1 (k0_pay49 (k0_pay24 v9 kt))) (k0_pay83 m1 (k0_pay50 (k0_pay24 v9 kt))) (k0_pay84 m1 (k0_pay51 (k0_pay24 v9 kt))) (k0_pay85 m1 (k0_pay52 (k0_pay24 v9 kt))) (k0_pay86 m1 (k0_pay53 (k0_pay24 v9 kt))) (k0_pay87 m1 (k0_pay54 (k0_pay24 v9 kt))) (k0_pay88 m1 (k0_pay55 (k0_pay24 v9 kt))) (k0_pay89 m1 (k0_pay56 (k0_pay24 v9 kt))) (k0_pay90 m1 (k0_pay57 (k0_pay24 v9 kt))) (k0_pay91 m1 (k0_pay58 (k0_pay24 v9 kt))) (k0_pay92 m1 (k0_pay59 (k0_pay24 v9 kt))) (k0_pay93 m1 (k0_pay60 (k0_pay24 v9 kt)))

/-- One key tile of the second pass: per head the running sum of exponentials and the running weighted sum of values. -/
def step3 (v4 v9 : FVec F S1024x128 .bf16) (m0 m1 : FVec F S1024x128 .f32) (kt vt : Vec F S1x2048x128 .bf16) (acc : FVec F S1024x128 .f32 × FVec F S1024x128 .f32 × FVec F S1024x128 .f32 × FVec F S1024x128 .f32) : FVec F S1024x128 .f32 × FVec F S1024x128 .f32 × FVec F S1024x128 .f32 × FVec F S1024x128 .f32 :=
  (sumA v4 m0 kt acc.1, k0_pay116 acc.2.1 (k0_pay22 vt) (expA v4 m0 kt),
    sumB v9 m1 kt acc.2.2.1, k0_pay117 acc.2.2.2 (k0_pay22 vt) (expB v9 m1 kt))

/-- The test on the block's score bound that chooses the cheap shift. -/
abbrev testV (v37 cst : F .f32) : Prop :=
  Scalar.cmpi .ne (Scalar.extui (Scalar.cmpf .ole v37 cst) : BitVec 32) 0#32 = 1#1

/-- The shift subtracted from the scores before the exponential, per head: the norm bound where the block's bound is
    small, the row maxima otherwise. -/
def shiftV (v4 v9 : FVec F S1024x128 .bf16) (v22 v32 : FVec F S1024x128 .f32) (v37 cst : F .f32) (x1 : Vec F S1x4096x128 .bf16) (x3 : Vec F S1x1x512x128 .f32) : FVec F S1024x128 .f32 × FVec F S1024x128 .f32 :=
  if testV v37 cst then (k0_pay102 v22, k0_pay103 v32)
  else (k0_pay109 v4 (step2 v4 v9 (tile x1 1) (step2 v4 v9 (tile x1 0) (k0_pay104 (F := F), k0_pay105 (F := F)))).1 x3,
    k0_pay110 v9 (step2 v4 v9 (tile x1 1) (step2 v4 v9 (tile x1 0) (k0_pay104 (F := F), k0_pay105 (F := F)))).2 x3)

/-- The running sums after both key tiles. -/
def accV (v4 v9 : FVec F S1024x128 .bf16) (M : FVec F S1024x128 .f32 × FVec F S1024x128 .f32) (x1 x2 : Vec F S1x4096x128 .bf16) : FVec F S1024x128 .f32 × FVec F S1024x128 .f32 × FVec F S1024x128 .f32 × FVec F S1024x128 .f32 :=
  step3 v4 v9 M.1 M.2 (tile x1 1) (tile x2 1)
    (step3 v4 v9 M.1 M.2 (tile x1 0) (tile x2 0) (k0_pay111 (F := F), k0_pay112 (F := F), k0_pay113 (F := F), k0_pay114 (F := F)))

/-- What a point computes from its query heads, the bound and its test, before the final division. -/
abbrev Mid (F : FTy → Type) : Type := (Σ' (_ : FVec F S1024x128 .f32) (_ : FVec F S1024x128 .f32) (_ : FVec F S1024x128 .f32) (_ : FVec F S1024x128 .f32) (_ : FVec F S512x128 .f32) (_ : FVec F S1024x512 .f32) (_ : FVec F S1024x128 .f32) (_ : FVec F S1024x512 .bf16) (_ : FVec F S1024x128 .f32), FVec F S1024x128 .f32)

def midOf (v4 v9 : FVec F S1024x128 .bf16) (M : FVec F S1024x128 .f32 × FVec F S1024x128 .f32) (acc : FVec F S1024x128 .f32 × FVec F S1024x128 .f32 × FVec F S1024x128 .f32 × FVec F S1024x128 .f32) (x3 x4 : Vec F S1x1x512x128 .f32) : Mid F :=
  ⟨M.2, acc.2.1, acc.2.2.1, acc.2.2.2, k0_pay119 x4, k0_pay121 v9 x3, k0_pay126 v4 M.1 acc.1 x3, k0_pay127 v4 M.1 x3, k0_pay128 v9 x3, k0_pay129 v9 x3⟩

/-- The first head's output rows. -/
def outA (q : Vec F S1x1024x128 .f32) (M : FVec F S1024x128 .f32 × FVec F S1024x128 .f32) (acc : FVec F S1024x128 .f32 × FVec F S1024x128 .f32 × FVec F S1024x128 .f32 × FVec F S1024x128 .f32) (x3 x4 : Vec F S1x1x512x128 .f32) : FVec F S1x1024x128 .bf16 :=
  k0_pay1 acc.2.1 (k0_pay119 x4) (k0_pay126 (k0_pay94 q) M.1 acc.1 x3) (k0_pay127 (k0_pay94 q) M.1 x3)

/-- The second head's output rows. -/
def outB (q : Vec F S1x1024x128 .f32) (M : FVec F S1024x128 .f32 × FVec F S1024x128 .f32) (acc : FVec F S1024x128 .f32 × FVec F S1024x128 .f32 × FVec F S1024x128 .f32 × FVec F S1024x128 .f32) (x3 x4 : Vec F S1x1x512x128 .f32) : FVec F S1x1024x128 .bf16 :=
  k0_pay2 M.2 acc.2.2.1 acc.2.2.2 (k0_pay119 x4) (k0_pay121 (k0_pay95 q) x3) (k0_pay128 (k0_pay95 q) x3) (k0_pay129 (k0_pay95 q) x3)

/-- The shift of a point from its blocks and the bound in scratch. -/
def shiftOf (x0 : Vec F S1x1024x256 .f32) (x1 : Vec F S1x4096x128 .bf16) (x3 : Vec F S1x1x512x128 .f32) (kn : Vec F S1x128 .f32) : FVec F S1024x128 .f32 × FVec F S1024x128 .f32 :=
  shiftV (k0_pay94 (headA x0)) (k0_pay95 (headB x0)) (k0_pay99 (headA x0) kn) (k0_pay100 (headB x0) kn)
    (k0_pay101 (headA x0) (headB x0) kn kn) (Scalar.ofBits .f32 0x42700000#32) x1 x3

/-- The running sums of a point. -/
def accOf (x0 : Vec F S1x1024x256 .f32) (x1 x2 : Vec F S1x4096x128 .bf16) (M : FVec F S1024x128 .f32 × FVec F S1024x128 .f32) : FVec F S1024x128 .f32 × FVec F S1024x128 .f32 × FVec F S1024x128 .f32 × FVec F S1024x128 .f32 :=
  accV (k0_pay94 (headA x0)) (k0_pay95 (headB x0)) M x1 x2

/-- Two heads side by side. -/
def beside (a b : FVec F S1x1024x128 .bf16) : FVec F S1x1024x256 .bf16 := fun y =>
  if h : (y 2).val < 128 then a (ix3 0 ⟨(y 1).val, (y 1).isLt⟩ ⟨(y 2).val, h⟩)
  else b (ix3 0 ⟨(y 1).val, (y 1).isLt⟩ ⟨(y 2).val - 128, by have h2 : (y 2).val < 256 := (y 2).isLt; omega⟩)

/-- The block a point stores. -/
def outV (x0 : Vec F S1x1024x256 .f32) (x1 x2 : Vec F S1x4096x128 .bf16) (x3 x4 : Vec F S1x1x512x128 .f32) (kn : Vec F S1x128 .f32) : FVec F S1x1024x256 .bf16 :=
  beside (outA (headA x0) (shiftOf x0 x1 x3 kn) (accOf x0 x1 x2 (shiftOf x0 x1 x3 kn)) x3 x4)
    (outB (headB x0) (shiftOf x0 x1 x3 kn) (accOf x0 x1 x2 (shiftOf x0 x1 x3 kn)) x3 x4)

end Cert.KernelIdeal.Flash

end
-- ==== Proof.Flash.Softmax.lean ====
/-
  The identity behind streaming attention, over the extended reals: with real scores, a weighted sum of exponentials to
  base two, shifted by any real number and divided once by their sum, is the weighted sum by the softmax weights.
  The values that are weighted may be infinite.
-/
module

public import Idealize.ShloMosaic.PureOps.Ideal
public import Idealize.ShloMosaic.PureOps.Ideal.Laws

@[expose] public section

noncomputable section

namespace Cert.Softmax

open Idealize.ShloMosaic

/-- A real factor that is not negative distributes over any sum of extended reals. -/
theorem sum_mul_real {ι : Type} (S : Finset ι) (f : ι → EReal) (c : ℝ) (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha, mul_comm,
      EReal.left_distrib_of_nonneg_of_ne_top (by exact_mod_cast hc) (EReal.coe_ne_top c), mul_comm _ (f a), mul_comm _ (∑ k ∈ S, f k), ih]

/-- A sum of reals is the real sum. -/
theorem coe_sum {ι : Type} (S : Finset ι) (f : ι → ℝ) : (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- Softmax weights do not depend on the shift, nor on the base of the exponential. -/
theorem weights {ι : Type} [Fintype ι] [Nonempty ι] (s s' : ι → ℝ) (V : ι → EReal) (μ m : ℝ)
    (hs : ∀ k, s' k * Real.log 2 = s k) :
    Ideal.div (∑ k, Ideal.exp2 ((s' k : EReal) - (μ : EReal)) * V k) (∑ k, Ideal.exp2 ((s' k : EReal) - (μ : EReal)))
      = ∑ k, V k * Ideal.div (Ideal.exp ((s k : EReal) - (m : EReal))) (∑ k, Ideal.exp ((s k : EReal) - (m : EReal))) := by
  have ht : 0 < Real.exp (m - μ * Real.log 2) := Real.exp_pos _
  have h2 : ∀ k, Ideal.exp2 ((s' k : EReal) - (μ : EReal))
      = ((Real.exp (s k - m) * Real.exp (m - μ * Real.log 2) : ℝ) : EReal) := fun k => by
    rw [← EReal.coe_sub, Ideal.exp2_coe, Real.rpow_eq_pow, Real.rpow_def_of_pos (by norm_num), ← Real.exp_add, ← hs k]
    congr 2; ring
  have h1 : ∀ k, Ideal.exp ((s k : EReal) - (m : EReal)) = ((Real.exp (s k - m) : ℝ) : EReal) := fun k => by
    rw [← EReal.coe_sub, Ideal.exp_coe]
  have hL : 0 < ∑ k, Real.exp (s k - m) := Finset.sum_pos (fun k _ => Real.exp_pos _) Finset.univ_nonempty
  simp only [h1, h2]
  rw [coe_sum, coe_sum, ← Finset.sum_mul, Ideal.div_coe (mul_pos hL ht).ne', sum_mul_real _ _ _ (by positivity)]
  refine Finset.sum_congr rfl fun k _ => ?_
  rw [Ideal.div_coe hL.ne', mul_comm _ (V k), mul_assoc, ← EReal.coe_mul, ← EReal.coe_mul]
  congr 2
  field_simp

/-- The largest of finitely many reals, as the maximum is folded over the extended reals, is a real. -/
theorem fold_max_real {ι : Type} [Fintype ι] [Nonempty ι] (s : ι → ℝ) (a : EReal) (ha : a ≠ ⊤) :
    ∃ m : ℝ, Finset.univ.fold max a (fun k => (s k : EReal)) = (m : EReal) := by
  obtain ⟨k₀⟩ := (inferInstance : Nonempty ι)
  have hlt : Finset.univ.fold max a (fun k => (s k : EReal)) ≠ ⊤ := by
    have h : Finset.univ.fold max a (fun k => (s k : EReal)) < ⊤ :=
      (Finset.fold_max_lt _).2 ⟨lt_top_iff_ne_top.2 ha, fun k _ => EReal.coe_lt_top _⟩
    exact h.ne
  have hgt : Finset.univ.fold max a (fun k => (s k : EReal)) ≠ ⊥ := by
    have h : (s k₀ : EReal) ≤ Finset.univ.fold max a (fun k => (s k : EReal)) :=
      (Finset.le_fold_max _).2 (.inr ⟨k₀, Finset.mem_univ _, le_rfl⟩)
    exact fun e => absurd (e ▸ h) (by simp)
  exact ⟨_, (EReal.coe_toReal hlt hgt).symm⟩

end Cert.Softmax

end
-- ==== Proof.Flash.Reads.lean ====
/-
  The stages of a grid point read at an index over the extended reals: the scores of a tile as sums over the head
  dimension, the exponentials of a tile, and the two running sums. The shift is taken as a function of the row alone.
-/
module

public import proofs.«01_k».proof.Proof.Flash.Steps
public import proofs.«01_k».proof.Proof.Flash.Softmax
public import Idealize.ShloMosaic.Lib.Pointwise
public import Idealize.ShloMosaic.Lib.Pointwise.IndexBridge

@[expose] public section

set_option maxRecDepth 16384

noncomputable section

namespace Cert.KernelIdeal.Flash

open Idealize.ShloMosaic Idealize.ShloMosaic.TcCoe
open Cert.KernelIdeal.Gen

/-- Scores of the query rows against a key tile: sums over the head dimension. -/
def scoreK (v : FVec Ideal S1024x128 .bf16) (kt : Vec Ideal S1x2048x128 .bf16) (i : Fin 1024) (n : Fin 2048) : EReal :=
  ∑ d : Fin 128, v (ix2 i d) * kt (ix3 0 n d)

/-- Scores of the query rows against the cached keys. -/
def scoreC (v : FVec Ideal S1024x128 .bf16) (x3 : Vec Ideal S1x1x512x128 .f32) (i : Fin 1024) (n : Fin 512) : EReal :=
  ∑ d : Fin 128, v (ix2 i d) * x3 (ix4 0 0 n d)

theorem pay23_apply (v : FVec Ideal S1024x128 .bf16) (kt : Vec Ideal S1x2048x128 .bf16) (i : Fin 1024) (n : Fin 2048) :
    k0_pay23 v kt (ix2 i n) = scoreK v kt i n := by
  unfold scoreK
  pointwise [k0_pay23, k0_pay21]

theorem pay24_apply (v : FVec Ideal S1024x128 .bf16) (kt : Vec Ideal S1x2048x128 .bf16) (i : Fin 1024) (n : Fin 2048) :
    k0_pay24 v kt (ix2 i n) = scoreK v kt i n := by
  unfold scoreK
  pointwise [k0_pay24, k0_pay21]

theorem pay4_apply (v : FVec Ideal S1024x128 .bf16) (kt : Vec Ideal S1x2048x128 .bf16) (i : Fin 1024) (n : Fin 2048) :
    k0_pay4 v kt (ix2 i n) = scoreK v kt i n := by
  unfold scoreK
  pointwise [k0_pay4, k0_pay3]

theorem pay120_apply (v : FVec Ideal S1024x128 .bf16) (x3 : Vec Ideal S1x1x512x128 .f32) (i : Fin 1024) (n : Fin 512) :
    k0_pay120 v x3 (ix2 i n) = scoreC v x3 i n := by
  unfold scoreC
  pointwise [k0_pay120, k0_pay118]

theorem pay121_apply (v : FVec Ideal S1024x128 .bf16) (x3 : Vec Ideal S1x1x512x128 .f32) (i : Fin 1024) (n : Fin 512) :
    k0_pay121 v x3 (ix2 i n) = scoreC v x3 i n := by
  unfold scoreC
  pointwise [k0_pay121, k0_pay118]

theorem sum16 (f : Fin 16 → EReal) : ∑ w, f w = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

theorem sum4 (f : Fin 4 → EReal) : ∑ w, f w = f 0 + f 1 + f 2 + f 3 := by
  simp only [Fin.sum_univ_castSucc, Finset.univ_eq_empty, Finset.sum_empty, zero_add]
  rfl

/-- Summing the sixteen slices lane by lane and then the lanes is summing the tile. -/
theorem lanes16 (f : Fin 2048 → EReal) :
    ∑ c : Fin 128, ∑ w : Fin 16, f ⟨w.val * 128 + c.val, by have := c.isLt; have := w.isLt; omega⟩ = ∑ n, f n := by
  rw [Finset.sum_comm, Fin.sum_univ_tiles 16 128 rfl f]

theorem lanes4 (f : Fin 512 → EReal) :
    ∑ c : Fin 128, ∑ w : Fin 4, f ⟨w.val * 128 + c.val, by have := c.isLt; have := w.isLt; omega⟩ = ∑ n, f n := by
  rw [Finset.sum_comm, Fin.sum_univ_tiles 4 128 rfl f]

/-- 16 pieces of 128 lanes side by side, each known at every place, read at any place. -/
theorem beside16 (p0 p1 p2 p3 p4 p5 p6 p7 p8 p9 p10 p11 p12 p13 p14 p15 : FVec Ideal S1024x128 .bf16) (h) (g : Fin 1024 → Fin 2048 → EReal)
    (h0 : ∀ i (c : Fin 128), p0 (ix2 i c) = g i ⟨0 + c.val, by have := c.isLt; omega⟩)
    (h1 : ∀ i (c : Fin 128), p1 (ix2 i c) = g i ⟨128 + c.val, by have := c.isLt; omega⟩)
    (h2 : ∀ i (c : Fin 128), p2 (ix2 i c) = g i ⟨256 + c.val, by have := c.isLt; omega⟩)
    (h3 : ∀ i (c : Fin 128), p3 (ix2 i c) = g i ⟨384 + c.val, by have := c.isLt; omega⟩)
    (h4 : ∀ i (c : Fin 128), p4 (ix2 i c) = g i ⟨512 + c.val, by have := c.isLt; omega⟩)
    (h5 : ∀ i (c : Fin 128), p5 (ix2 i c) = g i ⟨640 + c.val, by have := c.isLt; omega⟩)
    (h6 : ∀ i (c : Fin 128), p6 (ix2 i c) = g i ⟨768 + c.val, by have := c.isLt; omega⟩)
    (h7 : ∀ i (c : Fin 128), p7 (ix2 i c) = g i ⟨896 + c.val, by have := c.isLt; omega⟩)
    (h8 : ∀ i (c : Fin 128), p8 (ix2 i c) = g i ⟨1024 + c.val, by have := c.isLt; omega⟩)
    (h9 : ∀ i (c : Fin 128), p9 (ix2 i c) = g i ⟨1152 + c.val, by have := c.isLt; omega⟩)
    (h10 : ∀ i (c : Fin 128), p10 (ix2 i c) = g i ⟨1280 + c.val, by have := c.isLt; omega⟩)
    (h11 : ∀ i (c : Fin 128), p11 (ix2 i c) = g i ⟨1408 + c.val, by have := c.isLt; omega⟩)
    (h12 : ∀ i (c : Fin 128), p12 (ix2 i c) = g i ⟨1536 + c.val, by have := c.isLt; omega⟩)
    (h13 : ∀ i (c : Fin 128), p13 (ix2 i c) = g i ⟨1664 + c.val, by have := c.isLt; omega⟩)
    (h14 : ∀ i (c : Fin 128), p14 (ix2 i c) = g i ⟨1792 + c.val, by have := c.isLt; omega⟩)
    (h15 : ∀ i (c : Fin 128), p15 (ix2 i c) = g i ⟨1920 + c.val, by have := c.isLt; omega⟩) (i : Fin 1024) (n : Fin 2048) :
    concatenate S1024x2048 1 [⟨S1024x128, p0⟩, ⟨S1024x128, p1⟩, ⟨S1024x128, p2⟩, ⟨S1024x128, p3⟩, ⟨S1024x128, p4⟩, ⟨S1024x128, p5⟩, ⟨S1024x128, p6⟩, ⟨S1024x128, p7⟩, ⟨S1024x128, p8⟩, ⟨S1024x128, p9⟩, ⟨S1024x128, p10⟩, ⟨S1024x128, p11⟩, ⟨S1024x128, p12⟩, ⟨S1024x128, p13⟩, ⟨S1024x128, p14⟩, ⟨S1024x128, p15⟩] h (ix2 i n) = g i n := by
  have hp : ∀ (w : Fin 16) (c : Fin 128), (![p0, p1, p2, p3, p4, p5, p6, p7, p8, p9, p10, p11, p12, p13, p14, p15] : Fin 16 → FVec Ideal S1024x128 .bf16) w (ix2 i c)
      = g i ⟨w.val * 128 + c.val, by have := c.isLt; have := w.isLt; omega⟩ := fun w c => by
    match w with
    | ⟨0, _⟩ => exact h0 i c
    | ⟨1, _⟩ => exact h1 i c
    | ⟨2, _⟩ => exact h2 i c
    | ⟨3, _⟩ => exact h3 i c
    | ⟨4, _⟩ => exact h4 i c
    | ⟨5, _⟩ => exact h5 i c
    | ⟨6, _⟩ => exact h6 i c
    | ⟨7, _⟩ => exact h7 i c
    | ⟨8, _⟩ => exact h8 i c
    | ⟨9, _⟩ => exact h9 i c
    | ⟨10, _⟩ => exact h10 i c
    | ⟨11, _⟩ => exact h11 i c
    | ⟨12, _⟩ => exact h12 i c
    | ⟨13, _⟩ => exact h13 i c
    | ⟨14, _⟩ => exact h14 i c
    | ⟨15, _⟩ => exact h15 i c
    | ⟨n + 16, hh⟩ => exact absurd hh (by omega)
  have hn := n.isLt
  refine (concatenate_ofFn_apply (s₁ := S1024x128) (t := S1024x2048) 1 (![p0, p1, p2, p3, p4, p5, p6, p7, p8, p9, p10, p11, p12, p13, p14, p15] : Fin 16 → FVec Ideal S1024x128 .bf16) h rfl 128 rfl (ix2 i n)
    ⟨n.val / 128, by omega⟩ rfl (ix2 i ⟨n.val % 128, by omega⟩) rfl ?_).trans ?_
  · intro b hb
    match b, hb with
    | ⟨0, _⟩, _ => rfl
    | ⟨1, _⟩, hb => exact absurd rfl hb
  · rw [hp]
    exact congrArg (g i) (Fin.ext (by show n.val / 128 * 128 + n.val % 128 = n.val; omega))

/-- 4 pieces of 128 lanes side by side, each known at every place, read at any place. -/
theorem beside4 (p0 p1 p2 p3 : FVec Ideal S1024x128 .bf16) (h) (g : Fin 1024 → Fin 512 → EReal)
    (h0 : ∀ i (c : Fin 128), p0 (ix2 i c) = g i ⟨0 + c.val, by have := c.isLt; omega⟩)
    (h1 : ∀ i (c : Fin 128), p1 (ix2 i c) = g i ⟨128 + c.val, by have := c.isLt; omega⟩)
    (h2 : ∀ i (c : Fin 128), p2 (ix2 i c) = g i ⟨256 + c.val, by have := c.isLt; omega⟩)
    (h3 : ∀ i (c : Fin 128), p3 (ix2 i c) = g i ⟨384 + c.val, by have := c.isLt; omega⟩) (i : Fin 1024) (n : Fin 512) :
    concatenate S1024x512 1 [⟨S1024x128, p0⟩, ⟨S1024x128, p1⟩, ⟨S1024x128, p2⟩, ⟨S1024x128, p3⟩] h (ix2 i n) = g i n := by
  have hp : ∀ (w : Fin 4) (c : Fin 128), (![p0, p1, p2, p3] : Fin 4 → FVec Ideal S1024x128 .bf16) w (ix2 i c)
      = g i ⟨w.val * 128 + c.val, by have := c.isLt; have := w.isLt; omega⟩ := fun w c => by
    match w with
    | ⟨0, _⟩ => exact h0 i c
    | ⟨1, _⟩ => exact h1 i c
    | ⟨2, _⟩ => exact h2 i c
    | ⟨3, _⟩ => exact h3 i c
    | ⟨n + 4, hh⟩ => exact absurd hh (by omega)
  have hn := n.isLt
  refine (concatenate_ofFn_apply (s₁ := S1024x128) (t := S1024x512) 1 (![p0, p1, p2, p3] : Fin 4 → FVec Ideal S1024x128 .bf16) h rfl 128 rfl (ix2 i n)
    ⟨n.val / 128, by omega⟩ rfl (ix2 i ⟨n.val % 128, by omega⟩) rfl ?_).trans ?_
  · intro b hb
    match b, hb with
    | ⟨0, _⟩, _ => rfl
    | ⟨1, _⟩, hb => exact absurd rfl hb
  · rw [hp]
    exact congrArg (g i) (Fin.ext (by show n.val / 128 * 128 + n.val % 128 = n.val; omega))

/-- The exponential of a tile's score, shifted. -/
def expo (s μ : EReal) : EReal := Ideal.exp2 (s - μ)

section Tile

variable (v : FVec Ideal S1024x128 .bf16) (m l : FVec Ideal S1024x128 .f32) (kt : Vec Ideal S1x2048x128 .bf16)
  (μ : Fin 1024 → EReal) (hm : ∀ i c, m (ix2 i c) = μ i)
include hm

theorem sumA_apply (i : Fin 1024) (c : Fin 128) :
    sumA v m kt l (ix2 i c) = l (ix2 i c) + ∑ w : Fin 16, expo (scoreK v kt i ⟨w.val * 128 + c.val, by have := c.isLt; have := w.isLt; omega⟩) (μ i) := by
  rw [sum16]
  unfold sumA
  pointwise [k0_pay46, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
  simp only [pay23_apply, hm, add_assoc]
  rfl

theorem sumB_apply (i : Fin 1024) (c : Fin 128) :
    sumB v m kt l (ix2 i c) = l (ix2 i c) + ∑ w : Fin 16, expo (scoreK v kt i ⟨w.val * 128 + c.val, by have := c.isLt; have := w.isLt; omega⟩) (μ i) := by
  rw [sum16]
  unfold sumB
  pointwise [k0_pay79, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
  simp only [pay24_apply, hm, add_assoc]
  rfl

theorem expA_apply (i : Fin 1024) (n : Fin 2048) : expA v m kt (ix2 i n) = expo (scoreK v kt i n) (μ i) := by
  unfold expA k0_pay47
  refine beside16 _ _ _ _ _ _ _ _ _ _ _ _ _ _ _ _ _ (fun i n => expo (scoreK v kt i n) (μ i)) ?_ ?_ ?_ ?_ ?_ ?_ ?_ ?_ ?_ ?_ ?_ ?_ ?_ ?_ ?_ ?_ i n
  all_goals
    intro i c
    pointwise [k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45]
    simp only [pay23_apply, hm]
    rfl

theorem expB_apply (i : Fin 1024) (n : Fin 2048) : expB v m kt (ix2 i n) = expo (scoreK v kt i n) (μ i) := by
  unfold expB k0_pay115
  refine beside16 _ _ _ _ _ _ _ _ _ _ _ _ _ _ _ _ _ (fun i n => expo (scoreK v kt i n) (μ i)) ?_ ?_ ?_ ?_ ?_ ?_ ?_ ?_ ?_ ?_ ?_ ?_ ?_ ?_ ?_ ?_ i n
  all_goals
    intro i c
    pointwise [k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay80, k0_pay81, k0_pay82, k0_pay83, k0_pay84, k0_pay85, k0_pay86, k0_pay87, k0_pay88, k0_pay89, k0_pay90, k0_pay91, k0_pay92, k0_pay93]
    simp only [pay24_apply, hm]
    rfl

end Tile

end Cert.KernelIdeal.Flash

end
-- ==== Proof.Flash.Shift.lean ====
/-
  The shift of a row is a real number, the same for every lane, when the queries and the keys are finite: the norm bound
  less a constant where the block's bound is small, and the row maximum otherwise.
-/
module

public import proofs.«01_k».proof.Proof.Flash.Reads

@[expose] public section

set_option maxRecDepth 16384

noncomputable section

namespace Cert.KernelIdeal.Flash

open Idealize.ShloMosaic Idealize.ShloMosaic.TcCoe
open Cert.KernelIdeal.Gen

/-- An extended real that is a real number. -/
def Fin1 (x : EReal) : Prop := ∃ r : ℝ, x = (r : EReal)

theorem Fin1.add {x y : EReal} : Fin1 x → Fin1 y → Fin1 (x + y) := fun ⟨a, ha⟩ ⟨b, hb⟩ => ⟨a + b, by rw [ha, hb, EReal.coe_add]⟩
theorem Fin1.sub {x y : EReal} : Fin1 x → Fin1 y → Fin1 (x - y) := fun ⟨a, ha⟩ ⟨b, hb⟩ => ⟨a - b, by rw [ha, hb, EReal.coe_sub]⟩
theorem Fin1.mul {x y : EReal} : Fin1 x → Fin1 y → Fin1 (x * y) := fun ⟨a, ha⟩ ⟨b, hb⟩ => ⟨a * b, by rw [ha, hb, EReal.coe_mul]⟩
theorem Fin1.max {x y : EReal} (hx : Fin1 x) (hy : Fin1 y) : Fin1 (max x y) := by
  rcases max_choice x y with h | h <;> rw [h] <;> assumption
theorem Fin1.sum {ι : Type} (S : Finset ι) (f : ι → EReal) (hf : ∀ k, Fin1 (f k)) : Fin1 (∑ k ∈ S, f k) := by
  choose r hr using hf
  exact ⟨_, by simp only [hr]; exact Cert.Softmax.coe_sum S r⟩
theorem Fin1.fold {ι : Type} [Fintype ι] [Nonempty ι] (f : ι → EReal) (hf : ∀ k, Fin1 (f k)) : Fin1 (Finset.univ.fold Max.max ⊥ f) := by
  choose r hr using hf
  obtain ⟨m, hm⟩ := Cert.Softmax.fold_max_real r ⊥ bot_ne_top
  exact ⟨m, by rw [← hm, show f = fun k => (r k : EReal) from funext hr]⟩
theorem Fin1.sqrt {x : EReal} : Fin1 x → 0 ≤ x → Fin1 (Ideal.sqrt x) := fun ⟨a, ha⟩ h => by
  subst ha
  exact ⟨Real.sqrt a, by rw [Ideal.sqrt_coe, if_neg (not_lt.2 (by exact_mod_cast h))]⟩
theorem sq_nonneg' {x : EReal} : Fin1 x → 0 ≤ x * x := fun ⟨a, ha⟩ => by
  subst ha; rw [← EReal.coe_mul]; exact_mod_cast mul_self_nonneg a

theorem bot_word : Ideal.ofBits .f32 0xFF800000#32 = ⊥ := by simp [Ideal.ofBits, Ideal.ieee]
theorem word64 : Fin1 (Ideal.ofBits .f32 0x42800000#32) := ⟨_, by simp [Ideal.ofBits, Ideal.ieee, -EReal.coe_mul]; rfl⟩
theorem wordNeg : Fin1 (Ideal.ofBits .f32 0xF149F2CA#32) := ⟨_, by simp [Ideal.ofBits, Ideal.ieee, -EReal.coe_mul]; rfl⟩

/-- The exact scale of the scores: one over the root of the head dimension, in units of the logarithm of two. -/
def scale : ℝ := (Real.sqrt 128 * Real.log 2)⁻¹

theorem named_scale (b : BitVec 32) : (Named.named κ "qk_scale_log2" (φ := .f32) b : Ideal .f32) = ((scale : ℝ) : EReal) := by
  simp [Named.named, κ, scale]

theorem pay94_apply (q : Vec Ideal S1x1024x128 .f32) (i : Fin 1024) (d : Fin 128) :
    k0_pay94 q (ix2 i d) = q (ix3 0 i d) * ((scale : ℝ) : EReal) := by
  pointwise [k0_pay94]
  rw [named_scale]

theorem pay95_apply (q : Vec Ideal S1x1024x128 .f32) (i : Fin 1024) (d : Fin 128) :
    k0_pay95 q (ix2 i d) = q (ix3 0 i d) * ((scale : ℝ) : EReal) := by
  pointwise [k0_pay95]
  rw [named_scale]

theorem tile_apply (x : Vec Ideal S1x4096x128 .bf16) (k : Fin 2) (n : Fin 2048) (d : Fin 128) :
    tile x k (ix3 0 n d) = x (ix3 0 ⟨2048 * k.val + n.val, by have := k.isLt; have := n.isLt; omega⟩ d) := rfl
theorem headA_apply (x : Vec Ideal S1x1024x256 .f32) (i : Fin 1024) (d : Fin 128) :
    headA x (ix3 0 i d) = x (ix3 0 i ⟨d.val, by have := d.isLt; omega⟩) := rfl
theorem headB_apply (x : Vec Ideal S1x1024x256 .f32) (i : Fin 1024) (d : Fin 128) :
    headB x (ix3 0 i d) = x (ix3 0 i ⟨128 + d.val, by have := d.isLt; omega⟩) := rfl

section Bound

variable (x1 : Vec Ideal S1x4096x128 .bf16) (x3 : Vec Ideal S1x1x512x128 .f32)
  (h1 : ∀ n d, Fin1 (x1 (ix3 0 n d))) (h3 : ∀ n d, Fin1 (x3 (ix4 0 0 n d)))

theorem pay97_apply (a : FVec Ideal S1x128 .f32) (kt : Vec Ideal S1x2048x128 .bf16) (c : Fin 128) :
    k0_pay97 a kt (ix2 0 c) = max (a (ix2 0 c)) (Finset.univ.fold max ⊥ fun n : Fin 2048 => ∑ d : Fin 128, kt (ix3 0 n d) * kt (ix3 0 n d)) := by
  rw [← bot_word]
  pointwise [k0_pay97]

theorem pay98_apply (a : FVec Ideal S1x128 .f32) (c : Fin 128) :
    k0_pay98 a x3 (ix2 0 c) = Ideal.sqrt (max (a (ix2 0 c)) (Finset.univ.fold max ⊥ fun n : Fin 512 => ∑ d : Fin 128, x3 (ix4 0 0 n d) * x3 (ix4 0 0 n d))) := by
  rw [← bot_word]
  pointwise [k0_pay98]

include h1 h3 in
/-- The key norm bound is one real number on every lane. -/
theorem norm_real : ∃ r : ℝ, ∀ c, normV x1 x3 (ix2 0 c) = (r : EReal) := by
  have h0 : ∀ c, k0_pay96 (F := Ideal) (ix2 0 c) = 0 := fun c => by pointwise [k0_pay96]
  have e : ∀ c, normV x1 x3 (ix2 0 c) = normV x1 x3 (ix2 0 0) := fun c => by
    unfold normV
    rw [pay98_apply, pay97_apply, pay97_apply, h0, pay98_apply, pay97_apply, pay97_apply, h0]
  have hf : Fin1 (normV x1 x3 (ix2 0 0)) := by
    unfold normV
    rw [pay98_apply, pay97_apply, pay97_apply, h0]
    refine Fin1.sqrt (.max (.max (.max ⟨0, rfl⟩ ?_) ?_) ?_) (le_max_of_le_left (le_max_of_le_left (le_max_left _ _)))
    · exact .fold _ fun n => .sum _ _ fun d => .mul (by rw [tile_apply]; exact h1 _ _) (by rw [tile_apply]; exact h1 _ _)
    · exact .fold _ fun n => .sum _ _ fun d => .mul (by rw [tile_apply]; exact h1 _ _) (by rw [tile_apply]; exact h1 _ _)
    · exact .fold _ fun n => .sum _ _ fun d => .mul (h3 _ _) (h3 _ _)
  obtain ⟨r, hr⟩ := hf
  exact ⟨r, fun c => by rw [e, hr]⟩

end Bound

section Shift

variable (v4 v9 : FVec Ideal S1024x128 .bf16) (x1 : Vec Ideal S1x4096x128 .bf16) (x3 : Vec Ideal S1x1x512x128 .f32)
  (h4 : ∀ i d, Fin1 (v4 (ix2 i d))) (h9 : ∀ i d, Fin1 (v9 (ix2 i d)))
  (h1 : ∀ n d, Fin1 (x1 (ix3 0 n d))) (h3 : ∀ n d, Fin1 (x3 (ix4 0 0 n d)))

include h4 in
theorem scoreK_real (kt : Vec Ideal S1x2048x128 .bf16) (hk : ∀ n d, Fin1 (kt (ix3 0 n d))) (i : Fin 1024) (n : Fin 2048) : Fin1 (scoreK v4 kt i n) :=
  .sum _ _ fun _ => .mul (h4 _ _) (hk _ _)

include h4 h3 in
theorem scoreC_real (i : Fin 1024) (n : Fin 512) : Fin1 (scoreC v4 x3 i n) := .sum _ _ fun _ => .mul (h4 _ _) (h3 _ _)

theorem pay109_apply (v : FVec Ideal S1024x128 .bf16) (a : FVec Ideal S1024x128 .f32) (i : Fin 1024) (c : Fin 128) :
    k0_pay109 v a x3 (ix2 i c) = Finset.univ.fold max ⊥ fun x : Fin 128 =>
      max (max (max (max (a (ix2 i x)) (scoreC v x3 i ⟨x.val, by omega⟩)) (scoreC v x3 i ⟨128 + x.val, by omega⟩))
        (scoreC v x3 i ⟨256 + x.val, by omega⟩)) (scoreC v x3 i ⟨384 + x.val, by omega⟩) := by
  rw [← bot_word]
  unfold scoreC
  pointwise [k0_pay109, k0_pay108]

theorem pay110_apply (v : FVec Ideal S1024x128 .bf16) (a : FVec Ideal S1024x128 .f32) (i : Fin 1024) (c : Fin 128) :
    k0_pay110 v a x3 (ix2 i c) = Finset.univ.fold max ⊥ fun x : Fin 128 =>
      max (max (max (max (a (ix2 i x)) (scoreC v x3 i ⟨x.val, by omega⟩)) (scoreC v x3 i ⟨128 + x.val, by omega⟩))
        (scoreC v x3 i ⟨256 + x.val, by omega⟩)) (scoreC v x3 i ⟨384 + x.val, by omega⟩) := by
  rw [← bot_word]
  unfold scoreC
  pointwise [k0_pay110, k0_pay108]

include h4 h3 in
/-- The row maximum over all keys, from the running maxima of the tiles: one real number on every lane. -/
theorem rowmaxA_real (a : FVec Ideal S1024x128 .f32) (ha : ∀ i c, Fin1 (a (ix2 i c))) (i : Fin 1024) :
    ∃ r : ℝ, ∀ c, k0_pay109 v4 a x3 (ix2 i c) = (r : EReal) := by
  have hc := scoreC_real v4 x3 h4 h3 i
  simp only [pay109_apply]
  obtain ⟨r, hr⟩ := Fin1.fold _ fun x : Fin 128 => (((((ha i x).max (hc ⟨x.val, by omega⟩)).max (hc ⟨128 + x.val, by omega⟩)).max (hc ⟨256 + x.val, by omega⟩)).max (hc ⟨384 + x.val, by omega⟩))
  exact ⟨r, fun _ => hr⟩

include h9 h3 in
theorem rowmaxB_real (a : FVec Ideal S1024x128 .f32) (ha : ∀ i c, Fin1 (a (ix2 i c))) (i : Fin 1024) :
    ∃ r : ℝ, ∀ c, k0_pay110 v9 a x3 (ix2 i c) = (r : EReal) := by
  have hc := scoreC_real v9 x3 h9 h3 i
  simp only [pay110_apply]
  obtain ⟨r, hr⟩ := Fin1.fold _ fun x : Fin 128 => (((((ha i x).max (hc ⟨x.val, by omega⟩)).max (hc ⟨128 + x.val, by omega⟩)).max (hc ⟨256 + x.val, by omega⟩)).max (hc ⟨384 + x.val, by omega⟩))
  exact ⟨r, fun _ => hr⟩

include h4 h9 in
/-- One tile of the running row maxima keeps them real. -/
theorem step2_real (kt : Vec Ideal S1x2048x128 .bf16) (hk : ∀ n d, Fin1 (kt (ix3 0 n d)))
    (acc : FVec Ideal S1024x128 .f32 × FVec Ideal S1024x128 .f32) (ha : ∀ i c, Fin1 (acc.1 (ix2 i c))) (hb : ∀ i c, Fin1 (acc.2 (ix2 i c))) :
    (∀ i c, Fin1 ((step2 v4 v9 kt acc).1 (ix2 i c))) ∧ ∀ i c, Fin1 ((step2 v4 v9 kt acc).2 (ix2 i c)) := by
  constructor
  · intro i c
    unfold step2
    pointwise [k0_pay5, k0_pay3]
    iterate 16 refine Fin1.max ?_ (.sum _ _ fun _ => .mul (h4 _ _) (hk _ _))
    exact ha i c
  · intro i c
    unfold step2
    pointwise [k0_pay107, k0_pay106, k0_pay6, k0_pay7, k0_pay8, k0_pay9, k0_pay10, k0_pay11, k0_pay12, k0_pay13, k0_pay14, k0_pay15, k0_pay16, k0_pay17, k0_pay18, k0_pay19, k0_pay20]
    simp only [pay4_apply]
    iterate 16 refine Fin1.max ?_ (scoreK_real v9 h9 kt hk _ _)
    exact hb i c

include h4 h9 h1 h3 in
/-- The shift of a row: one real number on every lane, for either head and whichever branch is taken. -/
theorem shift_real (v22 v32 : FVec Ideal S1024x128 .f32) (v37 cst : Ideal .f32)
    (h22 : ∀ i, ∃ r : ℝ, ∀ c, v22 (ix2 i c) = (r : EReal)) (h32 : ∀ i, ∃ r : ℝ, ∀ c, v32 (ix2 i c) = (r : EReal)) :
    (∀ i, ∃ r : ℝ, ∀ c, (shiftV v4 v9 v22 v32 v37 cst x1 x3).1 (ix2 i c) = (r : EReal))
      ∧ ∀ i, ∃ r : ℝ, ∀ c, (shiftV v4 v9 v22 v32 v37 cst x1 x3).2 (ix2 i c) = (r : EReal) := by
  unfold shiftV
  obtain ⟨w, hw⟩ := word64
  split
  · constructor
    · intro i
      obtain ⟨r, hr⟩ := h22 i
      refine ⟨r - w, fun c => ?_⟩
      have e : k0_pay102 v22 (ix2 i c) = v22 (ix2 i c) - Ideal.ofBits .f32 0x42800000#32 := by pointwise [k0_pay102]
      exact e.trans (by rw [hr, hw, EReal.coe_sub])
    · intro i
      obtain ⟨r, hr⟩ := h32 i
      refine ⟨r - w, fun c => ?_⟩
      have e : k0_pay103 v32 (ix2 i c) = v32 (ix2 i c) - Ideal.ofBits .f32 0x42800000#32 := by pointwise [k0_pay103]
      exact e.trans (by rw [hr, hw, EReal.coe_sub])
  · have t : ∀ k n d, Fin1 (tile x1 k (ix3 0 n d)) := fun k n d => by rw [tile_apply]; exact h1 _ _
    have i1 : ∀ i c, Fin1 (k0_pay104 (F := Ideal) (ix2 i c)) := fun i c => by pointwise [k0_pay104]; exact wordNeg
    have i2 : ∀ i c, Fin1 (k0_pay105 (F := Ideal) (ix2 i c)) := fun i c => by pointwise [k0_pay105]; exact wordNeg
    have s0 := step2_real v4 v9 h4 h9 (tile x1 0) (t 0) (k0_pay104 (F := Ideal), k0_pay105 (F := Ideal)) i1 i2
    have s1 := step2_real v4 v9 h4 h9 (tile x1 1) (t 1) _ s0.1 s0.2
    dsimp only
    exact ⟨rowmaxA_real v4 x3 h4 h3 _ s1.1, rowmaxB_real v9 x3 h9 h3 _ s1.2⟩

end Shift

/-- The bound of a row: its query norm times the key norm bound, the same on every lane. -/
theorem bound_real (q : Vec Ideal S1x1024x128 .f32) (hq : ∀ i d, Fin1 (q (ix3 0 i d))) (kn : Vec Ideal S1x128 .f32) (r : ℝ)
    (hr : ∀ c, kn (ix2 0 c) = (r : EReal)) (i : Fin 1024) :
    (∃ b : ℝ, ∀ c, k0_pay99 q kn (ix2 i c) = (b : EReal)) ∧ ∃ b : ℝ, ∀ c, k0_pay100 q kn (ix2 i c) = (b : EReal) := by
  have hs : Fin1 (((scale : ℝ) : EReal)) := ⟨_, rfl⟩
  constructor
  · have hf : Fin1 (Ideal.sqrt (∑ x : Fin 128, k0_pay94 q (ix2 i x) * k0_pay94 q (ix2 i x)) * (r : EReal)) := by
      have hn : ∀ x, Fin1 (k0_pay94 q (ix2 i x)) := fun x => by rw [pay94_apply]; exact (hq _ _).mul hs
      exact .mul (.sqrt (.sum _ _ fun x => (hn x).mul (hn x)) (Finset.sum_nonneg fun x _ => sq_nonneg' (hn x))) ⟨_, rfl⟩
    obtain ⟨b, hb⟩ := hf
    refine ⟨b, fun c => ?_⟩
    rw [← hb, ← hr c]
    pointwise [k0_pay99]
  · have hf : Fin1 (Ideal.sqrt (∑ x : Fin 128, k0_pay95 q (ix2 i x) * k0_pay95 q (ix2 i x)) * (r : EReal)) := by
      have hn : ∀ x, Fin1 (k0_pay95 q (ix2 i x)) := fun x => by rw [pay95_apply]; exact (hq _ _).mul hs
      exact .mul (.sqrt (.sum _ _ fun x => (hn x).mul (hn x)) (Finset.sum_nonneg fun x _ => sq_nonneg' (hn x))) ⟨_, rfl⟩
    obtain ⟨b, hb⟩ := hf
    refine ⟨b, fun c => ?_⟩
    rw [← hb, ← hr c]
    pointwise [k0_pay100]

theorem shiftOf_eq (x0 : Vec Ideal S1x1024x256 .f32) (x1 : Vec Ideal S1x4096x128 .bf16) (x3 : Vec Ideal S1x1x512x128 .f32) (kn : Vec Ideal S1x128 .f32) :
    shiftOf x0 x1 x3 kn = shiftV (k0_pay94 (headA x0)) (k0_pay95 (headB x0)) (k0_pay99 (headA x0) kn) (k0_pay100 (headB x0) kn)
    (k0_pay101 (headA x0) (headB x0) kn kn) (Scalar.ofBits .f32 0x42700000#32) x1 x3 := rfl

/-- The shift of a point whose query and key blocks are finite, given a real norm bound. -/
theorem shiftOf_real (x0 : Vec Ideal S1x1024x256 .f32) (x1 : Vec Ideal S1x4096x128 .bf16) (x3 : Vec Ideal S1x1x512x128 .f32) (kn : Vec Ideal S1x128 .f32)
    (h0 : ∀ i d, Fin1 (x0 (ix3 0 i d))) (h1 : ∀ n d, Fin1 (x1 (ix3 0 n d))) (h3 : ∀ n d, Fin1 (x3 (ix4 0 0 n d)))
    (r : ℝ) (hr : ∀ c, kn (ix2 0 c) = (r : EReal)) :
    (∀ i, ∃ r : ℝ, ∀ c, (shiftOf x0 x1 x3 kn).1 (ix2 i c) = (r : EReal)) ∧ ∀ i, ∃ r : ℝ, ∀ c, (shiftOf x0 x1 x3 kn).2 (ix2 i c) = (r : EReal) := by
  have hs : Fin1 (((scale : ℝ) : EReal)) := ⟨_, rfl⟩
  have hA : ∀ i d, Fin1 (headA x0 (ix3 0 i d)) := fun i d => by rw [headA_apply]; exact h0 _ _
  have hB : ∀ i d, Fin1 (headB x0 (ix3 0 i d)) := fun i d => by rw [headB_apply]; exact h0 _ _
  have h4 : ∀ i d, Fin1 (k0_pay94 (headA x0) (ix2 i d)) := fun i d => by rw [pay94_apply]; exact (hA _ _).mul hs
  have h9 : ∀ i d, Fin1 (k0_pay95 (headB x0) (ix2 i d)) := fun i d => by rw [pay95_apply]; exact (hB _ _).mul hs
  have h22 := fun i => (bound_real _ hA kn r hr i).1
  have h32 := fun i => (bound_real _ hB kn r hr i).2
  rw [shiftOf_eq]
  generalize k0_pay94 (headA x0) = v4 at h4 ⊢
  generalize k0_pay95 (headB x0) = v9 at h9 ⊢
  generalize k0_pay99 (headA x0) kn = v22 at h22 ⊢
  generalize k0_pay100 (headB x0) kn = v32 at h32 ⊢
  generalize k0_pay101 (headA x0) (headB x0) kn kn = v37
  generalize (Scalar.ofBits .f32 0x42700000#32 : Ideal .f32) = cst
  exact shift_real v4 v9 x1 x3 h4 h9 h1 h3 v22 v32 v37 cst h22 h32

end Cert.KernelIdeal.Flash

end
-- ==== Proof.Flash.Block.lean ====
/-
  The block a point stores, entry by entry: a head's output row is the values weighted by the powers of two of the shifted
  scores over the 4608 keys (two tiles of fresh keys, then the cached ones), divided by the sum of the weights.
-/
module

public import proofs.«01_k».proof.Proof.Flash.Shift

@[expose] public section

set_option maxRecDepth 16384

noncomputable section

namespace Cert.KernelIdeal.Flash

open Idealize.ShloMosaic Idealize.ShloMosaic.TcCoe
open Cert.KernelIdeal.Gen

/-- Fresh rows followed by cached rows, as one table of 4608 rows. -/
def rows (x : Vec Ideal S1x4096x128 .bf16) (y : Vec Ideal S1x1x512x128 .f32) (n : Fin 4608) (d : Fin 128) : EReal :=
  if h : n.val < 4096 then x (ix3 0 ⟨n.val, h⟩ d) else y (ix4 0 0 ⟨n.val - 4096, by have := n.isLt; omega⟩ d)

/-- Scores of the query rows against all keys. -/
def scoreAll (v : FVec Ideal S1024x128 .bf16) (x : Vec Ideal S1x4096x128 .bf16) (y : Vec Ideal S1x1x512x128 .f32) (i : Fin 1024) (n : Fin 4608) : EReal :=
  ∑ d : Fin 128, v (ix2 i d) * rows x y n d

/-- A sum over all rows is the two tiles' sums and the cached rows' sum. -/
theorem sum_rows (f : Fin 4608 → EReal) :
    ∑ n, f n = (∑ n : Fin 2048, f ⟨2048 * 0 + n.val, by have := n.isLt; omega⟩) + (∑ n : Fin 2048, f ⟨2048 * 1 + n.val, by have := n.isLt; omega⟩)
      + ∑ n : Fin 512, f ⟨4096 + n.val, by have := n.isLt; omega⟩ := by
  rw [Fin.sum_univ_two_halves 4096 512 rfl f, Fin.sum_univ_two_halves 2048 2048 rfl fun n : Fin 4096 => f ⟨n.val, by have := n.isLt; omega⟩]
  simp only [Nat.mul_zero, Nat.zero_add, Nat.mul_one]

theorem rows_tile (x : Vec Ideal S1x4096x128 .bf16) (y : Vec Ideal S1x1x512x128 .f32) (k : Fin 2) (n : Fin 2048) (d : Fin 128) :
    rows x y ⟨2048 * k.val + n.val, by have := k.isLt; have := n.isLt; omega⟩ d = tile x k (ix3 0 n d) := by
  have h : 2048 * k.val + n.val < 4096 := by have := k.isLt; have := n.isLt; omega
  unfold rows
  rw [dif_pos h, tile_apply]

theorem rows_cache (x : Vec Ideal S1x4096x128 .bf16) (y : Vec Ideal S1x1x512x128 .f32) (n : Fin 512) (d : Fin 128) :
    rows x y ⟨4096 + n.val, by have := n.isLt; omega⟩ d = y (ix4 0 0 n d) := by
  unfold rows
  rw [dif_neg (by simp)]
  exact congrArg (fun k : Fin 512 => y (ix4 0 0 k d)) (Fin.ext (by simp))

theorem scoreAll_tile (v : FVec Ideal S1024x128 .bf16) (x : Vec Ideal S1x4096x128 .bf16) (y : Vec Ideal S1x1x512x128 .f32) (i : Fin 1024) (k : Fin 2) (n : Fin 2048) :
    scoreAll v x y i ⟨2048 * k.val + n.val, by have := k.isLt; have := n.isLt; omega⟩ = scoreK v (tile x k) i n :=
  Finset.sum_congr rfl fun d _ => by rw [rows_tile]

theorem scoreAll_cache (v : FVec Ideal S1024x128 .bf16) (x : Vec Ideal S1x4096x128 .bf16) (y : Vec Ideal S1x1x512x128 .f32) (i : Fin 1024) (n : Fin 512) :
    scoreAll v x y i ⟨4096 + n.val, by have := n.isLt; omega⟩ = scoreC v y i n :=
  Finset.sum_congr rfl fun d _ => by rw [rows_cache]

theorem pay116_apply (a : FVec Ideal S1024x128 .f32) (vt : Vec Ideal S1x2048x128 .bf16) (e : FVec Ideal S1024x2048 .bf16) (i : Fin 1024) (d : Fin 128) :
    k0_pay116 a (k0_pay22 vt) e (ix2 i d) = a (ix2 i d) + ∑ n : Fin 2048, e (ix2 i n) * vt (ix3 0 n d) := by
  pointwise [k0_pay116, k0_pay22]

theorem pay117_apply (a : FVec Ideal S1024x128 .f32) (vt : Vec Ideal S1x2048x128 .bf16) (e : FVec Ideal S1024x2048 .bf16) (i : Fin 1024) (d : Fin 128) :
    k0_pay117 a (k0_pay22 vt) e (ix2 i d) = a (ix2 i d) + ∑ n : Fin 2048, e (ix2 i n) * vt (ix3 0 n d) := by
  pointwise [k0_pay117, k0_pay22]

theorem pay111_apply (i : Fin 1024) (d : Fin 128) : k0_pay111 (F := Ideal) (ix2 i d) = 0 := by pointwise [k0_pay111]
theorem pay112_apply (i : Fin 1024) (d : Fin 128) : k0_pay112 (F := Ideal) (ix2 i d) = 0 := by pointwise [k0_pay112]
theorem pay113_apply (i : Fin 1024) (d : Fin 128) : k0_pay113 (F := Ideal) (ix2 i d) = 0 := by pointwise [k0_pay113]
theorem pay114_apply (i : Fin 1024) (d : Fin 128) : k0_pay114 (F := Ideal) (ix2 i d) = 0 := by pointwise [k0_pay114]

/-- The division that ends a head, from the lanes' sums and the cached keys' weights. -/
theorem pay1_eq (a l : FVec Ideal S1024x128 .f32) (e : FVec Ideal S1024x512 .bf16) (x4 : Vec Ideal S1x1x512x128 .f32) (i : Fin 1024) (d : Fin 128) :
    k0_pay1 a (k0_pay119 x4) l e (ix3 0 i d)
      = Ideal.div (a (ix2 i d) + ∑ n : Fin 512, e (ix2 i n) * x4 (ix4 0 0 n d)) (∑ c : Fin 128, l (ix2 i c)) := by
  pointwise [k0_pay1, k0_pay119]

/-- The second head's exponentials of one slice of the cached keys. -/
def cacheB (v : FVec Ideal S1024x128 .bf16) (m : FVec Ideal S1024x128 .f32) (x3 : Vec Ideal S1x1x512x128 .f32) (o : ℕ) (h : S1024x512.Slices ![0, o] S1024x128) : FVec Ideal S1024x128 .f32 :=
  exp2 (subf (extractStridedSlice S1024x128 ![0, o] (k0_pay121 v x3) h) m)

/-- The second head's lanes after the cached keys. -/
def lanesB (v : FVec Ideal S1024x128 .bf16) (m l : FVec Ideal S1024x128 .f32) (x3 : Vec Ideal S1x1x512x128 .f32) : FVec Ideal S1024x128 .f32 :=
  addf (addf (addf (addf l (cacheB v m x3 0 slices_S1024x512_o0_0_S1024x128)) (cacheB v m x3 128 slices_S1024x512_o0_128_S1024x128))
    (cacheB v m x3 256 slices_S1024x512_o0_256_S1024x128)) (cacheB v m x3 384 slices_S1024x512_o0_384_S1024x128)

/-- The second head's weights of the cached keys. -/
def weightsB (v : FVec Ideal S1024x128 .bf16) (m : FVec Ideal S1024x128 .f32) (x3 : Vec Ideal S1x1x512x128 .f32) : FVec Ideal S1024x512 .bf16 :=
  concatenate S1024x512 1 [⟨S1024x128, truncf .bf16 (cacheB v m x3 0 slices_S1024x512_o0_0_S1024x128) bitsLt_bf16_f32⟩,
    ⟨S1024x128, truncf .bf16 (cacheB v m x3 128 slices_S1024x512_o0_128_S1024x128) bitsLt_bf16_f32⟩,
    ⟨S1024x128, truncf .bf16 (cacheB v m x3 256 slices_S1024x512_o0_256_S1024x128) bitsLt_bf16_f32⟩,
    ⟨S1024x128, truncf .bf16 (cacheB v m x3 384 slices_S1024x512_o0_384_S1024x128) bitsLt_bf16_f32⟩]
    concatenates_S1024x128_S1024x128_S1024x128_S1024x128_S1024x512_d1

section Cache

variable (v : FVec Ideal S1024x128 .bf16) (m l : FVec Ideal S1024x128 .f32) (x3 x4 : Vec Ideal S1x1x512x128 .f32)
  (μ : Fin 1024 → EReal) (hm : ∀ i c, m (ix2 i c) = μ i)
include hm

theorem pay126_apply (i : Fin 1024) (c : Fin 128) :
    k0_pay126 v m l x3 (ix2 i c) = l (ix2 i c) + ∑ w : Fin 4, expo (scoreC v x3 i ⟨w.val * 128 + c.val, by have := c.isLt; have := w.isLt; omega⟩) (μ i) := by
  rw [sum4]
  pointwise [k0_pay126, k0_pay122, k0_pay123, k0_pay124, k0_pay125]
  simp only [pay120_apply, hm, add_assoc]
  rfl

theorem pay127_apply (i : Fin 1024) (n : Fin 512) : k0_pay127 v m x3 (ix2 i n) = expo (scoreC v x3 i n) (μ i) := by
  unfold k0_pay127
  refine beside4 _ _ _ _ _ (fun i n => expo (scoreC v x3 i n) (μ i)) ?_ ?_ ?_ ?_ i n
  all_goals
    intro i c
    pointwise [k0_pay122, k0_pay123, k0_pay124, k0_pay125]
    simp only [pay120_apply, hm]
    rfl

theorem pay1_apply (a : FVec Ideal S1024x128 .f32) (i : Fin 1024) (d : Fin 128) :
    k0_pay1 a (k0_pay119 x4) (k0_pay126 v m l x3) (k0_pay127 v m x3) (ix3 0 i d)
      = Ideal.div (a (ix2 i d) + ∑ n : Fin 512, expo (scoreC v x3 i n) (μ i) * x4 (ix4 0 0 n d))
        (∑ c : Fin 128, (l (ix2 i c) + ∑ w : Fin 4, expo (scoreC v x3 i ⟨w.val * 128 + c.val, by have := c.isLt; have := w.isLt; omega⟩) (μ i))) := by
  rw [pay1_eq]
  simp only [pay126_apply v m l x3 μ hm, pay127_apply v m x3 μ hm]

theorem pay2_apply (a : FVec Ideal S1024x128 .f32) (i : Fin 1024) (d : Fin 128) :
    k0_pay2 m l a (k0_pay119 x4) (k0_pay121 v x3) (k0_pay128 v x3) (k0_pay129 v x3) (ix3 0 i d)
      = Ideal.div (a (ix2 i d) + ∑ n : Fin 512, expo (scoreC v x3 i n) (μ i) * x4 (ix4 0 0 n d))
        (∑ c : Fin 128, (l (ix2 i c) + ∑ w : Fin 4, expo (scoreC v x3 i ⟨w.val * 128 + c.val, by have := c.isLt; have := w.isLt; omega⟩) (μ i))) := by
  have e : k0_pay2 m l a (k0_pay119 x4) (k0_pay121 v x3) (k0_pay128 v x3) (k0_pay129 v x3) = k0_pay1 a (k0_pay119 x4) (lanesB v m l x3) (weightsB v m x3) := rfl
  have hl : ∀ i c, lanesB v m l x3 (ix2 i c) = l (ix2 i c) + ∑ w : Fin 4, expo (scoreC v x3 i ⟨w.val * 128 + c.val, by have := c.isLt; have := w.isLt; omega⟩) (μ i) := fun i c => by
    rw [sum4]
    pointwise [lanesB, cacheB]
    simp only [pay121_apply, hm, add_assoc]
    rfl
  have hw : ∀ i n, weightsB v m x3 (ix2 i n) = expo (scoreC v x3 i n) (μ i) := fun i n => by
    unfold weightsB
    refine beside4 _ _ _ _ _ (fun i n => expo (scoreC v x3 i n) (μ i)) ?_ ?_ ?_ ?_ i n
    all_goals
      intro i c
      pointwise [cacheB]
      simp only [pay121_apply, hm]
      rfl
  rw [e, pay1_eq]
  simp only [hl, hw]

end Cache

section Head

variable (v : FVec Ideal S1024x128 .bf16) (m : FVec Ideal S1024x128 .f32) (x1 x2 : Vec Ideal S1x4096x128 .bf16) (x3 x4 : Vec Ideal S1x1x512x128 .f32)
  (μ : Fin 1024 → EReal)

/-- The lanes' sums, the tiles first and then the cache, are the sum over all keys. -/
theorem lanes_all (i : Fin 1024) :
    ∑ c : Fin 128, (0 + (∑ w : Fin 16, expo (scoreK v (tile x1 0) i ⟨w.val * 128 + c.val, by have := c.isLt; have := w.isLt; omega⟩) (μ i))
        + (∑ w : Fin 16, expo (scoreK v (tile x1 1) i ⟨w.val * 128 + c.val, by have := c.isLt; have := w.isLt; omega⟩) (μ i))
        + ∑ w : Fin 4, expo (scoreC v x3 i ⟨w.val * 128 + c.val, by have := c.isLt; have := w.isLt; omega⟩) (μ i))
      = ∑ n : Fin 4608, Ideal.exp2 (scoreAll v x1 x3 i n - μ i) := by
  simp only [zero_add, Finset.sum_add_distrib]
  rw [lanes16 fun n => expo (scoreK v (tile x1 0) i n) (μ i), lanes16 fun n => expo (scoreK v (tile x1 1) i n) (μ i), lanes4 fun n => expo (scoreC v x3 i n) (μ i),
    sum_rows]
  simp only [scoreAll_cache]
  refine congrArg₂ (· + ·) (congrArg₂ (· + ·) (Finset.sum_congr rfl fun n _ => ?_) (Finset.sum_congr rfl fun n _ => ?_)) rfl
  · rw [← scoreAll_tile v x1 x3 i 0 n]; rfl
  · rw [← scoreAll_tile v x1 x3 i 1 n]; rfl

/-- The weighted values, the tiles first and then the cache, are the sum over all keys. -/
theorem values_all (i : Fin 1024) (d : Fin 128) :
    0 + (∑ n : Fin 2048, expo (scoreK v (tile x1 0) i n) (μ i) * tile x2 0 (ix3 0 n d)) + (∑ n : Fin 2048, expo (scoreK v (tile x1 1) i n) (μ i) * tile x2 1 (ix3 0 n d))
        + (∑ n : Fin 512, expo (scoreC v x3 i n) (μ i) * x4 (ix4 0 0 n d))
      = ∑ n : Fin 4608, Ideal.exp2 (scoreAll v x1 x3 i n - μ i) * rows x2 x4 n d := by
  rw [zero_add, sum_rows]
  simp only [scoreAll_cache, rows_cache]
  refine congrArg₂ (· + ·) (congrArg₂ (· + ·) (Finset.sum_congr rfl fun n _ => ?_) (Finset.sum_congr rfl fun n _ => ?_)) rfl
  · rw [← scoreAll_tile v x1 x3 i 0 n, ← rows_tile x2 x4 0 n d]; rfl
  · rw [← scoreAll_tile v x1 x3 i 1 n, ← rows_tile x2 x4 1 n d]; rfl

end Head

/-- The first head's row, from a shift that is the same on every lane. -/
theorem outA_apply (x0 : Vec Ideal S1x1024x256 .f32) (x1 x2 : Vec Ideal S1x4096x128 .bf16) (x3 x4 : Vec Ideal S1x1x512x128 .f32)
    (M : FVec Ideal S1024x128 .f32 × FVec Ideal S1024x128 .f32) (μ : Fin 1024 → EReal) (hm : ∀ i c, M.1 (ix2 i c) = μ i) (i : Fin 1024) (d : Fin 128) :
    outA (headA x0) M (accOf x0 x1 x2 M) x3 x4 (ix3 0 i d)
      = Ideal.div (∑ n : Fin 4608, Ideal.exp2 (scoreAll (k0_pay94 (headA x0)) x1 x3 i n - μ i) * rows x2 x4 n d)
        (∑ n : Fin 4608, Ideal.exp2 (scoreAll (k0_pay94 (headA x0)) x1 x3 i n - μ i)) := by
  unfold outA
  rw [pay1_apply _ _ _ _ _ μ hm, ← values_all, ← lanes_all]
  unfold accOf accV step3
  simp only [pay116_apply, pay112_apply, pay111_apply, sumA_apply _ _ _ _ μ hm, expA_apply _ _ _ μ hm]

/-- The second head's row, from a shift that is the same on every lane. -/
theorem outB_apply (x0 : Vec Ideal S1x1024x256 .f32) (x1 x2 : Vec Ideal S1x4096x128 .bf16) (x3 x4 : Vec Ideal S1x1x512x128 .f32)
    (M : FVec Ideal S1024x128 .f32 × FVec Ideal S1024x128 .f32) (μ : Fin 1024 → EReal) (hm : ∀ i c, M.2 (ix2 i c) = μ i) (i : Fin 1024) (d : Fin 128) :
    outB (headB x0) M (accOf x0 x1 x2 M) x3 x4 (ix3 0 i d)
      = Ideal.div (∑ n : Fin 4608, Ideal.exp2 (scoreAll (k0_pay95 (headB x0)) x1 x3 i n - μ i) * rows x2 x4 n d)
        (∑ n : Fin 4608, Ideal.exp2 (scoreAll (k0_pay95 (headB x0)) x1 x3 i n - μ i)) := by
  unfold outB
  rw [pay2_apply _ _ _ _ _ μ hm, ← values_all, ← lanes_all]
  unfold accOf accV step3
  simp only [pay117_apply, pay114_apply, pay113_apply, sumB_apply _ _ _ _ μ hm, expB_apply _ _ _ μ hm]

end Cert.KernelIdeal.Flash

end
-- ==== Proof.Flash.Attention.lean ====
/-
  Softmax attention over 4608 keys as one formula of the argument arrays, and the step from the kernel's spelling of a row
  (powers of two of scores in units of the logarithm of two, divided once at the end) to it.
-/
module

public import proofs.«01_k».proof.Proof.Flash.Block

@[expose] public section

set_option maxRecDepth 16384

noncomputable section

namespace Cert.Attention

open Idealize.ShloMosaic
open Cert.KernelIdeal.Flash (Fin1 scale)

/-- The rows of a layer's fresh array followed by those of its cached array, of one batch element and key head. -/
def table (K : FVec Ideal ⟨4, ![8, 4096, 2, 128]⟩ .f32) (C : FVec Ideal ⟨5, ![8, 2, 512, 2, 128]⟩ .f32) (b : Fin 8) (g : Fin 2) (n : Fin 4608) (d : Fin 128) : EReal :=
  if h : n.val < 4096 then K (ix4 b ⟨n.val, h⟩ g d) else C (ix5 b 0 ⟨n.val - 4096, by have := n.isLt; omega⟩ g d)

/-- The scaled score of one query row against one key row. -/
def score (q : Fin 128 → EReal) (k : Fin 4608 → Fin 128 → EReal) (n : Fin 4608) : EReal :=
  (∑ d : Fin 128, k n d * q d) * Ideal.rsqrt (Ideal.ofBits .f32 0x43000000#32)

/-- The row maximum as the softmax takes it. -/
def top (s : Fin 4608 → EReal) : EReal := max ⊥ (Finset.univ.fold max ⊥ s)

/-- One entry of softmax attention, from the query row, the key rows and a column of the values. -/
def entry (q : Fin 128 → EReal) (k : Fin 4608 → Fin 128 → EReal) (v : Fin 4608 → EReal) : EReal :=
  ∑ n : Fin 4608, v n * Ideal.div (Ideal.exp (score q k n - top (score q k))) (∑ n : Fin 4608, Ideal.exp (score q k n - top (score q k)))

theorem rsqrt_word : Ideal.rsqrt (Ideal.ofBits .f32 0x43000000#32) = (((Real.sqrt 128)⁻¹ : ℝ) : EReal) := by
  have e : Ideal.ofBits .f32 0x43000000#32 = ((128 : ℝ) : EReal) := by
    simp [Ideal.ofBits, Ideal.ieee, -EReal.coe_mul]
    norm_num
  rw [e, Ideal.rsqrt_coe]
  norm_num

theorem scale_log : scale * Real.log 2 = (Real.sqrt 128)⁻¹ := by
  have h : Real.log 2 ≠ 0 := (Real.log_pos one_lt_two).ne'
  unfold scale
  field_simp

/-- The kernel's row is the softmax's: any real shift, the scores in either unit, one division at the end. -/
theorem entry_eq (q : Fin 128 → EReal) (k : Fin 4608 → Fin 128 → EReal) (v : Fin 4608 → EReal) (μ : ℝ)
    (hq : ∀ d, Fin1 (q d)) (hk : ∀ n d, Fin1 (k n d)) :
    Ideal.div (∑ n : Fin 4608, Ideal.exp2 ((∑ d : Fin 128, q d * ((scale : ℝ) : EReal) * k n d) - (μ : EReal)) * v n)
        (∑ n : Fin 4608, Ideal.exp2 ((∑ d : Fin 128, q d * ((scale : ℝ) : EReal) * k n d) - (μ : EReal)))
      = entry q k v := by
  choose q' hq' using hq
  choose k' hk' using hk
  have e1 : ∀ n, (∑ d : Fin 128, q d * ((scale : ℝ) : EReal) * k n d) = ((∑ d : Fin 128, q' d * scale * k' n d : ℝ) : EReal) := fun n => by
    rw [← Cert.Softmax.coe_sum]
    exact Finset.sum_congr rfl fun d _ => by rw [hq', hk', EReal.coe_mul, EReal.coe_mul]
  have e2 : score q k = fun n => (((∑ d : Fin 128, k' n d * q' d) * (Real.sqrt 128)⁻¹ : ℝ) : EReal) := funext fun n => by
    unfold score
    rw [rsqrt_word, EReal.coe_mul, ← Cert.Softmax.coe_sum]
    exact congrArg (· * (((Real.sqrt 128)⁻¹ : ℝ) : EReal)) (Finset.sum_congr rfl fun d _ => by rw [hq', hk', EReal.coe_mul])
  obtain ⟨m, hm⟩ := Cert.Softmax.fold_max_real (fun n : Fin 4608 => (∑ d : Fin 128, k' n d * q' d) * (Real.sqrt 128)⁻¹) ⊥ bot_ne_top
  have e3 : top (score q k) = (m : EReal) := by
    unfold top
    rw [max_eq_right bot_le, e2]
    exact hm
  unfold entry
  rw [e3]
  simp only [e1, e2]
  refine Cert.Softmax.weights _ _ v μ m fun n => ?_
  rw [← scale_log, Finset.sum_mul, Finset.sum_mul]
  exact Finset.sum_congr rfl fun d _ => by ring

end Cert.Attention

end
-- ==== Proof.Flash.Runs.lean ====
/-
  The two parts of the kernel body and the whole body, run: what each leaves in the buffers it writes.
-/
module

public import proofs.«01_k».proof.Proof.Flash.Steps

@[expose] public section

set_option maxRecDepth 16384

noncomputable section

namespace Cert.KernelIdeal.Flash

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (c : Dev nD) (i : grid0.Coords) (arg3 : Memref sig .tc .vmem S1x1024x256 .f32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x512x128 .f32) (harg6 : arg6.IsWhole) (arg7 : Memref sig .tc .vmem S1x1x512x128 .f32) (harg7 : arg7.IsWhole) (arg8 : Memref sig .tc .vmem S1x1024x256 .bf16) (harg8 : arg8.IsWhole) (arg9 : Memref sig .tc .vmem S1x128 .f32) (harg9 : arg9.IsWhole)

/-! ## Loads of a whole buffer, of a head, of a tile -/

theorem read_tile {m : Memref sig .tc .vmem S1x4096x128 .bf16} (h : m.IsWhole) (x : Vec F S1x4096x128 .bf16) (k : Fin 2) {off : Fin 3 → ℕ}
    (hoff : off = ![0, 2048 * k.val, 0]) (inb : ∀ a, off a + S1x2048x128.size a ≤ S1x4096x128.size a) :
    View.readAt (Elt F) m.view (Rect.unit (s := S1x4096x128) off S1x2048x128.size inb).toLoadRect (h.unread x) = tile x k := by
  subst hoff
  funext y
  refine (h.readAt_unread x _ y).trans (congrArg x (funext fun a => Fin.ext ?_))
  show (![0, 2048 * k.val, 0] : Fin 3 → ℕ) a + 1 * (y a).val = _
  fin_cases a
  · have h0 : (y 0).val < 1 := (y 0).isLt
    show 0 + 1 * (y 0).val = 0
    omega
  · show 2048 * k.val + 1 * (y 1).val = 2048 * k.val + (y 1).val
    omega
  · show 0 + 1 * (y 2).val = (y 2).val
    omega

theorem read_headA {m : Memref sig .tc .vmem S1x1024x256 .f32} (h : m.IsWhole) (x : Vec F S1x1024x256 .f32)
    (inb : ∀ a, (![0, 0, 0] : Fin 3 → ℕ) a + S1x1024x128.size a ≤ S1x1024x256.size a) :
    View.readAt (Elt F) m.view (Rect.unit (s := S1x1024x256) ![0, 0, 0] S1x1024x128.size inb).toLoadRect (h.unread x) = headA x := by
  funext y
  refine (h.readAt_unread x _ y).trans (congrArg x (funext fun a => Fin.ext ?_))
  show (![0, 0, 0] : Fin 3 → ℕ) a + 1 * (y a).val = _
  fin_cases a
  · have h0 : (y 0).val < 1 := (y 0).isLt
    show 0 + 1 * (y 0).val = 0
    omega
  · show 0 + 1 * (y 1).val = (y 1).val
    omega
  · show 0 + 1 * (y 2).val = (y 2).val
    omega

theorem read_headB {m : Memref sig .tc .vmem S1x1024x256 .f32} (h : m.IsWhole) (x : Vec F S1x1024x256 .f32)
    (inb : ∀ a, (![0, 0, 128] : Fin 3 → ℕ) a + S1x1024x128.size a ≤ S1x1024x256.size a) :
    View.readAt (Elt F) m.view (Rect.unit (s := S1x1024x256) ![0, 0, 128] S1x1024x128.size inb).toLoadRect (h.unread x) = headB x := by
  funext y
  refine (h.readAt_unread x _ y).trans (congrArg x (funext fun a => Fin.ext ?_))
  show (![0, 0, 128] : Fin 3 → ℕ) a + 1 * (y a).val = _
  fin_cases a
  · have h0 : (y 0).val < 1 := (y 0).isLt
    show 0 + 1 * (y 0).val = 0
    omega
  · show 0 + 1 * (y 1).val = (y 1).val
    omega
  · show 128 + 1 * (y 2).val = 128 + (y 2).val
    omega

theorem read_all {s : Shape} {e : EltTy} {m : Memref sig .tc .vmem s e} (h : m.IsWhole) (x : Vec F s e) {off : Fin s.rank → ℕ}
    (inb : ∀ a, off a + s.size a ≤ s.size a) :
    View.readAt (Elt F) m.view (Rect.unit (s := s) off s.size inb).toLoadRect (h.unread x) = x :=
  (View.readAt_full m.view _ inb).trans (h.read_unread x)

/-! ## The loops: two trips each -/

theorem two_trips : Scf.trips (0#32) (Scalar.addi 0#32 2#32) 1#32 = 2 := rfl

theorem loop1 (k0_h1 : k0_cond1 i = 1#1) (x1 : Vec F S1x4096x128 .bf16) (init : FVec F S1x128 .f32) :
    st_k0_t1 (F := F) Variants.none c none i arg3 harg3 arg4 harg4 arg5 harg5 arg6 harg6 arg7 harg7 arg8 harg8 arg9 harg9 k0_h1 (harg4.unread x1) init 2
      = k0_pay97 (k0_pay97 init (tile x1 0)) (tile x1 1) := by
  have h := st_k0_t1_succ (F := F) Variants.none c none i arg3 harg3 arg4 harg4 arg5 harg5 arg6 harg6 arg7 harg7 arg8 harg8 arg9 harg9 k0_h1 (harg4.unread x1) init (1 : Fin 2)
  have h' := st_k0_t1_succ (F := F) Variants.none c none i arg3 harg3 arg4 harg4 arg5 harg5 arg6 harg6 arg7 harg7 arg8 harg8 arg9 harg9 k0_h1 (harg4.unread x1) init (0 : Fin 2)
  have e1 : ∀ (k : Fin 2) a, tripR_k0_t1 (F := F) Variants.none c none i arg3 harg3 arg4 harg4 arg5 harg5 arg6 harg6 arg7 harg7 arg8 harg8 arg9 harg9 k0_h1 (harg4.unread x1) k a = k0_pay97 a (tile x1 k) := by
    intro k a
    unfold tripR_k0_t1 trip_k0_t1
    exact congrArg (k0_pay97 a) (read_tile harg4 x1 k (k0_off1_eq k) _)
  rw [e1] at h h'
  refine h.trans ?_
  exact congrArg (fun z => k0_pay97 z (tile x1 1)) (h'.trans (congrArg (fun z => k0_pay97 z (tile x1 0)) rfl))

theorem loop2 (v4 : FVec F S1024x128 .bf16) (v9 : FVec F S1024x128 .bf16) (v22 : FVec F S1024x128 .f32) (v32 : FVec F S1024x128 .f32) (v37 : F .f32) (cst_13 : F .f32) (x1 : Vec F S1x4096x128 .bf16) (init : FVec F S1024x128 .f32 × FVec F S1024x128 .f32) :
    st_k0_t2 (F := F) Variants.none c none i arg3 harg3 arg4 harg4 arg5 harg5 arg6 harg6 arg7 harg7 arg8 harg8 arg9 harg9 v4 v9 v22 v32 v37 cst_13 (harg4.unread x1) init 2
      = step2 v4 v9 (tile x1 1) (step2 v4 v9 (tile x1 0) init) := by
  have h := st_k0_t2_succ (F := F) Variants.none c none i arg3 harg3 arg4 harg4 arg5 harg5 arg6 harg6 arg7 harg7 arg8 harg8 arg9 harg9 v4 v9 v22 v32 v37 cst_13 (harg4.unread x1) init (1 : Fin 2)
  have h' := st_k0_t2_succ (F := F) Variants.none c none i arg3 harg3 arg4 harg4 arg5 harg5 arg6 harg6 arg7 harg7 arg8 harg8 arg9 harg9 v4 v9 v22 v32 v37 cst_13 (harg4.unread x1) init (0 : Fin 2)
  have e1 : ∀ (k : Fin 2) a, tripR_k0_t2 (F := F) Variants.none c none i arg3 harg3 arg4 harg4 arg5 harg5 arg6 harg6 arg7 harg7 arg8 harg8 arg9 harg9 v4 v9 v22 v32 v37 cst_13 (harg4.unread x1) k a = step2 v4 v9 (tile x1 k) a := by
    intro k a
    rw [← read_tile harg4 x1 k (k0_off2_eq k) (k0_off2_inb k)]
    unfold tripR_k0_t2 trip_k0_t2
    rfl
  rw [e1] at h h'
  refine h.trans ?_
  exact congrArg (step2 v4 v9 (tile x1 1)) (h'.trans rfl)

theorem loop3 (v4 : FVec F S1024x128 .bf16) (v9 : FVec F S1024x128 .bf16) (v22 : FVec F S1024x128 .f32) (v32 : FVec F S1024x128 .f32) (v37 : F .f32) (cst_13 : F .f32) (m0 m1 : FVec F S1024x128 .f32) (x1 x2 : Vec F S1x4096x128 .bf16) (init : FVec F S1024x128 .f32 × FVec F S1024x128 .f32 × FVec F S1024x128 .f32 × FVec F S1024x128 .f32) :
    st_k0_t3 (F := F) Variants.none c none i arg3 harg3 arg4 harg4 arg5 harg5 arg6 harg6 arg7 harg7 arg8 harg8 arg9 harg9 v4 v9 v22 v32 v37 cst_13 m0 m1 (harg4.unread x1) (harg5.unread x2) init 2
      = step3 v4 v9 m0 m1 (tile x1 1) (tile x2 1) (step3 v4 v9 m0 m1 (tile x1 0) (tile x2 0) init) := by
  have h := st_k0_t3_succ (F := F) Variants.none c none i arg3 harg3 arg4 harg4 arg5 harg5 arg6 harg6 arg7 harg7 arg8 harg8 arg9 harg9 v4 v9 v22 v32 v37 cst_13 m0 m1 (harg4.unread x1) (harg5.unread x2) init (1 : Fin 2)
  have h' := st_k0_t3_succ (F := F) Variants.none c none i arg3 harg3 arg4 harg4 arg5 harg5 arg6 harg6 arg7 harg7 arg8 harg8 arg9 harg9 v4 v9 v22 v32 v37 cst_13 m0 m1 (harg4.unread x1) (harg5.unread x2) init (0 : Fin 2)
  have e1 : ∀ (k : Fin 2) a, tripR_k0_t3 (F := F) Variants.none c none i arg3 harg3 arg4 harg4 arg5 harg5 arg6 harg6 arg7 harg7 arg8 harg8 arg9 harg9 v4 v9 v22 v32 v37 cst_13 m0 m1 (harg4.unread x1) (harg5.unread x2) k a = step3 v4 v9 m0 m1 (tile x1 k) (tile x2 k) a := by
    intro k a
    rw [← read_tile harg4 x1 k (k0_off3_eq k) (k0_off3_inb k), ← read_tile harg5 x2 k (k0_off3_eq k) (k0_off3_inb k)]
    unfold tripR_k0_t3 trip_k0_t3
    rfl
  rw [e1] at h h'
  refine h.trans ?_
  exact congrArg (step3 v4 v9 m0 m1 (tile x1 1) (tile x2 1)) (h'.trans rfl)

/-! ## The first part: the norm bound -/

/-- What the first part hands on. -/
def headOf (x0 : Vec F S1x1024x256 .f32) (kn : Vec F S1x128 .f32) :
    (Σ' (_ : FVec F S1024x128 .bf16) (_ : FVec F S1024x128 .bf16) (_ : FVec F S1024x128 .f32) (_ : FVec F S1024x128 .f32) (_ : F .f32), F .f32) :=
  ⟨k0_pay94 (headA x0), k0_pay95 (headB x0), k0_pay99 (headA x0) kn, k0_pay100 (headB x0) kn, k0_pay101 (headA x0) (headB x0) kn kn, Scalar.ofBits .f32 0x42700000#32⟩

theorem part5_first (hc : k0_cond1 i = 1#1) (x0 : Vec F S1x1024x256 .f32) (x1 : Vec F S1x4096x128 .bf16) (x3 : Vec F S1x1x512x128 .f32) :
    (iprop(owns (c : Thread nD τ) arg3 fullShare x0 ∗ owns (c : Thread nD τ) arg4 fullShare x1 ∗ owns (c : Thread nD τ) arg6 fullShare x3 ∗ (∃ d, owns (c : Thread nD τ) arg9 fullShare d)) : sProp 𝕄)
      ⊢ wp frame (wpE (defs₀ (F := F)) Variants.none c none) Set.univ (k0_part5 i arg3 harg3 arg4 harg4 arg5 harg5 arg6 harg6 arg7 harg7 arg8 harg8 arg9 harg9)
        (fun r => iprop(⌜r = headOf x0 (normV x1 x3)⌝ ∗ owns (c : Thread nD τ) arg3 fullShare x0 ∗ owns (c : Thread nD τ) arg4 fullShare x1 ∗ owns (c : Thread nD τ) arg6 fullShare x3 ∗ owns (c : Thread nD τ) arg9 fullShare (normV x1 x3))) := by
  rw [k0_part5_eq_skeleton]; unfold k0_part5_skel
  unfold owns
  iintro ⟨⟨%f0, %hf0, H0⟩, ⟨%f1, %hf1, H1⟩, ⟨%f3, %hf3, H3⟩, ⟨%d, %f9, %hf9, H9⟩⟩
  obtain rfl := harg3.eq_unread hf0; obtain rfl := harg4.eq_unread hf1; obtain rfl := harg6.eq_unread hf3
  sl_exec (disch := first | sl_exact hc)
  sl_step
  unfold part5_first.sl.v20 part5_first.sl.H9_1
  have hl := loop1 c i arg3 harg3 arg4 harg4 arg5 harg5 arg6 harg6 arg7 harg7 arg8 harg8 arg9 harg9 hc x1 (k0_pay96 (F := F))
  isplitr
  · ipureintro
    rw [View.readCov_full]
    simp only [read_headA harg3, read_headB harg3, read_all harg6, normV, two_trips, hl]
    rfl
  isplitl [H0]
  · iexists _; isplitr; swap; · iexact H0
    ipureintro; exact hf0
  isplitl [H1]
  · iexists _; isplitr; swap; · iexact H1
    ipureintro; exact hf1
  isplitl [H3]
  · iexists _; isplitr; swap; · iexact H3
    ipureintro; exact hf3
  · iexists _; isplitr; swap; · iexact H9
    ipureintro
    rw [View.read_writes_full]
    simp only [read_all harg6, normV, two_trips, hl]

theorem part5_later (hc : ¬ k0_cond1 i = 1#1) (x0 : Vec F S1x1024x256 .f32) (kn : Vec F S1x128 .f32) :
    (iprop(owns (c : Thread nD τ) arg3 fullShare x0 ∗ owns (c : Thread nD τ) arg9 fullShare kn) : sProp 𝕄)
      ⊢ wp frame (wpE (defs₀ (F := F)) Variants.none c none) Set.univ (k0_part5 i arg3 harg3 arg4 harg4 arg5 harg5 arg6 harg6 arg7 harg7 arg8 harg8 arg9 harg9)
        (fun r => iprop(⌜r = headOf x0 kn⌝ ∗ owns (c : Thread nD τ) arg3 fullShare x0 ∗ owns (c : Thread nD τ) arg9 fullShare kn)) := by
  rw [k0_part5_eq_skeleton]; unfold k0_part5_skel
  unfold owns
  iintro ⟨⟨%f0, %hf0, H0⟩, ⟨%f9, %hf9, H9⟩⟩
  obtain rfl := harg3.eq_unread hf0; obtain rfl := harg9.eq_unread hf9
  sl_exec (disch := first | sl_exact hc)
  sl_step
  isplitr
  · ipureintro
    simp only [read_headA harg3, read_headB harg3, read_all harg9]
    rfl
  isplitl [H0]
  · iexists _; isplitr; swap; · iexact H0
    ipureintro; exact hf0
  · iexists _; isplitr; swap; · iexact H9
    ipureintro; exact hf9

/-! ## The second part: the shift and the running sums -/

theorem part6_run (v4 : FVec F S1024x128 .bf16) (v9 : FVec F S1024x128 .bf16) (v22 : FVec F S1024x128 .f32) (v32 : FVec F S1024x128 .f32) (v37 : F .f32) (cst_13 : F .f32) (x1 x2 : Vec F S1x4096x128 .bf16) (x3 x4 : Vec F S1x1x512x128 .f32) :
    (iprop(owns (c : Thread nD τ) arg4 fullShare x1 ∗ owns (c : Thread nD τ) arg5 fullShare x2 ∗ owns (c : Thread nD τ) arg6 fullShare x3 ∗ owns (c : Thread nD τ) arg7 fullShare x4) : sProp 𝕄)
      ⊢ wp frame (wpE (defs₀ (F := F)) Variants.none c none) Set.univ (k0_part6 i arg3 harg3 arg4 harg4 arg5 harg5 arg6 harg6 arg7 harg7 arg8 harg8 arg9 harg9 v4 v9 v22 v32 v37 cst_13)
        (fun r => iprop(⌜r = midOf v4 v9 (shiftV v4 v9 v22 v32 v37 cst_13 x1 x3) (accV v4 v9 (shiftV v4 v9 v22 v32 v37 cst_13 x1 x3) x1 x2) x3 x4⌝ ∗ owns (c : Thread nD τ) arg4 fullShare x1 ∗ owns (c : Thread nD τ) arg5 fullShare x2 ∗ owns (c : Thread nD τ) arg6 fullShare x3 ∗ owns (c : Thread nD τ) arg7 fullShare x4)) := by
  rw [k0_part6_eq_skeleton]; unfold k0_part6_skel
  unfold owns
  iintro ⟨⟨%f1, %hf1, H1⟩, ⟨%f2, %hf2, H2⟩, ⟨%f3, %hf3, H3⟩, ⟨%f4, %hf4, H4⟩⟩
  obtain rfl := harg4.eq_unread hf1; obtain rfl := harg5.eq_unread hf2; obtain rfl := harg6.eq_unread hf3; obtain rfl := harg7.eq_unread hf4
  by_cases hs : Scalar.cmpi .ne (Scalar.extui (Scalar.cmpf .ole v37 cst_13)) 0#32 = 1#1
  · have hM : shiftV v4 v9 v22 v32 v37 cst_13 x1 x3 = (k0_pay102 v22, k0_pay103 v32) := if_pos hs
    have hl3 := loop3 c i arg3 harg3 arg4 harg4 arg5 harg5 arg6 harg6 arg7 harg7 arg8 harg8 arg9 harg9 v4 v9 v22 v32 v37 cst_13 (k0_pay102 v22) (k0_pay103 v32) x1 x2 (k0_pay111 (F := F), k0_pay112 (F := F), k0_pay113 (F := F), k0_pay114 (F := F))
    sl_exec (disch := first | sl_exact hs)
    sl_step
    isplitr
    · ipureintro
      simp only [read_all harg6, read_all harg7, two_trips, accV, hl3, hM]
      rfl
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    · iexists _; isplitr; swap; · iexact H4
      ipureintro; exact hf4
  · have hM : shiftV v4 v9 v22 v32 v37 cst_13 x1 x3 = (k0_pay109 v4 (step2 v4 v9 (tile x1 1) (step2 v4 v9 (tile x1 0) (k0_pay104 (F := F), k0_pay105 (F := F)))).1 x3,
      k0_pay110 v9 (step2 v4 v9 (tile x1 1) (step2 v4 v9 (tile x1 0) (k0_pay104 (F := F), k0_pay105 (F := F)))).2 x3) := if_neg hs
    have hl2 := loop2 c i arg3 harg3 arg4 harg4 arg5 harg5 arg6 harg6 arg7 harg7 arg8 harg8 arg9 harg9 v4 v9 v22 v32 v37 cst_13 x1 (k0_pay104 (F := F), k0_pay105 (F := F))
    have hl3 := fun m0 m1 => loop3 c i arg3 harg3 arg4 harg4 arg5 harg5 arg6 harg6 arg7 harg7 arg8 harg8 arg9 harg9 v4 v9 v22 v32 v37 cst_13 m0 m1 x1 x2 (k0_pay111 (F := F), k0_pay112 (F := F), k0_pay113 (F := F), k0_pay114 (F := F))
    sl_exec (disch := first | sl_exact hs)
    sl_step
    isplitr
    · ipureintro
      simp only [read_all harg6, read_all harg7, two_trips, accV, hl2, hM]
      rw [hl3]
      unfold midOf
      with_reducible rfl
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    · iexists _; isplitr; swap; · iexact H4
      ipureintro; exact hf4

/-! ## The body -/

/-- Two stores side by side leave the two heads. -/
theorem read_beside {m : Memref sig .tc .vmem S1x1024x256 .bf16} (f : m.view.ty.Contents (Elt F)) (a b : FVec F S1x1024x128 .bf16)
    (ha : ∀ k, (![0, 0, 0] : Fin 3 → ℕ) k + S1x1024x128.size k ≤ S1x1024x256.size k)
    (hb : ∀ k, (![0, 0, 128] : Fin 3 → ℕ) k + S1x1024x128.size k ≤ S1x1024x256.size k) :
    m.view.read (Elt F) (m.view.writes (Elt F) f [⟨Rect.unit (s := S1x1024x256) ![0, 0, 128] S1x1024x128.size hb, b⟩, ⟨Rect.unit (s := S1x1024x256) ![0, 0, 0] S1x1024x128.size ha, a⟩])
      = beside a b := by
  funext y
  have h0 : (y 0).val < 1 := (y 0).isLt
  have h1 : (y 1).val < 1024 := (y 1).isLt
  have h2 : (y 2).val < 256 := (y 2).isLt
  by_cases h : (y 2).val < 128
  · rw [View.read_writes_cons_unit_of_not_mem m.view f hb b _ y rfl 2 (.inl h)]
    refine (View.read_writes_cons_unit_of_mem m.view f ha a _ y (ix3 0 ⟨(y 1).val, h1⟩ ⟨(y 2).val, h⟩) rfl ?_).trans (by unfold beside; rw [dif_pos h])
    intro k
    fin_cases k
    · show (y 0).val = 0 + 0
      omega
    · show (y 1).val = 0 + (y 1).val
      omega
    · show (y 2).val = 0 + (y 2).val
      omega
  · refine (View.read_writes_cons_unit_of_mem m.view f hb b _ y (ix3 0 ⟨(y 1).val, h1⟩ ⟨(y 2).val - 128, by omega⟩) rfl ?_).trans (by unfold beside; rw [dif_neg h])
    intro k
    fin_cases k
    · show (y 0).val = 0 + 0
      omega
    · show (y 1).val = 0 + (y 1).val
      omega
    · show (y 2).val = 128 + ((y 2).val - 128)
      omega

theorem body_first (hc : k0_cond1 i = 1#1) (x0 : Vec F S1x1024x256 .f32) (x1 x2 : Vec F S1x4096x128 .bf16) (x3 x4 : Vec F S1x1x512x128 .f32) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)) : sProp 𝕄)
      ⊢ wp frame (wpE (defs₀ (F := F)) Variants.none c none) Set.univ (cc0_flash i arg3 harg3 arg4 harg4 arg5 harg5 arg6 harg6 arg7 harg7 arg8 harg8 arg9 harg9)
        (fun _ => iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outV x0 x1 x2 x3 x4 (normV x1 x3)) ∗ owns (c : Thread nD τ) arg9 fullShare (normV x1 x3))) := by
  rw [cc0_flash_eq_skeleton]; unfold cc0_flash_skel
  iintro ⟨H0, H1, H2, H3, H4, H8, H9⟩
  rw [wp_bind]
  iapply (wp_wand_r Idealize.ShloMosaic.frame (wpE (defs₀ (F := F)) Variants.none c none) Set.univ)
  isplitl [H0 H1 H3 H9]
  · iapply (part5_first c i arg3 harg3 arg4 harg4 arg5 harg5 arg6 harg6 arg7 harg7 arg8 harg8 arg9 harg9 hc x0 x1 x3)
    isplitl [H0]; · iexact H0
    isplitl [H1]; · iexact H1
    isplitl [H3]; · iexact H3
    iexact H9
  iintro %r ⟨%hr, H0, H1, H3, H9⟩
  subst hr
  dsimp only [headOf]
  rw [wp_bind]
  iapply (wp_wand_r Idealize.ShloMosaic.frame (wpE (defs₀ (F := F)) Variants.none c none) Set.univ)
  isplitl [H1 H2 H3 H4]
  · iapply (part6_run c i arg3 harg3 arg4 harg4 arg5 harg5 arg6 harg6 arg7 harg7 arg8 harg8 arg9 harg9 _ _ _ _ _ _ x1 x2 x3 x4)
    isplitl [H1]; · iexact H1
    isplitl [H2]; · iexact H2
    isplitl [H3]; · iexact H3
    iexact H4
  iintro %r ⟨%hr, H1, H2, H3, H4⟩
  subst hr
  dsimp only [midOf]
  unfold owns
  icases H8 with ⟨%d, %f8, %hf8, H8⟩
  sl_exec
  sl_step
  isplitl [H0]; · iexact H0
  isplitl [H1]; · iexact H1
  isplitl [H2]; · iexact H2
  isplitl [H3]; · iexact H3
  isplitl [H4]; · iexact H4
  isplitl [H8]
  · iexists _; isplitr; swap; · iexact H8
    ipureintro
    refine (read_beside (m := arg8) _ _ _ _ _).trans ?_
    rfl
  iexact H9

theorem body_later (hc : ¬ k0_cond1 i = 1#1) (x0 : Vec F S1x1024x256 .f32) (x1 x2 : Vec F S1x4096x128 .bf16) (x3 x4 : Vec F S1x1x512x128 .f32) (kn : Vec F S1x128 .f32) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare kn) : sProp 𝕄)
      ⊢ wp frame (wpE (defs₀ (F := F)) Variants.none c none) Set.univ (cc0_flash i arg3 harg3 arg4 harg4 arg5 harg5 arg6 harg6 arg7 harg7 arg8 harg8 arg9 harg9)
        (fun _ => iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outV x0 x1 x2 x3 x4 kn) ∗ owns (c : Thread nD τ) arg9 fullShare kn)) := by
  rw [cc0_flash_eq_skeleton]; unfold cc0_flash_skel
  iintro ⟨H0, H1, H2, H3, H4, H8, H9⟩
  rw [wp_bind]
  iapply (wp_wand_r Idealize.ShloMosaic.frame (wpE (defs₀ (F := F)) Variants.none c none) Set.univ)
  isplitl [H0 H9]
  · iapply (part5_later c i arg3 harg3 arg4 harg4 arg5 harg5 arg6 harg6 arg7 harg7 arg8 harg8 arg9 harg9 hc x0 kn)
    isplitl [H0]; · iexact H0
    iexact H9
  iintro %r ⟨%hr, H0, H9⟩
  subst hr
  dsimp only [headOf]
  rw [wp_bind]
  iapply (wp_wand_r Idealize.ShloMosaic.frame (wpE (defs₀ (F := F)) Variants.none c none) Set.univ)
  isplitl [H1 H2 H3 H4]
  · iapply (part6_run c i arg3 harg3 arg4 harg4 arg5 harg5 arg6 harg6 arg7 harg7 arg8 harg8 arg9 harg9 _ _ _ _ _ _ x1 x2 x3 x4)
    isplitl [H1]; · iexact H1
    isplitl [H2]; · iexact H2
    isplitl [H3]; · iexact H3
    iexact H4
  iintro %r ⟨%hr, H1, H2, H3, H4⟩
  subst hr
  dsimp only [midOf]
  unfold owns
  icases H8 with ⟨%d, %f8, %hf8, H8⟩
  sl_exec
  sl_step
  isplitl [H0]; · iexact H0
  isplitl [H1]; · iexact H1
  isplitl [H2]; · iexact H2
  isplitl [H3]; · iexact H3
  isplitl [H4]; · iexact H4
  isplitl [H8]
  · iexists _; isplitr; swap; · iexact H8
    ipureintro
    refine (read_beside (m := arg8) _ _ _ _ _).trans ?_
    rfl
  iexact H9

end Cert.KernelIdeal.Flash

end
-- ==== Proof.Flash.Launch.lean ====
/-
  The attention kernel launched: what its scratch holds before each grid point, the body's triple at every point, and
  the run of the whole program with every argument unchanged and every counter at zero.
-/
module

public import proofs.«01_k».proof.Proof.Flash.Runs
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.WordCmp
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body computes the norm bound at the points that are multiples of four: the first query block of each batch
    element and key head. -/
theorem first_iff (t : Fin cfg0.N) : k0_cond1 (grid0.coords t) = 1#1 ↔ t.val % 4 = 0 := by
  have ht : t.val < 64 := Nat.lt_of_lt_of_eq t.isLt N_0
  have e2 : (grid0.coords t 2).val = t.val / 1 % 4 := Pipeline.Grid.coords_val t 2 (by decide) rfl
  simp only [k0_cond1, e2]
  word_cmp

abbrev stg0 (t : Fin cfg0.N) : Memref sig .tc .vmem S1x1024x256 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x4096x128 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x4096x128 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x1x512x128 .f32 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x1x512x128 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x1024x256 .bf16 := win0_5.stage (cfg0.slots t 5)
abbrev whole5 (t : Fin cfg0.N) : (stg5 t).IsWhole := hstage0_5 ((cfg0.slots t 5).cast nbuf0_5)

/-- The scratch buffer that carries the norm bound from point to point. -/
abbrev boundRef : Memref sig .tc .vmem S1x128 .f32 := Memref.whole cc0_scratch0

theorem rest_eq (c : Dev nD) :
    (Pipeline.ΦA spec0 c : sProp 𝕄) = iprop(iprop((∃ d, owns (c : Thread nD τ) boundRef fullShare d)) ∗ (∃ r, prngReg c r)) := by
  unfold Pipeline.ΦA; rw [scopedRest0_eq]; simp only [boundRef, owns_whole]; try rfl

/-- The bound in scratch after point `n`: computed afresh at a multiple of four, kept otherwise. -/
def boundAt (c : Dev nD) : (n : ℕ) → n < cfg0.N → Vec F S1x128 .f32
  | 0, hn => normV (iblk m c 1 ⟨0, hn⟩) (iblk m c 3 ⟨0, hn⟩)
  | n + 1, hn => if (n + 1) % 4 = 0 then normV (iblk m c 1 ⟨n + 1, hn⟩) (iblk m c 3 ⟨n + 1, hn⟩)
      else boundAt c n (Nat.lt_of_succ_lt hn)

theorem boundAt_first (c : Dev nD) (t : Fin cfg0.N) (h : t.val % 4 = 0) :
    boundAt m c t.val t.isLt = normV (iblk m c 1 t) (iblk m c 3 t) := by
  obtain ⟨n, hn⟩ := t
  cases n with
  | zero => rfl
  | succ n => exact if_pos h

theorem boundAt_later (c : Dev nD) (t : Fin cfg0.N) (h : ¬ t.val % 4 = 0) :
    boundAt m c t.val t.isLt = boundAt m c (t.val - 1) (Nat.lt_of_le_of_lt (Nat.sub_le _ _) t.isLt) := by
  obtain ⟨n, hn⟩ := t
  cases n with
  | zero => exact absurd (Nat.zero_mod 4) h
  | succ n => exact if_neg h

/-- The invariant before point `n`. -/
def Inv (c : Dev nD) : (n : ℕ) → n ≤ cfg0.N → sProp 𝕄
  | 0, _ => Pipeline.ΦA spec0 c
  | n + 1, hn => iprop(iprop(owns (c : Thread nD τ) boundRef fullShare (boundAt m c n hn)) ∗ (∃ r, prngReg c r))

theorem Inv_zero (c : Dev nD) (n : ℕ) (h : n ≤ cfg0.N) (hz : n = 0) : Inv m c n h = Pipeline.ΦA spec0 c := by
  subst hz; rfl

theorem Inv_pos (c : Dev nD) (n : ℕ) (h : n ≤ cfg0.N) (hz : n ≠ 0) :
    Inv m c n h = iprop(iprop(owns (c : Thread nD τ) boundRef fullShare (boundAt m c (n - 1) (by omega))) ∗ (∃ r, prngReg c r)) := by
  cases n with
  | zero => exact absurd rfl hz
  | succ n => rfl

/-- What the output block holds after point `t`. -/
def outAt (c : Dev nD) (t : Fin cfg0.N) : Vec F S1x1024x256 .bf16 :=
  outV (iblk m c 0 t) (iblk m c 1 t) (iblk m c 2 t) (iblk m c 3 t) (iblk m c 4 t) (boundAt m c t.val t.isLt)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

/-- The body at any point, from the blocks and the bound the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = iprop(iprop(owns (c : Thread nD τ) boundRef fullShare (boundAt m c t.val t.isLt)) ∗ (∃ r, prngReg c r)) from rfl]
  unfold outAt
  by_cases h0 : t.val % 4 = 0
  · by_cases hz : t.val = 0
    · rw [Inv_castSucc m c t, Inv_zero m c _ _ hz, rest_eq, boundAt_first m c t h0]
      iintro ⟨⟨HS, Hg⟩, Ho, ⟨%d0, H0⟩, ⟨%d1, H1⟩, ⟨%d2, H2⟩, ⟨%d3, H3⟩, ⟨%d4, H4⟩, ⟨%d5, H5⟩⟩
      iapply (wp_wand_r Idealize.ShloMosaic.frame (wpE (defs₀ (F := F)) Variants.none c none) Set.univ)
      isplitl [H0 H1 H2 H3 H4 H5 HS]
      · iapply (body_first c (grid0.coords t) (stg0 t) (whole0 t) (stg1 t) (whole1 t) (stg2 t) (whole2 t) (stg3 t) (whole3 t) (stg4 t) (whole4 t) (stg5 t) (whole5 t) boundRef (Memref.isWhole_whole _) ((first_iff t).mpr h0) (iblk m c 0 t) (iblk m c 1 t) (iblk m c 2 t) (iblk m c 3 t) (iblk m c 4 t))
        isplitl [H0]; · iexact H0
        isplitl [H1]; · iexact H1
        isplitl [H2]; · iexact H2
        isplitl [H3]; · iexact H3
        isplitl [H4]; · iexact H4
        isplitl [H5]; · iexists _; iexact H5
        iexact HS
      iintro %r ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Inv_castSucc m c t, Inv_pos m c _ _ hz, boundAt_first m c t h0]
      iintro ⟨⟨HS, Hg⟩, Ho, ⟨%d0, H0⟩, ⟨%d1, H1⟩, ⟨%d2, H2⟩, ⟨%d3, H3⟩, ⟨%d4, H4⟩, ⟨%d5, H5⟩⟩
      iapply (wp_wand_r Idealize.ShloMosaic.frame (wpE (defs₀ (F := F)) Variants.none c none) Set.univ)
      isplitl [H0 H1 H2 H3 H4 H5 HS]
      · iapply (body_first c (grid0.coords t) (stg0 t) (whole0 t) (stg1 t) (whole1 t) (stg2 t) (whole2 t) (stg3 t) (whole3 t) (stg4 t) (whole4 t) (stg5 t) (whole5 t) boundRef (Memref.isWhole_whole _) ((first_iff t).mpr h0) (iblk m c 0 t) (iblk m c 1 t) (iblk m c 2 t) (iblk m c 3 t) (iblk m c 4 t))
        isplitl [H0]; · iexact H0
        isplitl [H1]; · iexact H1
        isplitl [H2]; · iexact H2
        isplitl [H3]; · iexact H3
        isplitl [H4]; · iexact H4
        isplitl [H5]; · iexists _; iexact H5
        iexists _; iexact HS
      iintro %r ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    rw [Inv_castSucc m c t, Inv_pos m c _ _ hz, boundAt_later m c t h0]
    iintro ⟨⟨HS, Hg⟩, Ho, ⟨%d0, H0⟩, ⟨%d1, H1⟩, ⟨%d2, H2⟩, ⟨%d3, H3⟩, ⟨%d4, H4⟩, ⟨%d5, H5⟩⟩
    iapply (wp_wand_r Idealize.ShloMosaic.frame (wpE (defs₀ (F := F)) Variants.none c none) Set.univ)
    isplitl [H0 H1 H2 H3 H4 H5 HS]
    · iapply (body_later c (grid0.coords t) (stg0 t) (whole0 t) (stg1 t) (whole1 t) (stg2 t) (whole2 t) (stg3 t) (whole3 t) (stg4 t) (whole4 t) (stg5 t) (whole5 t) boundRef (Memref.isWhole_whole _) (fun h => h0 ((first_iff t).mp h)) (iblk m c 0 t) (iblk m c 1 t) (iblk m c 2 t) (iblk m c 3 t) (iblk m c 4 t) _)
      isplitl [H0]; · iexact H0
      isplitl [H1]; · iexact H1
      isplitl [H2]; · iexact H2
      isplitl [H3]; · iexact H3
      isplitl [H4]; · iexact H4
      isplitl [H5]; · iexists _; iexact H5
      iexact HS
    iintro %r ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  have hN : cfg0.N = 64 := N_0
  rw [show (dats m 0 c).Φ (Fin.last cfg0.N) = Inv m c cfg0.N (Nat.le_refl _) from rfl, Inv_pos m c _ _ (by omega), rest_eq]
  iintro ⟨HS, Hg⟩
  isplitl [HS]
  · iexists _; iexact HS
  iexact Hg

set_option backward.isDefEq.respectTransparency.types false in
/-- The launch: the arrays end at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every argument unchanged, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Flash

end
-- ==== Proof.Flash.Array.lean ====
/-
  The kernel's blocks read back to the argument arrays, the norm bound in scratch at every point, and the array the launch
  leaves: every entry is the softmax attention of the arguments, for finite queries and keys.
-/
module

public import proofs.«01_k».proof.Proof.Flash.Attention
public import proofs.«01_k».proof.Proof.Flash.Launch

@[expose] public section

set_option maxRecDepth 16384

noncomputable section

namespace Cert.KernelIdeal.Flash

open Idealize.ShloMosaic Idealize.ShloMosaic.TcCoe Idealize.SL.Sem
open Idealize.ShloMosaic.Pipeline (Dat)
open Cert.KernelIdeal.Gen
open Cert.Attention (table entry)

/-! ## The blocks of the argument arrays -/

theorem cast_q (x : Vec Ideal S8x4096x4x128 .f32) (b : Fin 8) (s : Fin 4096) (h : Fin 4) (d : Fin 128) :
    shapeCast S8x4096x512 x shapeCasts_S8x4096x4x128_S8x4096x512 (ix3 b s ⟨128 * h.val + d.val, by omega⟩) = x (ix4 b s h d) := by
  pointwise

theorem cast_k (x : Vec Ideal S8x4096x2x128 .f32) (b : Fin 8) (s : Fin 4096) (g : Fin 2) (d : Fin 128) :
    shapeCast S8x4096x256 x shapeCasts_S8x4096x2x128_S8x4096x256 (ix3 b s ⟨128 * g.val + d.val, by omega⟩) = x (ix4 b s g d) := by
  pointwise

theorem cast_c (x : Vec Ideal S8x2x512x2x128 .f32) (b : Fin 8) (l : Fin 2) (s : Fin 512) (g : Fin 2) (d : Fin 128) :
    shapeCast S8x2x512x256 x shapeCasts_S8x2x512x2x128_S8x2x512x256 (ix4 b l s ⟨128 * g.val + d.val, by omega⟩) = x (ix5 b l s g d) := by
  pointwise

variable (m : (ℓ : Loc nD τ sig) → Buf (Elt Ideal) ℓ) (c : Dev nD)

/-- The batch element, key head and query block of a point. -/
def batch (t : Fin cfg0.N) : Fin 8 := ⟨t.val / 8, by have := Nat.lt_of_lt_of_eq t.isLt N_0; omega⟩
def khead (t : Fin cfg0.N) : Fin 2 := ⟨t.val / 4 % 2, by omega⟩
def qrow (t : Fin cfg0.N) (i : Fin 1024) : Fin 4096 := ⟨1024 * (t.val % 4) + i.val, by omega⟩

/-- One entry of the attention of the arguments, at a query head. -/
def att (b : Fin 8) (s : Fin 4096) (h : Fin 4) (d : Fin 128) : EReal :=
  entry (fun d => m ((c.tc : Thread nD τ).loc main_arg0) (ix4 b s h d))
    (table (m ((c.tc : Thread nD τ).loc main_arg1)) (m ((c.tc : Thread nD τ).loc main_arg3)) b ⟨h.val / 2, by omega⟩)
    (fun n => table (m ((c.tc : Thread nD τ).loc main_arg2)) (m ((c.tc : Thread nD τ).loc main_arg4)) b ⟨h.val / 2, by omega⟩ n d)

/-- The array of attention entries. -/
def result : Buf (Elt Ideal) ((c.tc : Thread nD τ).loc main_v7) := fun y : S8x4096x512.Idx =>
  att m c ⟨(y 0).val, (y 0).isLt⟩ ⟨(y 1).val, (y 1).isLt⟩ ⟨(y 2).val / 128, by have h : (y 2).val < 512 := (y 2).isLt; omega⟩ ⟨(y 2).val % 128, by omega⟩

theorem att_congr {b b' : Fin 8} {s s' : Fin 4096} {h h' : Fin 4} {d d' : Fin 128} (eb : b.val = b'.val) (es : s.val = s'.val) (eh : h.val = h'.val) (ed : d.val = d'.val) :
    att m c b s h d = att m c b' s' h' d' := by
  rw [Fin.ext eb, Fin.ext es, Fin.ext eh, Fin.ext ed]

/-- Two heads side by side, read at a column of the first and of the second. -/
theorem besideA_apply (a b : FVec Ideal S1x1024x128 .bf16) (i : Fin 1024) (d : Fin 128) :
    beside a b (ix3 0 i ⟨128 * 0 + d.val, by omega⟩) = a (ix3 0 i d) := by
  unfold beside
  have h : ((ix3 (0 : Fin 1) i (⟨128 * 0 + d.val, by omega⟩ : Fin 256) : S1x1024x256.Idx) 2).val < 128 := by show 128 * 0 + d.val < 128; omega
  rw [dif_pos h]
  refine congrArg a (funext fun e => ?_)
  match e with
  | ⟨0, _⟩ => rfl
  | ⟨1, _⟩ => rfl
  | ⟨2, _⟩ => exact Fin.ext (by show 128 * 0 + d.val = d.val; omega)

theorem besideB_apply (a b : FVec Ideal S1x1024x128 .bf16) (i : Fin 1024) (d : Fin 128) :
    beside a b (ix3 0 i ⟨128 * 1 + d.val, by omega⟩) = b (ix3 0 i d) := by
  unfold beside
  have h : ¬ ((ix3 (0 : Fin 1) i (⟨128 * 1 + d.val, by omega⟩ : Fin 256) : S1x1024x256.Idx) 2).val < 128 := by show ¬ 128 * 1 + d.val < 128; omega
  rw [dif_neg h]
  refine congrArg b (funext fun e => ?_)
  match e with
  | ⟨0, _⟩ => rfl
  | ⟨1, _⟩ => rfl
  | ⟨2, _⟩ => exact Fin.ext (by show 128 * 1 + d.val - 128 = d.val; omega)

theorem coord0 (t : Fin cfg0.N) : (BitVec.ofNat 32 (grid0.coords t 0).val).toNat = t.val / 8 := by
  have ht : t.val < 64 := Nat.lt_of_lt_of_eq t.isLt N_0
  have e : (grid0.coords t 0).val = t.val / 8 % 8 := Pipeline.Grid.coords_val t 0 (by decide) rfl
  rw [e, BitVec.toNat_ofNat]; omega
theorem coord1 (t : Fin cfg0.N) : (BitVec.ofNat 32 (grid0.coords t 1).val).toNat = t.val / 4 % 2 := by
  have e : (grid0.coords t 1).val = t.val / 4 % 2 := Pipeline.Grid.coords_val t 1 (by decide) rfl
  rw [e, BitVec.toNat_ofNat]; omega
theorem coord2 (t : Fin cfg0.N) : (BitVec.ofNat 32 (grid0.coords t 2).val).toNat = t.val % 4 := by
  have e : (grid0.coords t 2).val = t.val / 1 % 4 := Pipeline.Grid.coords_val t 2 (by decide) rfl
  rw [e, BitVec.toNat_ofNat]; omega

abbrev argQ : Vec Ideal S8x4096x4x128 .f32 := m ((c.tc : Thread nD τ).loc main_arg0)
abbrev argK : Vec Ideal S8x4096x2x128 .f32 := m ((c.tc : Thread nD τ).loc main_arg1)
abbrev argV : Vec Ideal S8x4096x2x128 .f32 := m ((c.tc : Thread nD τ).loc main_arg2)
abbrev argCK : Vec Ideal S8x2x512x2x128 .f32 := m ((c.tc : Thread nD τ).loc main_arg3)
abbrev argCV : Vec Ideal S8x2x512x2x128 .f32 := m ((c.tc : Thread nD τ).loc main_arg4)

theorem V_q : V m c main_v0 = shapeCast S8x4096x512 (argQ m c) shapeCasts_S8x4096x4x128_S8x4096x512 := by entry_read; rfl
theorem V_k : @Eq (Vec Ideal S8x4096x256 .bf16) (V m c main_v2) (truncf (F := Ideal) .bf16 (shapeCast S8x4096x256 (argK m c) shapeCasts_S8x4096x2x128_S8x4096x256) bitsLt_bf16_f32) := by entry_read; rfl
theorem V_v : @Eq (Vec Ideal S8x4096x256 .bf16) (V m c main_v4) (truncf (F := Ideal) .bf16 (shapeCast S8x4096x256 (argV m c) shapeCasts_S8x4096x2x128_S8x4096x256) bitsLt_bf16_f32) := by entry_read; rfl
theorem V_ck : V m c main_v5 = shapeCast S8x2x512x256 (argCK m c) shapeCasts_S8x2x512x2x128_S8x2x512x256 := by entry_read; rfl
theorem V_cv : V m c main_v6 = shapeCast S8x2x512x256 (argCV m c) shapeCasts_S8x2x512x2x128_S8x2x512x256 := by entry_read; rfl

/-- The query block of a point, at a column of either head. -/
theorem blk_q (t : Fin cfg0.N) (i : Fin 1024) (h : Fin 2) (d : Fin 128) :
    (iblk m c 0 t : Vec Ideal S1x1024x256 .f32) (ix3 0 i ⟨128 * h.val + d.val, by omega⟩)
      = argQ m c (ix4 (batch t) (qrow t i) ⟨2 * (khead t).val + h.val, by omega⟩ d) := by
  refine Eq.trans ?_ (cast_q (argQ m c) (batch t) (qrow t i) ⟨2 * (khead t).val + h.val, by omega⟩ d)
  rw [← V_q]
  unfold iblk
  rw [View.read_apply]
  show V m c main_v0 _ = V m c main_v0 _
  refine congrArg (V m c main_v0) (funext fun a => Fin.ext ?_)
  match a with
  | ⟨0, _⟩ => show (BitVec.ofNat 32 (grid0.coords t 0).val).toNat * 1 + 1 * 0 = t.val / 8; rw [coord0]; omega
  | ⟨1, _⟩ => show (BitVec.ofNat 32 (grid0.coords t 2).val).toNat * 1024 + 1 * i.val = 1024 * (t.val % 4) + i.val; rw [coord2]; omega
  | ⟨2, _⟩ => show (BitVec.ofNat 32 (grid0.coords t 1).val).toNat * 256 + 1 * (128 * h.val + d.val) = 128 * (2 * (t.val / 4 % 2) + h.val) + d.val; rw [coord1]; omega

theorem blk_k (t : Fin cfg0.N) (n : Fin 4096) (d : Fin 128) :
    (iblk m c 1 t : Vec Ideal S1x4096x128 .bf16) (ix3 0 n d) = argK m c (ix4 (batch t) n (khead t) d) := by
  refine Eq.trans ?_ (cast_k (argK m c) (batch t) n (khead t) d)
  have e : V m c main_v2 (ix3 (batch t) n ⟨128 * (khead t).val + d.val, by omega⟩) = shapeCast S8x4096x256 (argK m c) shapeCasts_S8x4096x2x128_S8x4096x256 (ix3 (batch t) n ⟨128 * (khead t).val + d.val, by omega⟩) := by
    exact congrFun (V_k m c) _
  rw [← e]
  unfold iblk
  rw [View.read_apply]
  show V m c main_v2 _ = V m c main_v2 _
  refine congrArg (V m c main_v2) (funext fun a => Fin.ext ?_)
  match a with
  | ⟨0, _⟩ => show (BitVec.ofNat 32 (grid0.coords t 0).val).toNat * 1 + 1 * 0 = t.val / 8; rw [coord0]; omega
  | ⟨1, _⟩ => show 0 * 4096 + 1 * n.val = n.val; omega
  | ⟨2, _⟩ => show (BitVec.ofNat 32 (grid0.coords t 1).val).toNat * 128 + 1 * d.val = 128 * (t.val / 4 % 2) + d.val; rw [coord1]; omega

theorem blk_v (t : Fin cfg0.N) (n : Fin 4096) (d : Fin 128) :
    (iblk m c 2 t : Vec Ideal S1x4096x128 .bf16) (ix3 0 n d) = argV m c (ix4 (batch t) n (khead t) d) := by
  refine Eq.trans ?_ (cast_k (argV m c) (batch t) n (khead t) d)
  have e : V m c main_v4 (ix3 (batch t) n ⟨128 * (khead t).val + d.val, by omega⟩) = shapeCast S8x4096x256 (argV m c) shapeCasts_S8x4096x2x128_S8x4096x256 (ix3 (batch t) n ⟨128 * (khead t).val + d.val, by omega⟩) := by
    exact congrFun (V_v m c) _
  rw [← e]
  unfold iblk
  rw [View.read_apply]
  show V m c main_v4 _ = V m c main_v4 _
  refine congrArg (V m c main_v4) (funext fun a => Fin.ext ?_)
  match a with
  | ⟨0, _⟩ => show (BitVec.ofNat 32 (grid0.coords t 0).val).toNat * 1 + 1 * 0 = t.val / 8; rw [coord0]; omega
  | ⟨1, _⟩ => show 0 * 4096 + 1 * n.val = n.val; omega
  | ⟨2, _⟩ => show (BitVec.ofNat 32 (grid0.coords t 1).val).toNat * 128 + 1 * d.val = 128 * (t.val / 4 % 2) + d.val; rw [coord1]; omega

theorem blk_ck (t : Fin cfg0.N) (n : Fin 512) (d : Fin 128) :
    (iblk m c 3 t : Vec Ideal S1x1x512x128 .f32) (ix4 0 0 n d) = argCK m c (ix5 (batch t) 0 n (khead t) d) := by
  refine Eq.trans ?_ (cast_c (argCK m c) (batch t) 0 n (khead t) d)
  rw [← V_ck]
  unfold iblk
  rw [View.read_apply]
  show V m c main_v5 _ = V m c main_v5 _
  refine congrArg (V m c main_v5) (funext fun a => Fin.ext ?_)
  match a with
  | ⟨0, _⟩ => show (BitVec.ofNat 32 (grid0.coords t 0).val).toNat * 1 + 1 * 0 = t.val / 8; rw [coord0]; omega
  | ⟨1, _⟩ => show 0 * 1 + 1 * 0 = 0; omega
  | ⟨2, _⟩ => show 0 * 512 + 1 * n.val = n.val; omega
  | ⟨3, _⟩ => show (BitVec.ofNat 32 (grid0.coords t 1).val).toNat * 128 + 1 * d.val = 128 * (t.val / 4 % 2) + d.val; rw [coord1]; omega

theorem blk_cv (t : Fin cfg0.N) (n : Fin 512) (d : Fin 128) :
    (iblk m c 4 t : Vec Ideal S1x1x512x128 .f32) (ix4 0 0 n d) = argCV m c (ix5 (batch t) 0 n (khead t) d) := by
  refine Eq.trans ?_ (cast_c (argCV m c) (batch t) 0 n (khead t) d)
  rw [← V_cv]
  unfold iblk
  rw [View.read_apply]
  show V m c main_v6 _ = V m c main_v6 _
  refine congrArg (V m c main_v6) (funext fun a => Fin.ext ?_)
  match a with
  | ⟨0, _⟩ => show (BitVec.ofNat 32 (grid0.coords t 0).val).toNat * 1 + 1 * 0 = t.val / 8; rw [coord0]; omega
  | ⟨1, _⟩ => show 0 * 1 + 1 * 0 = 0; omega
  | ⟨2, _⟩ => show 0 * 512 + 1 * n.val = n.val; omega
  | ⟨3, _⟩ => show (BitVec.ofNat 32 (grid0.coords t 1).val).toNat * 128 + 1 * d.val = 128 * (t.val / 4 % 2) + d.val; rw [coord1]; omega

theorem rows_k (t : Fin cfg0.N) (n : Fin 4608) (d : Fin 128) :
    rows (iblk m c 1 t) (iblk m c 3 t) n d = table (argK m c) (argCK m c) (batch t) (khead t) n d := by
  unfold rows table
  split
  · exact blk_k m c t _ d
  · exact blk_ck m c t _ d

theorem rows_v (t : Fin cfg0.N) (n : Fin 4608) (d : Fin 128) :
    rows (iblk m c 2 t) (iblk m c 4 t) n d = table (argV m c) (argCV m c) (batch t) (khead t) n d := by
  unfold rows table
  split
  · exact blk_v m c t _ d
  · exact blk_cv m c t _ d

/-! ## The launch's array -/

/-- The queries, the keys and the first cached layer's keys are finite. -/
structure Finite : Prop where
  q : ∀ b s h d, Fin1 (argQ m c (ix4 b s h d))
  k : ∀ b s g d, Fin1 (argK m c (ix4 b s g d))
  ck : ∀ b s g d, Fin1 (argCK m c (ix5 b 0 s g d))

variable (hf : Finite m c)
include hf

/-- The norm bound in scratch after any point is one real number on every lane. -/
theorem boundAt_real : (n : ℕ) → (hn : n < cfg0.N) → ∃ r : ℝ, ∀ l, boundAt m c n hn (ix2 0 l) = (r : EReal)
  | 0, hn => norm_real _ _ (fun n d => by rw [blk_k]; exact hf.k ..) (fun n d => by rw [blk_ck]; exact hf.ck ..)
  | n + 1, hn => by
    by_cases h : (n + 1) % 4 = 0
    · rw [boundAt_first m c ⟨n + 1, hn⟩ h]
      exact norm_real _ _ (fun n d => by rw [blk_k]; exact hf.k ..) (fun n d => by rw [blk_ck]; exact hf.ck ..)
    · rw [boundAt_later m c ⟨n + 1, hn⟩ h]
      exact boundAt_real n _

/-- What a point stores, entry by entry. -/
theorem outAt_apply (t : Fin cfg0.N) (i : Fin 1024) (h : Fin 2) (d : Fin 128) :
    outAt m c t (ix3 0 i ⟨128 * h.val + d.val, by omega⟩) = att m c (batch t) (qrow t i) ⟨2 * (khead t).val + h.val, by omega⟩ d := by
  obtain ⟨r, hr⟩ := boundAt_real m c hf t.val t.isLt
  have h0 : ∀ i e, Fin1 ((iblk m c 0 t : Vec Ideal S1x1024x256 .f32) (ix3 0 i e)) := fun i e => by
    have e' : e = ⟨128 * (⟨e.val / 128, by omega⟩ : Fin 2).val + (⟨e.val % 128, by omega⟩ : Fin 128).val, by dsimp only; omega⟩ := Fin.ext (by dsimp only; omega)
    rw [e', blk_q]
    exact hf.q ..
  obtain ⟨hA, hB⟩ := shiftOf_real (iblk m c 0 t) (iblk m c 1 t) (iblk m c 3 t) (boundAt m c t.val t.isLt) h0
    (fun n d => by rw [blk_k]; exact hf.k ..) (fun n d => by rw [blk_ck]; exact hf.ck ..) r hr
  have hk : ∀ n d, Fin1 (table (argK m c) (argCK m c) (batch t) (khead t) n d) := fun n d => by
    unfold table
    split
    · exact hf.k ..
    · exact hf.ck ..
  have hq : ∀ h d, Fin1 (argQ m c (ix4 (batch t) (qrow t i) h d)) := fun h d => hf.q ..
  choose μA hA using hA
  choose μB hB using hB
  have g2 : ∀ h : Fin 2, (⟨(⟨2 * (khead t).val + h.val, by omega⟩ : Fin 4).val / 2, by omega⟩ : Fin 2) = khead t := fun h => Fin.ext (by dsimp only; omega)
  unfold att
  rw [g2]
  match h with
  | ⟨0, _⟩ =>
    have e : outAt m c t (ix3 0 i ⟨128 * 0 + d.val, by omega⟩)
        = outA (headA (iblk m c 0 t)) (shiftOf (iblk m c 0 t) (iblk m c 1 t) (iblk m c 3 t) (boundAt m c t.val t.isLt))
          (accOf (iblk m c 0 t) (iblk m c 1 t) (iblk m c 2 t) (shiftOf (iblk m c 0 t) (iblk m c 1 t) (iblk m c 3 t) (boundAt m c t.val t.isLt)))
          (iblk m c 3 t) (iblk m c 4 t) (ix3 0 i d) := by
      unfold outAt outV
      exact besideA_apply _ _ i d
    refine e.trans ((outA_apply _ _ _ _ _ _ (fun i => (μA i : EReal)) hA i d).trans ?_)
    have es : ∀ n, scoreAll (k0_pay94 (headA (iblk m c 0 t))) (iblk m c 1 t) (iblk m c 3 t) i n
        = ∑ d : Fin 128, argQ m c (ix4 (batch t) (qrow t i) ⟨2 * (khead t).val + 0, by omega⟩ d) * ((scale : ℝ) : EReal) * table (argK m c) (argCK m c) (batch t) (khead t) n d := fun n => by
      unfold scoreAll
      refine Finset.sum_congr rfl fun d _ => ?_
      rw [pay94_apply, headA_apply, rows_k]
      refine congrArg (· * ((scale : ℝ) : EReal) * _) (Eq.trans ?_ (blk_q m c t i 0 d))
      exact congrArg (fun e : Fin 256 => (iblk m c 0 t : Vec Ideal S1x1024x256 .f32) (ix3 0 i e)) (Fin.ext (by simp))
    simp only [es, rows_v]
    exact Cert.Attention.entry_eq _ _ _ _ (hq _) hk
  | ⟨1, _⟩ =>
    have e : outAt m c t (ix3 0 i ⟨128 * 1 + d.val, by omega⟩)
        = outB (headB (iblk m c 0 t)) (shiftOf (iblk m c 0 t) (iblk m c 1 t) (iblk m c 3 t) (boundAt m c t.val t.isLt))
          (accOf (iblk m c 0 t) (iblk m c 1 t) (iblk m c 2 t) (shiftOf (iblk m c 0 t) (iblk m c 1 t) (iblk m c 3 t) (boundAt m c t.val t.isLt)))
          (iblk m c 3 t) (iblk m c 4 t) (ix3 0 i d) := by
      unfold outAt outV
      exact besideB_apply _ _ i d
    refine e.trans ((outB_apply _ _ _ _ _ _ (fun i => (μB i : EReal)) hB i d).trans ?_)
    have es : ∀ n, scoreAll (k0_pay95 (headB (iblk m c 0 t))) (iblk m c 1 t) (iblk m c 3 t) i n
        = ∑ d : Fin 128, argQ m c (ix4 (batch t) (qrow t i) ⟨2 * (khead t).val + 1, by omega⟩ d) * ((scale : ℝ) : EReal) * table (argK m c) (argCK m c) (batch t) (khead t) n d := fun n => by
      unfold scoreAll
      refine Finset.sum_congr rfl fun d _ => ?_
      rw [pay95_apply, headB_apply, rows_k]
      exact congrArg (· * ((scale : ℝ) : EReal) * _) (blk_q m c t i 1 d)
    simp only [es, rows_v]
    exact Cert.Attention.entry_eq _ _ _ _ (hq _) hk

/-- What a point writes back is its block of the array of attention entries. -/
theorem flushed_eq (t : Fin cfg0.N) : (dats m 0 c).flushed 5 t = (win0_5.blk t).view.read (Elt Ideal) (result m c) := by
  show (cfg0.win 5).cut (grid0.coords t) ((dats m 0 c).after 5 t) = _
  rw [after_5]
  funext y
  rw [View.read_apply]
  show outAt m c t y = result m c _
  have y1 : (y 1).val < 1024 := (y 1).isLt
  have y2 : (y 2).val < 256 := (y 2).isLt
  have ey : y = (ix3 0 ⟨(y 1).val, y1⟩ ⟨128 * (⟨(y 2).val / 128, by omega⟩ : Fin 2).val + (⟨(y 2).val % 128, by omega⟩ : Fin 128).val, by dsimp only; omega⟩ : S1x1024x256.Idx) := by
    funext a
    match a with
    | ⟨0, _⟩ => exact Fin.ext (by have h : (y 0).val < 1 := (y 0).isLt; show (y 0).val = 0; omega)
    | ⟨1, _⟩ => rfl
    | ⟨2, _⟩ => exact Fin.ext (by show (y 2).val = 128 * ((y 2).val / 128) + (y 2).val % 128; omega)
  have y0 : (y 0).val = 0 := by have h : (y 0).val < 1 := (y 0).isLt; omega
  refine ((congrArg (outAt m c t) ey).trans (outAt_apply m c hf t ⟨(y 1).val, y1⟩ ⟨(y 2).val / 128, by omega⟩ ⟨(y 2).val % 128, by omega⟩)).trans ?_
  unfold result
  have c0 : t.val / 8 = (BitVec.ofNat 32 (grid0.coords t 0).val).toNat * 1 + 1 * (y 0).val := by rw [coord0]; omega
  have c1 : 1024 * (t.val % 4) + (y 1).val = (BitVec.ofNat 32 (grid0.coords t 2).val).toNat * 1024 + 1 * (y 1).val := by rw [coord2]; omega
  have c2 : 2 * (t.val / 4 % 2) + (y 2).val / 128 = ((BitVec.ofNat 32 (grid0.coords t 1).val).toNat * 256 + 1 * (y 2).val) / 128 := by rw [coord1]; omega
  have c3 : (y 2).val % 128 = ((BitVec.ofNat 32 (grid0.coords t 1).val).toNat * 256 + 1 * (y 2).val) % 128 := by rw [coord1]; omega
  exact att_congr m c c0 c1 c2 c3

omit hf in
theorem mem_blk (t : Fin cfg0.N) (i : S8x4096x512.Idx) :
    i ∈ ((cfg0.win 5).blk t).view.set ↔ ((i 0).val = t.val / 8 ∧ (i 1).val / 1024 = t.val % 4 ∧ (i 2).val / 256 = t.val / 4 % 2) := by
  show i ∈ ((View.whole main_v7).slice (win0_5.rect t)).set ↔ _
  rw [View.set_slice_whole, Rect.mem_set_unit]
  have h0 : (i 0).val < 8 := (i 0).isLt
  have h1 : (i 1).val < 4096 := (i 1).isLt
  have h2 : (i 2).val < 512 := (i 2).isLt
  refine ⟨fun h => ?_, fun h a => ?_⟩
  · have k0 : (BitVec.ofNat 32 (grid0.coords t 0).val).toNat * 1 ≤ (i 0).val ∧ (i 0).val < (BitVec.ofNat 32 (grid0.coords t 0).val).toNat * 1 + 1 := h 0
    have k1 : (BitVec.ofNat 32 (grid0.coords t 2).val).toNat * 1024 ≤ (i 1).val ∧ (i 1).val < (BitVec.ofNat 32 (grid0.coords t 2).val).toNat * 1024 + 1024 := h 1
    have k2 : (BitVec.ofNat 32 (grid0.coords t 1).val).toNat * 256 ≤ (i 2).val ∧ (i 2).val < (BitVec.ofNat 32 (grid0.coords t 1).val).toNat * 256 + 256 := h 2
    rw [coord0] at k0; rw [coord2] at k1; rw [coord1] at k2
    omega
  · match a with
    | ⟨0, _⟩ => show (BitVec.ofNat 32 (grid0.coords t 0).val).toNat * 1 ≤ (i 0).val ∧ (i 0).val < (BitVec.ofNat 32 (grid0.coords t 0).val).toNat * 1 + 1
                rw [coord0]; omega
    | ⟨1, _⟩ => show (BitVec.ofNat 32 (grid0.coords t 2).val).toNat * 1024 ≤ (i 1).val ∧ (i 1).val < (BitVec.ofNat 32 (grid0.coords t 2).val).toNat * 1024 + 1024
                rw [coord2]; omega
    | ⟨2, _⟩ => show (BitVec.ofNat 32 (grid0.coords t 1).val).toNat * 256 ≤ (i 2).val ∧ (i 2).val < (BitVec.ofNat 32 (grid0.coords t 1).val).toNat * 256 + 256
                rw [coord1]; omega

omit hf in
/-- The points' blocks tile the result array. -/
theorem cover (i : S8x4096x512.Idx) : ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 512 := (i 2).isLt
  have hN : cfg0.N = 64 := N_0
  refine ⟨⟨8 * (i 0).val + 4 * ((i 2).val / 256) + (i 1).val / 1024, by omega⟩, flush0_5 _, ?_⟩
  rw [mem_blk]
  dsimp only
  omega

theorem final_eq : (dats m 0 c).arrAt 5 cfg0.N = result m c :=
  (dats m 0 c).arrAt_eq_of_cover 5 (result m c) (fun t _ => flushed_eq m c hf t) cover

omit hf in
/-- The run from memories whose queries and keys are finite: the result array holds the attention of the arguments. -/
theorem run_value (ρ : Dev nD → PrngReg) (hf : ∀ c, Finite m c) : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final_eq m c (hf c)), h.2.1 c⟩)
    (θ_run_and (run_main m ρ) (frame_run m ρ))

end Cert.KernelIdeal.Flash

end
-- ==== Proof.Flash.Reference.lean ====
/-
  The reference attention's result, entry by entry.
-/
module

public import proofs.«01_k».proof.Proof.Flash.Attention
public import proofs.«01_k».proof.Proof.Gen.ReferenceIdeal.Run
public import Idealize.ShloMosaic.Lib.Pointwise

@[expose] public section

set_option maxRecDepth 16384

noncomputable section

namespace Cert.ReferenceIdeal.Attend

open Idealize.ShloMosaic Idealize.ShloMosaic.TcCoe Idealize.SL.Sem
open Cert.ReferenceIdeal Cert.ReferenceIdeal.Gen Cert.ReferenceIdeal.Value
open Cert.Attention (table entry score top)
open Facts

/-- Fresh rows and the layer's cached rows, concatenated. -/
def rowsAll (K : FVec Ideal S8x4096x2x128 .f32) (C : FVec Ideal S8x2x512x2x128 .f32) : FVec Ideal S8x4608x2x128 .f32 :=
  concatenate S8x4608x2x128 1 [⟨S8x4096x2x128, K⟩, ⟨S8x512x2x128, (shapeCast _ (extractStridedSlice S8x1x512x2x128 ![0, 0, 0, 0, 0] C slices_S8x2x512x2x128_S8x1x512x2x128_0_0_0_0_0) shapeCasts_S8x1x512x2x128_S8x512x2x128)⟩] concatenates_S8x4096x2x128_S8x512x2x128_S8x4608x2x128_d1

def scores (Q : FVec Ideal S8x4096x4x128 .f32) (T : FVec Ideal S8x4608x2x128 .f32) : FVec Ideal S8x2x2x4096x4608 .f32 :=
  mulf (transpose S8x2x2x4096x4608 [0, 1, 4, 3, 2] (Host.dotGeneral dot_S8x4608x2x128_S8x4096x2x2x128_S8x2x4608x4096x2_3_4_1_13_02_02 none T (shapeCast _ Q shapeCasts_S8x4096x4x128_S8x4096x2x2x128)) transposes_S8x2x4608x4096x2_S8x2x2x4096x4608_0_1_4_3_2) (broadcastInDim S8x2x2x4096x4608 ![] bcast_S_S8x2x2x4096x4608 (Host.rsqrt (constant S_ .f32 0x43000000#32)))

def tops (S : FVec Ideal S8x2x2x4096x4608 .f32) : FVec Ideal S8x2x2x4096 .f32 :=
  maximumf (broadcastInDim S8x2x2x4096 ![] bcast_S_S8x2x2x4096 (constant S_ .f32 0xFF800000#32)) (Host.reduce FloatOps.maximumf S (constant S_ .f32 0xFF800000#32) reducesTo_S8x2x2x4096x4608_S8x2x2x4096_d4 h_S_)

def exps (S : FVec Ideal S8x2x2x4096x4608 .f32) (M : FVec Ideal S8x2x2x4096 .f32) : FVec Ideal S8x2x2x4096x4608 .f32 :=
  Host.exp (subf S (broadcastInDim S8x2x2x4096x4608 ![0, 1, 2, 3, 4] bcast_S8x2x2x4096x1_S8x2x2x4096x4608_0_1_2_3_4 (broadcastInDim S8x2x2x4096x1 ![0, 1, 2, 3] bcast_S8x2x2x4096_S8x2x2x4096x1_0_1_2_3 M)))

def probs (E : FVec Ideal S8x2x2x4096x4608 .f32) : FVec Ideal S8x2x2x4096x4608 .f32 :=
  Host.divf E (broadcastInDim S8x2x2x4096x4608 ![0, 1, 2, 3, 4] bcast_S8x2x2x4096x1_S8x2x2x4096x4608_0_1_2_3_4 (broadcastInDim S8x2x2x4096x1 ![0, 1, 2, 3] bcast_S8x2x2x4096_S8x2x2x4096x1_0_1_2_3 (Host.reduceAdd E (constant S_ .f32 0x00000000#32) reducesTo_S8x2x2x4096x4608_S8x2x2x4096_d4 h_S_)))

def mixed (T : FVec Ideal S8x4608x2x128 .f32) (P : FVec Ideal S8x2x2x4096x4608 .f32) : FVec Ideal S8x4096x512 .bf16 :=
  truncf .bf16 (shapeCast _ (transpose S8x4096x2x2x128 [0, 4, 1, 3, 2] (Host.dotGeneral dot_S8x4608x2x128_S8x2x2x4096x4608_S8x2x128x2x4096_1_4_3_23_02_01 none T P) transposes_S8x2x128x2x4096_S8x4096x2x2x128_0_4_1_3_2) shapeCasts_S8x4096x2x2x128_S8x4096x512) bitsLt_bf16_f32

theorem res_eq (m : (ℓ : Loc nD τ sig) → Buf (Elt Ideal) ℓ) (c : Dev nD) :
    res_main_v26 m c = mixed (rowsAll (m ((c.tc : Thread nD τ).loc main_arg2)) (m ((c.tc : Thread nD τ).loc main_arg4)))
      (probs (exps (scores (m ((c.tc : Thread nD τ).loc main_arg0)) (rowsAll (m ((c.tc : Thread nD τ).loc main_arg1)) (m ((c.tc : Thread nD τ).loc main_arg3))))
        (tops (scores (m ((c.tc : Thread nD τ).loc main_arg0)) (rowsAll (m ((c.tc : Thread nD τ).loc main_arg1)) (m ((c.tc : Thread nD τ).loc main_arg3))))))) := rfl

theorem rowsAll_apply (K : FVec Ideal S8x4096x2x128 .f32) (C : FVec Ideal S8x2x512x2x128 .f32) (b : Fin 8) (n : Fin 4608) (g : Fin 2) (d : Fin 128) :
    rowsAll K C (ix4 b n g d) = table K C b g n d := by
  have e : rowsAll K C (ix4 b n g d) = if h : n.val < 4096 then K (ix4 b ⟨n.val, h⟩ g d) else C (ix5 b 0 ⟨n.val - 4096, by have := n.isLt; omega⟩ g d) := by
    pointwise [rowsAll]
  exact e

theorem scores_apply (Q : FVec Ideal S8x4096x4x128 .f32) (T : FVec Ideal S8x4608x2x128 .f32) (b : Fin 8) (g r : Fin 2) (s : Fin 4096) (n : Fin 4608) :
    scores Q T (ix5 b g r s n) = (∑ d : Fin 128, T (ix4 b n g d) * Q (ix4 b s ⟨g.val * 2 + r.val, by omega⟩ d)) * Ideal.rsqrt (Ideal.ofBits .f32 0x43000000#32) := by
  pointwise [scores]

theorem reduces_last : S8x2x2x4096x4608.Reduces [4] S8x2x2x4096 := by decide

theorem reduce_max {N : Nat} (S : FVec Ideal ⟨5, ![8, 2, 2, 4096, N]⟩ .f32) (init : FVec Ideal S_ .f32) (h' : (⟨5, ![8, 2, 2, 4096, N]⟩ : Shape).ReducesTo [4] S8x2x2x4096)
    (h : (⟨5, ![8, 2, 2, 4096, N]⟩ : Shape).Reduces [4] S8x2x2x4096) (b : Fin 8) (g r : Fin 2) (s : Fin 4096) :
    Host.reduce (FloatOps.maximumf : Ideal .f32 → Ideal .f32 → Ideal .f32) S init h' h_S_ (ix4 b g r s)
      = (Finset.univ : Finset (Fin N)).fold (max : EReal → EReal → EReal) (init (Shape.Idx.first h_S_)) (fun n => S (ix5 b g r s n)) := by
  refine (Host.reduce_eq_fold_single (max : EReal → EReal → EReal) S init h' h h_S_ (ix4 b g r s)).trans ?_
  refine congrArg (fun f => (Finset.univ : Finset (Fin N)).fold (max : EReal → EReal → EReal) (init (Shape.Idx.first h_S_)) f) (funext fun n => congrArg S (funext fun a => ?_))
  match a with
  | ⟨0, _⟩ => rfl
  | ⟨1, _⟩ => rfl
  | ⟨2, _⟩ => rfl
  | ⟨3, _⟩ => rfl
  | ⟨4, _⟩ => rfl

theorem max_apply {s : Shape} (A B : FVec Ideal s .f32) (j : s.Idx) : maximumf A B j = max (A j : EReal) (B j) := rfl

theorem tops_apply (S : FVec Ideal S8x2x2x4096x4608 .f32) (b : Fin 8) (g r : Fin 2) (s : Fin 4096) :
    tops S (ix4 b g r s) = top (fun n => S (ix5 b g r s n)) := by
  have e1 : (constant S_ .f32 0xFF800000#32 : FVec Ideal S_ .f32) (Shape.Idx.first h_S_) = (⊥ : EReal) := Cert.KernelIdeal.Flash.bot_word
  have e2 : (broadcastInDim S8x2x2x4096 ![] bcast_S_S8x2x2x4096 (constant S_ .f32 0xFF800000#32 : FVec Ideal S_ .f32)) (ix4 b g r s) = (⊥ : EReal) := Cert.KernelIdeal.Flash.bot_word
  unfold tops top
  rw [max_apply, reduce_max S _ _ reduces_last, e1, e2]

theorem exps_apply (S : FVec Ideal S8x2x2x4096x4608 .f32) (M : FVec Ideal S8x2x2x4096 .f32) (b : Fin 8) (g r : Fin 2) (s : Fin 4096) (n : Fin 4608) :
    exps S M (ix5 b g r s n) = Ideal.exp (S (ix5 b g r s n) - M (ix4 b g r s)) := by
  pointwise [exps]

theorem probs_apply (E : FVec Ideal S8x2x2x4096x4608 .f32) (b : Fin 8) (g r : Fin 2) (s : Fin 4096) (n : Fin 4608) :
    probs E (ix5 b g r s n) = Ideal.div (E (ix5 b g r s n)) (∑ n : Fin 4608, E (ix5 b g r s n)) := by
  pointwise [probs]

theorem mixed_apply (T : FVec Ideal S8x4608x2x128 .f32) (P : FVec Ideal S8x2x2x4096x4608 .f32) (b : Fin 8) (s : Fin 4096) (g r : Fin 2) (d : Fin 128) :
    mixed T P (ix3 b s ⟨128 * (2 * g.val + r.val) + d.val, by omega⟩) = ∑ n : Fin 4608, T (ix4 b n g d) * P (ix5 b g r s n) := by
  pointwise [mixed]

theorem res_apply (m : (ℓ : Loc nD τ sig) → Buf (Elt Ideal) ℓ) (c : Dev nD) (b : Fin 8) (s : Fin 4096) (g r : Fin 2) (d : Fin 128) :
    res_main_v26 m c (ix3 b s ⟨128 * (2 * g.val + r.val) + d.val, by omega⟩)
      = entry (fun d => m ((c.tc : Thread nD τ).loc main_arg0) (ix4 b s ⟨2 * g.val + r.val, by omega⟩ d))
        (table (m ((c.tc : Thread nD τ).loc main_arg1)) (m ((c.tc : Thread nD τ).loc main_arg3)) b g)
        (fun n => table (m ((c.tc : Thread nD τ).loc main_arg2)) (m ((c.tc : Thread nD τ).loc main_arg4)) b g n d) := by
  have h2 : (⟨g.val * 2 + r.val, by omega⟩ : Fin 4) = ⟨2 * g.val + r.val, by omega⟩ := Fin.ext (by dsimp only; omega)
  rw [res_eq, mixed_apply]
  show (∑ n : Fin 4608, _ : EReal) = ∑ n : Fin 4608, _
  refine Finset.sum_congr rfl fun n _ => ?_
  rw [probs_apply]
  simp only [rowsAll_apply, exps_apply, tops_apply, scores_apply, h2]
  rfl

end Cert.ReferenceIdeal.Attend

end
-- ==== Proof.Flash.Precondition.lean ====
/-
  The precondition read at the queries, the keys and the layer's cached keys: they are finite.
-/
module

public import proofs.«01_k».proof.Defs
public import proofs.«01_k».proof.Proof.Flash.Array
public import proofs.«01_k».proof.Proof.Gen.Pre_finite_scores
public import Idealize.ShloMosaic.Lib.ReduceAll
public import Idealize.ShloMosaic.Lib.Pointwise

@[expose] public section

set_option maxRecDepth 16384

noncomputable section

namespace Cert.Pre_finite_scores.Read

open Idealize.ShloMosaic Idealize.ShloMosaic.TcCoe
open Cert.Pre_finite_scores Cert.Pre_finite_scores.Facts
open Cert.KernelIdeal.Flash (Fin1)

local instance : Facts := Cert.Pre_finite_scores.Gen.facts

instance : Subsingleton S_.Idx := ⟨fun a b => funext fun i => i.elim0⟩

/-- A word below the infinity in absolute value is a real number. -/
theorem fin1_of_cmp {x : EReal} (h : Ideal.cmp .olt (max x (-x)) (Ideal.ofBits .f32 0x7F800000#32) = 1#1) : Fin1 x := by
  have e : Ideal.ofBits .f32 0x7F800000#32 = ⊤ := by simp [Ideal.ofBits, Ideal.ieee]
  have h' : max x (-x) < ⊤ := by
    rw [e] at h
    by_contra hn
    simp [Ideal.cmp, hn] at h
  induction x using EReal.rec with
  | bot => exact absurd h' (by simp)
  | coe r => exact ⟨r, rfl⟩
  | top => exact absurd h' (by simp)

/-- An array whose `jnp.all(jnp.abs(x) < jnp.inf)` is one holds real numbers. -/
theorem all_finite {s : Shape} {axes : List (Fin s.rank)} (x : FVec Ideal s .f32) (hb : S_.BroadcastsInDim s (![] : Fin 0 → Fin s.rank)) (hr : s.ReducesTo axes S_) (j : S_.Idx)
    (e : Host.reduce IntOp.andi (cmpf .olt (Host.absf x) (broadcastInDim s ![] hb (constant S_ .f32 0x7F800000#32))) (constantI S_ 1 1#1) hr h_S_ j = 1#1) (i : s.Idx) : Fin1 (x i) :=
  fin1_of_cmp (Host.reduce_andi_all _ _ _ _ j e i)

theorem fn_finite (q : FVec Ideal S8x4096x4x128 .f32) (k v : FVec Ideal S8x4096x2x128 .f32) (ck cv : FVec Ideal S8x2x512x2x128 .f32)
    (h : fn (F := Ideal) q k v ck cv = fun _ => 1#1) :
    (∀ i, Fin1 (q i)) ∧ (∀ i, Fin1 (k i)) ∧ ∀ i, Fin1 ((shapeCast S8x512x2x128 (extractStridedSlice S8x1x512x2x128 ![0, 0, 0, 0, 0] ck slices_S8x2x512x2x128_S8x1x512x2x128_0_0_0_0_0) shapeCasts_S8x1x512x2x128_S8x512x2x128 : FVec Ideal S8x512x2x128 .f32) i) := by
  have h0 := congrFun h (fun i => i.elim0)
  obtain ⟨h1, hc⟩ := IntOp.andi_eq_one.1 h0
  obtain ⟨hq, hk⟩ := IntOp.andi_eq_one.1 h1
  exact ⟨all_finite _ _ _ _ hq, all_finite _ _ _ _ hk, all_finite _ _ _ _ hc⟩

theorem cached_apply (ck : FVec Ideal S8x2x512x2x128 .f32) (b : Fin 8) (s : Fin 512) (g : Fin 2) (d : Fin 128) :
    (shapeCast S8x512x2x128 (extractStridedSlice S8x1x512x2x128 ![0, 0, 0, 0, 0] ck slices_S8x2x512x2x128_S8x1x512x2x128_0_0_0_0_0) shapeCasts_S8x1x512x2x128_S8x512x2x128 : FVec Ideal S8x512x2x128 .f32) (ix4 b s g d)
      = ck (ix5 b 0 s g d) := by
  pointwise

theorem finite_of_pre (m : (ℓ : Loc Cert.KernelIdeal.nD Cert.KernelIdeal.τ Cert.KernelIdeal.sig) → Buf (Elt Ideal) ℓ)
    (h : Pre_KernelIdeal_finite_scores m) (c : Dev Cert.KernelIdeal.nD) : Cert.KernelIdeal.Flash.Finite m c :=
  have hc := fn_finite _ _ _ _ _ (h c)
  ⟨fun b s h d => hc.1 (ix4 b s h d), fun b s g d => hc.2.1 (ix4 b s g d), fun b s g d => by
    have e := hc.2.2 (ix4 b s g d)
    rw [cached_apply] at e
    exact e⟩

end Cert.Pre_finite_scores.Read

end
-- ==== Proof.Mlp.Formula.lean ====
/-
  One entry of the squared-ReLU feed-forward call as a formula over the extended reals: the scale and shift of the root-mean-square
  norm of a row, the two products by way of the hidden units, and a second norm gated onto the row.  The hidden units may be summed in blocks.
-/
module

public import Idealize.ShloMosaic.PureOps.Ideal

@[expose] public section

noncomputable section

namespace Cert.Mlp

open Idealize.ShloMosaic

/-- The factor that brings a row to unit root mean square. -/
def unitScale (v : Fin 1024 → EReal) : EReal :=
  Ideal.rsqrt (Ideal.div (∑ e : Fin 1024, v e * v e) (Ideal.ofBits .f32 0x44800000#32) + Ideal.ofBits .f32 0x358637BD#32)

/-- The row entering the products: normed, scaled and shifted. -/
def entering (x g s b : Fin 1024 → EReal) (e : Fin 1024) : EReal :=
  x e * unitScale x * g e * (Ideal.ofBits .f32 0x3F800000#32 + s e) + b e

/-- One hidden unit: the square of the positive part of a product. -/
def unit (h w : Fin 1024 → EReal) : EReal :=
  max (∑ e : Fin 1024, h e * w e) 0 * max (∑ e : Fin 1024, h e * w e) 0

/-- One entry of the result: the row plus its gated, normed product. -/
def entry (x y g s : Fin 1024 → EReal) (d : Fin 1024) : EReal :=
  x d + s d * (y d * unitScale y * g d)

/-- Block `j` of a sum over the hidden axis. -/
def blockSum (f : Fin 4096 → EReal) (j : ℕ) : EReal := ∑ k : Fin 1024, f ⟨(1024 * j + k.val) % 4096, Nat.mod_lt _ (by decide)⟩

/-- The blocks up to `j`, added one after the other onto zero. -/
def added (f : Fin 4096 → EReal) : ℕ → EReal
  | 0 => 0 + blockSum f 0
  | j + 1 => added f j + blockSum f (j + 1)

/-- A sum over the hidden axis is its four blocks added. -/
theorem added_all (f : Fin 4096 → EReal) : added f 3 = ∑ n : Fin 4096, f n := by
  have e : ∑ n : Fin 4096, f n = ∑ p : Fin 4 × Fin 1024, f ⟨(1024 * p.1.val + p.2.val) % 4096, Nat.mod_lt _ (by decide)⟩ := by
    refine (Fintype.sum_equiv (finProdFinEquiv : Fin 4 × Fin 1024 ≃ Fin (4 * 1024)) _ _ fun p => congrArg f (Fin.ext ?_)).symm
    show (1024 * p.1.val + p.2.val) % 4096 = p.2.val + 1024 * p.1.val
    omega
  rw [e, Fintype.sum_prod_type, Fin.sum_univ_four]
  simp only [added, zero_add]
  rfl

end Cert.Mlp

end
-- ==== Proof.Mlp.Block.lean ====
/-
  What one point of the feed-forward kernel computes from its blocks, entry by entry.
-/
module

public import proofs.«01_k».proof.Proof.Mlp.Formula
public import proofs.«01_k».proof.Proof.Gen.Kernel2Ideal.Value
public import Idealize.ShloMosaic.Lib.Pointwise
public import Idealize.ShloMosaic.Lib.Pipeline.ValueKit.Acc

@[expose] public section

set_option maxRecDepth 16384

noncomputable section

namespace Cert.Kernel2Ideal.Mlp

open Idealize.ShloMosaic Idealize.ShloMosaic.TcCoe Idealize.SL.Sem
open Cert.Kernel2Ideal.Gen
open Cert.Mlp (unitScale entering entry)

/-! ## The payloads -/

theorem zero_word : Ideal.ofBits .f32 0x00000000#32 = 0 := Ideal.ofBits_zero .f32

theorem pay1_apply (x : Vec Ideal S1x1024x1024 .f32) (g : Vec Ideal S1x1024 .f32) (s b : Vec Ideal S1x1x1024 .f32) (i d : Fin 1024) :
    k0_pay1 x g s b (ix2 i d)
      = x (ix3 0 i d) * Ideal.rsqrt (Ideal.div (∑ e : Fin 1024, x (ix3 0 i e) * x (ix3 0 i e)) (Ideal.ofBits .f32 0x44800000#32) + Ideal.ofBits .f32 0x358637BD#32)
        * (g (ix2 0 d) * (Ideal.ofBits .f32 0x3F800000#32 + s (ix3 0 0 d))) + b (ix3 0 0 d) := by
  pointwise [k0_pay1]

theorem pay2_apply (i d : Fin 1024) : k0_pay2 (F := Ideal) (ix2 i d) = 0 := by
  pointwise [k0_pay2]

theorem pay3_apply (h w1 : Vec Ideal S1024x1024 .bf16) (a : Vec Ideal S1024x1024 .f32) (w2 : Vec Ideal S1024x1024 .bf16) (i d : Fin 1024) :
    k0_pay3 h w1 a w2 (ix2 i d)
      = a (ix2 i d) + ∑ k : Fin 1024, max (∑ e : Fin 1024, h (ix2 i e) * w1 (ix2 e k)) (0 : EReal) * max (∑ e : Fin 1024, h (ix2 i e) * w1 (ix2 e k)) 0 * w2 (ix2 k d) := by
  pointwise [k0_pay3]

theorem pay4_apply (x : Vec Ideal S1x1024x1024 .f32) (a : Vec Ideal S1024x1024 .f32) (g : Vec Ideal S1x1024 .f32) (s : Vec Ideal S1x1x1024 .f32) (i d : Fin 1024) :
    k0_pay4 x a g s (ix3 0 i d)
      = x (ix3 0 i d) + a (ix2 i d) * Ideal.rsqrt (Ideal.div (∑ e : Fin 1024, a (ix2 i e) * a (ix2 i e)) (Ideal.ofBits .f32 0x44800000#32) + Ideal.ofBits .f32 0x358637BD#32)
        * (g (ix2 0 d) * s (ix3 0 0 d)) := by
  pointwise [k0_pay4]

variable (m : (ℓ : Loc nD τ sig) → Buf (Elt Ideal) ℓ) (c : Dev nD)

/-! ## What each point leaves: the entering rows, the accumulator and the output block -/

theorem ld_row (X : Vec Ideal S1x6x1024 .f32) (k : ℕ) (hk : k < 6) (inb) (d : Fin 1024) :
    View.ld X (Rect.unit (s := S1x6x1024) ![0, k, 0] ![1, 1, 1024] inb) (ix3 0 0 d) = X (ix3 0 ⟨k, hk⟩ d) := by
  refine congrArg X (funext fun a => Fin.ext ?_)
  match a with
  | ⟨0, _⟩ => rfl
  | ⟨1, _⟩ => show k + 1 * 0 = k; omega
  | ⟨2, _⟩ => show 0 + 1 * d.val = d.val; omega

/-- The input blocks of a point, at their shapes. -/
abbrev blkX (t : Fin cfg0.N) : Vec Ideal S1x1024x1024 .f32 := iblk m c 0 t
abbrev blkM (t : Fin cfg0.N) : Vec Ideal S1x6x1024 .f32 := iblk m c 1 t
abbrev blkG (t : Fin cfg0.N) : Vec Ideal S1x1024 .f32 := iblk m c 2 t
abbrev blkA (t : Fin cfg0.N) : Vec Ideal S1024x1024 .bf16 := iblk m c 3 t
abbrev blkB (t : Fin cfg0.N) : Vec Ideal S1024x1024 .bf16 := iblk m c 4 t
abbrev blkP (t : Fin cfg0.N) : Vec Ideal S1x1024 .f32 := iblk m c 5 t

/-- The rows and the accumulator after a point. -/
def hid (n : ℕ) (hn : n < cfg0.N) : Vec Ideal S1024x1024 .bf16 := (outsAt0 m c n hn).2.1
def acc (n : ℕ) (hn : n < cfg0.N) : Vec Ideal S1024x1024 .f32 := (outsAt0 m c n hn).2.2

theorem pred_lt (t : Fin cfg0.N) : t.val - 1 < cfg0.N := Nat.lt_of_le_of_lt (Nat.sub_le _ _) t.isLt

/-- Scratch held at given contents reads as them. -/
theorem held0 (h : scM0_0.IsWhole) (x : Vec Ideal S1024x1024 .bf16) : View.read (Elt Ideal) (View.whole cc0_scratch0) (h.unread x) = x := h.read_unread x
theorem held1 (h : scM0_1.IsWhole) (x : Vec Ideal S1024x1024 .f32) : View.read (Elt Ideal) (View.whole cc0_scratch1) (h.unread x) = x := h.read_unread x

theorem hid_first (t : Fin cfg0.N) (h0 : t.val % 4 = 0) :
    hid m c t.val t.isLt = k0_pay1 (blkX m c t) (blkG m c t)
      (View.ld (blkM m c t) (Rect.unit ![0, 4, 0] ![1, 1, 1024] inb_S1x6x1024_S1x1x1024_0_4_0))
      (View.ld (blkM m c t) (Rect.unit ![0, 3, 0] ![1, 1, 1024] inb_S1x6x1024_S1x1x1024_0_3_0)) := by
  unfold hid
  rw [outsAt0_A m c t h0 (by omega)]
  frame_out

theorem hid_later (t : Fin cfg0.N) (h0 : ¬ t.val % 4 = 0) : hid m c t.val t.isLt = hid m c (t.val - 1) (pred_lt t) := by
  unfold hid
  by_cases h1 : t.val % 4 = 3
  · rw [outsAt0_C m c t h0 h1]; rfl
  · rw [outsAt0_B m c t h0 h1]; rfl

theorem acc_first (t : Fin cfg0.N) (h0 : t.val % 4 = 0) :
    acc m c t.val t.isLt = k0_pay3 (hid m c t.val t.isLt) (blkA m c t) (k0_pay2 (F := Ideal)) (blkB m c t) := by
  rw [hid_first m c t h0]
  unfold acc
  rw [outsAt0_A m c t h0 (by omega)]
  frame_out

theorem acc_later (t : Fin cfg0.N) (h0 : ¬ t.val % 4 = 0) :
    acc m c t.val t.isLt = k0_pay3 (hid m c t.val t.isLt) (blkA m c t) (acc m c (t.val - 1) (pred_lt t)) (blkB m c t) := by
  rw [hid_later m c t h0]
  unfold acc hid
  by_cases h1 : t.val % 4 = 3
  · rw [outsAt0_C m c t h0 h1]; frame_out; rw [held0, held1]
  · rw [outsAt0_B m c t h0 h1]; frame_out; rw [held0, held1]

theorem out_last (t : Fin cfg0.N) (h1 : t.val % 4 = 3) :
    (outsAt0 m c t.val t.isLt).1 = k0_pay4 (blkX m c t) (acc m c t.val t.isLt) (blkP m c t)
      (View.ld (blkM m c t) (Rect.unit ![0, 5, 0] ![1, 1, 1024] inb_S1x6x1024_S1x1x1024_0_5_0)) := by
  rw [acc_later m c t (by omega), hid_later m c t (by omega)]
  unfold acc hid
  rw [outsAt0_C m c t (by omega) h1]
  frame_out
  rw [held0, held1]

end Cert.Kernel2Ideal.Mlp

end
-- ==== Proof.Mlp.Array.lean ====
/-
  The kernel's blocks read back to the argument arrays, and the array the launch leaves: every entry is the formula's.
-/
module

public import proofs.«01_k».proof.Proof.Mlp.Block

@[expose] public section

set_option maxRecDepth 16384

noncomputable section

namespace Cert.Kernel2Ideal.Mlp

open Idealize.ShloMosaic Idealize.ShloMosaic.TcCoe Idealize.SL.Sem
open Idealize.ShloMosaic.Pipeline (Dat)
open Cert.Kernel2Ideal.Gen
open Cert.Mlp (unitScale entering unit entry blockSum added added_all)

/-! ## The blocks of the argument arrays -/

theorem cast_mod (x : Vec Ideal S8x6144 .f32) (b : Fin 8) (k : Fin 6) (d : Fin 1024) :
    shapeCast S8x6x1024 x shapeCasts_S8x6144_S8x6x1024 (ix3 b k d) = x (ix2 b ⟨1024 * k.val + d.val, by omega⟩) := by
  pointwise
  exact congrArg (fun e : Fin 6144 => x (ix2 b e)) (Fin.ext (by dsimp only; omega))

theorem cast_row (x : Vec Ideal S1024 .f32) (d : Fin 1024) : shapeCast S1x1024 x shapeCasts_S1024_S1x1024 (ix2 0 d) = x (ix1 d) := by
  pointwise

variable (m : (ℓ : Loc nD τ sig) → Buf (Elt Ideal) ℓ) (c : Dev nD)

abbrev argX : Vec Ideal S8x4096x1024 .f32 := m ((c.tc : Thread nD τ).loc main_arg0)
abbrev argM : Vec Ideal S8x6144 .f32 := m ((c.tc : Thread nD τ).loc main_arg1)
abbrev argG : Vec Ideal S1024 .f32 := m ((c.tc : Thread nD τ).loc main_arg2)
abbrev argA : Vec Ideal S1024x4096 .f32 := m ((c.tc : Thread nD τ).loc main_arg3)
abbrev argB : Vec Ideal S4096x1024 .f32 := m ((c.tc : Thread nD τ).loc main_arg4)
abbrev argP : Vec Ideal S1024 .f32 := m ((c.tc : Thread nD τ).loc main_arg5)

/-- The batch element of a point, a row of its tile, and a hidden unit of its block. -/
def batch (t : Fin cfg0.N) : Fin 8 := ⟨t.val / 16, by have := Nat.lt_of_lt_of_eq t.isLt N_0; omega⟩
def row (t : Fin cfg0.N) (i : Fin 1024) : Fin 4096 := ⟨1024 * (t.val / 4 % 4) + i.val, by omega⟩
def unitOf (t : Fin cfg0.N) (k : Fin 1024) : Fin 4096 := ⟨(1024 * (t.val % 4) + k.val) % 4096, Nat.mod_lt _ (by decide)⟩

theorem coord0 (t : Fin cfg0.N) : (BitVec.ofNat 32 (grid0.coords t 0).val).toNat = t.val / 16 := by
  have ht : t.val < 128 := Nat.lt_of_lt_of_eq t.isLt N_0
  have e : (grid0.coords t 0).val = t.val / 16 % 8 := Pipeline.Grid.coords_val t 0 (by decide) rfl
  rw [e, BitVec.toNat_ofNat]; omega
theorem coord1 (t : Fin cfg0.N) : (BitVec.ofNat 32 (grid0.coords t 1).val).toNat = t.val / 4 % 4 := by
  have e : (grid0.coords t 1).val = t.val / 4 % 4 := Pipeline.Grid.coords_val t 1 (by decide) rfl
  rw [e, BitVec.toNat_ofNat]; omega
theorem coord2 (t : Fin cfg0.N) : (BitVec.ofNat 32 (grid0.coords t 2).val).toNat = t.val % 4 := by
  have e : (grid0.coords t 2).val = t.val / 1 % 4 := Pipeline.Grid.coords_val t 2 (by decide) rfl
  rw [e, BitVec.toNat_ofNat]; omega

theorem V_x : V m c main_arg0 = argX m c := by entry_read; rfl
theorem V_m : V m c main_v0 = shapeCast S8x6x1024 (argM m c) shapeCasts_S8x6144_S8x6x1024 := by entry_read; rfl
theorem V_a : @Eq (Vec Ideal S1024x4096 .bf16) (V m c main_v1) (truncf (F := Ideal) .bf16 (argA m c) bitsLt_bf16_f32) := by entry_read; rfl
theorem V_b : @Eq (Vec Ideal S4096x1024 .bf16) (V m c main_v2) (truncf (F := Ideal) .bf16 (argB m c) bitsLt_bf16_f32) := by entry_read; rfl
theorem V_g : V m c main_v3 = shapeCast S1x1024 (argG m c) shapeCasts_S1024_S1x1024 := by entry_read; rfl
theorem V_p : V m c main_v4 = shapeCast S1x1024 (argP m c) shapeCasts_S1024_S1x1024 := by entry_read; rfl

theorem blkX_apply (t : Fin cfg0.N) (i d : Fin 1024) : blkX m c t (ix3 0 i d) = argX m c (ix3 (batch t) (row t i) d) := by
  rw [← V_x]
  unfold blkX iblk
  rw [View.read_apply]
  show V m c main_arg0 _ = V m c main_arg0 _
  refine congrArg (V m c main_arg0) (funext fun a => Fin.ext ?_)
  match a with
  | ⟨0, _⟩ => show (BitVec.ofNat 32 (grid0.coords t 0).val).toNat * 1 + 1 * 0 = t.val / 16; rw [coord0]; omega
  | ⟨1, _⟩ => show (BitVec.ofNat 32 (grid0.coords t 1).val).toNat * 1024 + 1 * i.val = 1024 * (t.val / 4 % 4) + i.val; rw [coord1]; omega
  | ⟨2, _⟩ => show 0 * 1024 + 1 * d.val = d.val; omega

theorem blkM_apply (t : Fin cfg0.N) (k : Fin 6) (d : Fin 1024) : blkM m c t (ix3 0 k d) = argM m c (ix2 (batch t) ⟨1024 * k.val + d.val, by omega⟩) := by
  refine Eq.trans ?_ (cast_mod (argM m c) (batch t) k d)
  rw [← V_m]
  unfold blkM iblk
  rw [View.read_apply]
  show V m c main_v0 _ = V m c main_v0 _
  refine congrArg (V m c main_v0) (funext fun a => Fin.ext ?_)
  match a with
  | ⟨0, _⟩ => show (BitVec.ofNat 32 (grid0.coords t 0).val).toNat * 1 + 1 * 0 = t.val / 16; rw [coord0]; omega
  | ⟨1, _⟩ => show 0 * 6 + 1 * k.val = k.val; omega
  | ⟨2, _⟩ => show 0 * 1024 + 1 * d.val = d.val; omega

theorem blkG_apply (t : Fin cfg0.N) (d : Fin 1024) : blkG m c t (ix2 0 d) = argG m c (ix1 d) := by
  refine Eq.trans ?_ (cast_row (argG m c) d)
  rw [← V_g]
  unfold blkG iblk
  rw [View.read_apply]
  show V m c main_v3 _ = V m c main_v3 _
  refine congrArg (V m c main_v3) (funext fun a => Fin.ext ?_)
  match a with
  | ⟨0, _⟩ => show 0 * 1 + 1 * 0 = 0; omega
  | ⟨1, _⟩ => show 0 * 1024 + 1 * d.val = d.val; omega

theorem blkP_apply (t : Fin cfg0.N) (d : Fin 1024) : blkP m c t (ix2 0 d) = argP m c (ix1 d) := by
  refine Eq.trans ?_ (cast_row (argP m c) d)
  rw [← V_p]
  unfold blkP iblk
  rw [View.read_apply]
  show V m c main_v4 _ = V m c main_v4 _
  refine congrArg (V m c main_v4) (funext fun a => Fin.ext ?_)
  match a with
  | ⟨0, _⟩ => show 0 * 1 + 1 * 0 = 0; omega
  | ⟨1, _⟩ => show 0 * 1024 + 1 * d.val = d.val; omega

theorem blkA_apply (t : Fin cfg0.N) (e k : Fin 1024) : blkA m c t (ix2 e k) = argA m c (ix2 e (unitOf t k)) := by
  have h : V m c main_v1 (ix2 e (unitOf t k)) = argA m c (ix2 e (unitOf t k)) := congrFun (V_a m c) _
  rw [← h]
  unfold blkA iblk
  rw [View.read_apply]
  show V m c main_v1 _ = V m c main_v1 _
  refine congrArg (V m c main_v1) (funext fun a => Fin.ext ?_)
  match a with
  | ⟨0, _⟩ => show 0 * 1024 + 1 * e.val = e.val; omega
  | ⟨1, _⟩ => show (BitVec.ofNat 32 (grid0.coords t 2).val).toNat * 1024 + 1 * k.val = (1024 * (t.val % 4) + k.val) % 4096; rw [coord2]; omega

theorem blkB_apply (t : Fin cfg0.N) (k d : Fin 1024) : blkB m c t (ix2 k d) = argB m c (ix2 (unitOf t k) d) := by
  have h : V m c main_v2 (ix2 (unitOf t k) d) = argB m c (ix2 (unitOf t k) d) := congrFun (V_b m c) _
  rw [← h]
  unfold blkB iblk
  rw [View.read_apply]
  show V m c main_v2 _ = V m c main_v2 _
  refine congrArg (V m c main_v2) (funext fun a => Fin.ext ?_)
  match a with
  | ⟨0, _⟩ => show (BitVec.ofNat 32 (grid0.coords t 2).val).toNat * 1024 + 1 * k.val = (1024 * (t.val % 4) + k.val) % 4096; rw [coord2]; omega
  | ⟨1, _⟩ => show 0 * 1024 + 1 * d.val = d.val; omega

/-! ## The launch's array -/

/-- Row `k` of the modulation of a batch element. -/
def modRow (b : Fin 8) (k : Fin 6) (d : Fin 1024) : EReal := argM m c (ix2 b ⟨1024 * k.val + d.val, by omega⟩)

/-- The row entering the products at one position. -/
def entered (b : Fin 8) (s : Fin 4096) : Fin 1024 → EReal :=
  entering (fun e => argX m c (ix3 b s e)) (fun e => argG m c (ix1 e)) (modRow m c b 4) (modRow m c b 3)

/-- The contribution of one hidden unit to a column of the second product. -/
def term (b : Fin 8) (s : Fin 4096) (d : Fin 1024) (n : Fin 4096) : EReal :=
  unit (entered m c b s) (fun e => argA m c (ix2 e n)) * argB m c (ix2 n d)

/-- One entry of the result. -/
def value (b : Fin 8) (s : Fin 4096) (d : Fin 1024) : EReal :=
  entry (fun e => argX m c (ix3 b s e)) (fun e => ∑ n : Fin 4096, term m c b s e n) (fun e => argP m c (ix1 e)) (modRow m c b 5) d

/-- The array of the results. -/
def result : Buf (Elt Ideal) ((c.tc : Thread nD τ).loc main_v5) := fun y : S8x4096x1024.Idx =>
  value m c ⟨(y 0).val, (y 0).isLt⟩ ⟨(y 1).val, (y 1).isLt⟩ ⟨(y 2).val, (y 2).isLt⟩

theorem value_congr {b b' : Fin 8} {s s' : Fin 4096} {d d' : Fin 1024} (eb : b.val = b'.val) (es : s.val = s'.val) (ed : d.val = d'.val) :
    value m c b s d = value m c b' s' d' := by
  rw [Fin.ext eb, Fin.ext es, Fin.ext ed]

/-- The rows in scratch after any point are its tile's entering rows. -/
theorem hid_apply : (n : ℕ) → (hn : n < cfg0.N) → (i d : Fin 1024) → hid m c n hn (ix2 i d) = entered m c (batch ⟨n, hn⟩) (row ⟨n, hn⟩ i) d := by
  intro n
  induction n using Nat.strong_induction_on with
  | _ n ih =>
    intro hn i d
    by_cases h0 : n % 4 = 0
    · refine (congrFun (hid_first m c ⟨n, hn⟩ h0) _).trans ?_
      rw [pay1_apply, ld_row _ 4 (by decide), ld_row _ 3 (by decide)]
      simp only [blkX_apply, blkG_apply, blkM_apply]
      unfold entered entering unitScale
      rw [mul_assoc (_ * _) (argG m c (ix1 d))]
      rfl
    · refine (congrFun (hid_later m c ⟨n, hn⟩ h0) _).trans ((ih (n - 1) (by omega) _ i d).trans ?_)
      have eb : batch ⟨n - 1, pred_lt ⟨n, hn⟩⟩ = batch ⟨n, hn⟩ := Fin.ext (by show (n - 1) / 16 = n / 16; omega)
      have er : row ⟨n - 1, pred_lt ⟨n, hn⟩⟩ i = row ⟨n, hn⟩ i := Fin.ext (by show 1024 * ((n - 1) / 4 % 4) + i.val = 1024 * (n / 4 % 4) + i.val; omega)
      rw [← eb, ← er]

/-- The second product's contribution at a point is its block of hidden units. -/
theorem step_apply (t : Fin cfg0.N) (i d : Fin 1024) (a : Vec Ideal S1024x1024 .f32) :
    k0_pay3 (hid m c t.val t.isLt) (blkA m c t) a (blkB m c t) (ix2 i d) = a (ix2 i d) + blockSum (term m c (batch t) (row t i) d) (t.val % 4) := by
  rw [pay3_apply]
  simp only [hid_apply, blkA_apply, blkB_apply]
  rfl

/-- The accumulator after any point holds the blocks of hidden units so far. -/
theorem acc_apply : (n : ℕ) → (hn : n < cfg0.N) → (i d : Fin 1024) → acc m c n hn (ix2 i d) = added (term m c (batch ⟨n, hn⟩) (row ⟨n, hn⟩ i) d) (n % 4) := by
  intro n
  induction n using Nat.strong_induction_on with
  | _ n ih =>
    intro hn i d
    by_cases h0 : n % 4 = 0
    · refine (congrFun (acc_first m c ⟨n, hn⟩ h0) _).trans ((step_apply m c ⟨n, hn⟩ i d _).trans ?_)
      rw [pay2_apply, h0]
      rfl
    · refine (congrFun (acc_later m c ⟨n, hn⟩ h0) _).trans ((step_apply m c ⟨n, hn⟩ i d _).trans ?_)
      rw [ih (n - 1) (by omega)]
      have eb : batch ⟨n - 1, pred_lt ⟨n, hn⟩⟩ = batch ⟨n, hn⟩ := Fin.ext (by show (n - 1) / 16 = n / 16; omega)
      have er : row ⟨n - 1, pred_lt ⟨n, hn⟩⟩ i = row ⟨n, hn⟩ i := Fin.ext (by show 1024 * ((n - 1) / 4 % 4) + i.val = 1024 * (n / 4 % 4) + i.val; omega)
      have en : n % 4 = (n - 1) % 4 + 1 := by omega
      show added (term m c (batch ⟨n - 1, pred_lt ⟨n, hn⟩⟩) (row ⟨n - 1, pred_lt ⟨n, hn⟩⟩ i) d) ((n - 1) % 4) + blockSum _ (n % 4) = _
      rw [eb, er, en]
      rfl

/-- What the last point of a tile stores, entry by entry. -/
theorem out_apply (t : Fin cfg0.N) (h1 : t.val % 4 = 3) (i d : Fin 1024) :
    (outsAt0 m c t.val t.isLt).1 (ix3 0 i d) = value m c (batch t) (row t i) d := by
  rw [out_last m c t h1, pay4_apply, ld_row _ 5 (by decide)]
  simp only [blkX_apply, blkP_apply, blkM_apply, acc_apply, h1, added_all]
  unfold value entry unitScale
  rw [mul_comm (modRow m c (batch t) 5 d), mul_assoc (_ * _) (argP m c (ix1 d))]
  rfl

/-- What a tile's last point writes back is its block of the array. -/
theorem flushed_eq (t : Fin cfg0.N) (hf : (cfg0.win 6).flush t = true) : (dats m 0 c).flushed 6 t = (win0_6.blk t).view.read (Elt Ideal) (result m c) := by
  have h1 : t.val % 4 = 3 := (flush0_6 t).mp hf
  rw [Value.flushed6]
  funext y
  rw [View.read_apply]
  show (outsAt0 m c t.val t.isLt).1 y = result m c _
  have y0 : (y 0).val < 1 := (y 0).isLt
  have y1 : (y 1).val < 1024 := (y 1).isLt
  have y2 : (y 2).val < 1024 := (y 2).isLt
  have ey : y = (ix3 0 ⟨(y 1).val, y1⟩ ⟨(y 2).val, y2⟩ : S1x1024x1024.Idx) := by
    funext a
    match a with
    | ⟨0, _⟩ => exact Fin.ext (by show (y 0).val = 0; omega)
    | ⟨1, _⟩ => rfl
    | ⟨2, _⟩ => rfl
  refine ((congrArg (outsAt0 m c t.val t.isLt).1 ey).trans (out_apply m c t h1 ⟨(y 1).val, y1⟩ ⟨(y 2).val, y2⟩)).trans ?_
  have c0 : t.val / 16 = (BitVec.ofNat 32 (grid0.coords t 0).val).toNat * 1 + 1 * (y 0).val := by rw [coord0]; omega
  have c1 : 1024 * (t.val / 4 % 4) + (y 1).val = (BitVec.ofNat 32 (grid0.coords t 1).val).toNat * 1024 + 1 * (y 1).val := by rw [coord1]; omega
  have c2 : (y 2).val = 0 * 1024 + 1 * (y 2).val := by omega
  exact value_congr m c c0 c1 c2

theorem final_eq : (dats m 0 c).arrAt 6 cfg0.N = result m c :=
  (dats m 0 c).arrAt_eq_of_cover 6 (result m c) (fun t hf => flushed_eq m c t hf) (fun i => (Value.covered_iff6 i).2
    (by have h0 : (i 0).val < 8 := (i 0).isLt; have h1 : (i 1).val < 4096 := (i 1).isLt; have h2 : (i 2).val < 1024 := (i 2).isLt; omega))

/-- The run: the result array holds the formula's entries, and the arguments are as they were. -/
theorem run_value (ρ : Dev nD → PrngReg) : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_eq m c), (h c).2⟩) (Value.run_blocks m ρ)

end Cert.Kernel2Ideal.Mlp

end
-- ==== Proof.Mlp.Reference.lean ====
/-
  The reference feed-forward's result, entry by entry.
-/
module

public import proofs.«01_k».proof.Proof.Mlp.Formula
public import proofs.«01_k».proof.Proof.Gen.Reference2Ideal.Run
public import Idealize.ShloMosaic.Lib.Pointwise

@[expose] public section

set_option maxRecDepth 16384

noncomputable section

namespace Cert.Reference2Ideal.Mlp

open Idealize.ShloMosaic Idealize.ShloMosaic.TcCoe Idealize.SL.Sem
open Cert.Reference2Ideal Cert.Reference2Ideal.Gen Cert.Reference2Ideal.Value
open Cert.Mlp (unitScale entering unit entry)
open Facts

/-- A row brought to unit root mean square and scaled by the learned weights. -/
def normed (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))

def rowsIn (Y : FVec Ideal S8x4096x1024 .f32) (M : FVec Ideal S8x6144 .f32) : FVec Ideal S8x4096x1024 .f32 :=
  addf (mulf Y (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 M) slices_S8x1x6144_S8x1x1024_0_0_4096)))) (broadcastInDim S8x4096x1024 ![0, 1, 2] bcast_S8x1x1024_S8x4096x1024_0_1_2 (extractStridedSlice S8x1x1024 ![0, 0, 3072] (broadcastInDim S8x1x6144 ![0, 2] bcast_S8x6144_S8x1x6144_0_2 M) slices_S8x1x6144_S8x1x1024_0_0_3072))

def units (H : FVec Ideal S8x4096x1024 .f32) (A : FVec Ideal S1024x4096 .f32) : FVec Ideal S8x4096x4096 .f32 :=
  maximumf (Host.dotGeneral dot_S8x4096x1024_S1024x4096_S8x4096x4096_2_0_01_1_n_n none H A) (broadcastInDim S8x4096x4096 ![] bcast_S_S8x4096x4096 (constant S_ .f32 0x00000000#32))

def products (U : FVec Ideal S8x4096x4096 .f32) (B : FVec Ideal S4096x1024 .f32) : FVec Ideal S8x4096x1024 .f32 :=
  Host.dotGeneral dot_S8x4096x4096_S4096x1024_S8x4096x1024_2_0_01_1_n_n none (mulf U U) B

def gated (X : FVec Ideal S8x4096x1024 .f32) (M : FVec Ideal S8x6144 .f32) (N : FVec Ideal S8x4096x1024 .f32) : FVec Ideal S8x4096x1024 .f32 :=
  addf X (mulf (broadcastInDim S8x4096x1024 ![0, 1, 2] bcast_S8x1x1024_S8x4096x1024_0_1_2 (extractStridedSlice S8x1x1024 ![0, 0, 5120] (broadcastInDim S8x1x6144 ![0, 2] bcast_S8x6144_S8x1x6144_0_2 M) slices_S8x1x6144_S8x1x1024_0_0_5120)) N)

theorem res_eq (m : (ℓ : Loc nD τ sig) → Buf (Elt Ideal) ℓ) (c : Dev nD) :
    res_main_v45 m c = gated (m ((c.tc : Thread nD τ).loc main_arg0)) (m ((c.tc : Thread nD τ).loc main_arg1))
      (normed (products (units (rowsIn (normed (m ((c.tc : Thread nD τ).loc main_arg0)) (m ((c.tc : Thread nD τ).loc main_arg2))) (m ((c.tc : Thread nD τ).loc main_arg1)))
        (m ((c.tc : Thread nD τ).loc main_arg3))) (m ((c.tc : Thread nD τ).loc main_arg4))) (m ((c.tc : Thread nD τ).loc main_arg5))) := rfl

theorem normed_apply (X : FVec Ideal S8x4096x1024 .f32) (G : FVec Ideal S1024 .f32) (b : Fin 8) (s : Fin 4096) (d : Fin 1024) :
    normed X G (ix3 b s d) = X (ix3 b s d) * Ideal.rsqrt (Ideal.div (∑ e : Fin 1024, X (ix3 b s e) * X (ix3 b s e)) (Ideal.ofBits .f32 0x44800000#32) + Ideal.ofBits .f32 0x358637BD#32) * G (ix1 d) := by
  pointwise [normed]

theorem rowsIn_apply (Y : FVec Ideal S8x4096x1024 .f32) (M : FVec Ideal S8x6144 .f32) (b : Fin 8) (s : Fin 4096) (d : Fin 1024) :
    rowsIn Y M (ix3 b s d) = Y (ix3 b s d) * (Ideal.ofBits .f32 0x3F800000#32 + M (ix2 b ⟨4096 + d.val, by omega⟩)) + M (ix2 b ⟨3072 + d.val, by omega⟩) := by
  pointwise [rowsIn]

theorem units_apply (H : FVec Ideal S8x4096x1024 .f32) (A : FVec Ideal S1024x4096 .f32) (b : Fin 8) (s n : Fin 4096) :
    units H A (ix3 b s n) = max (∑ e : Fin 1024, H (ix3 b s e) * A (ix2 e n)) (0 : EReal) := by
  pointwise [units]

theorem products_apply (U : FVec Ideal S8x4096x4096 .f32) (B : FVec Ideal S4096x1024 .f32) (b : Fin 8) (s : Fin 4096) (d : Fin 1024) :
    products U B (ix3 b s d) = ∑ n : Fin 4096, U (ix3 b s n) * U (ix3 b s n) * B (ix2 n d) := by
  pointwise [products]

theorem gated_apply (X : FVec Ideal S8x4096x1024 .f32) (M : FVec Ideal S8x6144 .f32) (N : FVec Ideal S8x4096x1024 .f32) (b : Fin 8) (s : Fin 4096) (d : Fin 1024) :
    gated X M N (ix3 b s d) = X (ix3 b s d) + M (ix2 b ⟨5120 + d.val, by omega⟩) * N (ix3 b s d) := by
  pointwise [gated]

/-- One entry of the result, the modulation read at its rows' columns. -/
theorem res_apply (m : (ℓ : Loc nD τ sig) → Buf (Elt Ideal) ℓ) (c : Dev nD) (b : Fin 8) (s : Fin 4096) (d : Fin 1024) :
    res_main_v45 m c (ix3 b s d)
      = entry (fun e => m ((c.tc : Thread nD τ).loc main_arg0) (ix3 b s e))
        (fun e => ∑ n : Fin 4096, unit (entering (fun e => m ((c.tc : Thread nD τ).loc main_arg0) (ix3 b s e)) (fun e => m ((c.tc : Thread nD τ).loc main_arg2) (ix1 e))
            (fun e => m ((c.tc : Thread nD τ).loc main_arg1) (ix2 b ⟨1024 * 4 + e.val, by omega⟩)) (fun e => m ((c.tc : Thread nD τ).loc main_arg1) (ix2 b ⟨1024 * 3 + e.val, by omega⟩)))
          (fun k => m ((c.tc : Thread nD τ).loc main_arg3) (ix2 k n)) * m ((c.tc : Thread nD τ).loc main_arg4) (ix2 n e))
        (fun e => m ((c.tc : Thread nD τ).loc main_arg5) (ix1 e)) (fun e => m ((c.tc : Thread nD τ).loc main_arg1) (ix2 b ⟨1024 * 5 + e.val, by omega⟩)) d := by
  rw [res_eq, gated_apply, normed_apply]
  simp only [products_apply, units_apply, rowsIn_apply, normed_apply]
  rfl

end Cert.Reference2Ideal.Mlp

end
-- ==== Proof.Mlp.ContextBlock.lean ====
/-
  What one point of the feed-forward call on the context tokens computes from its blocks: the same payloads as on the latent tokens.
-/
module

public import proofs.«01_k».proof.Proof.Mlp.Block
public import proofs.«01_k».proof.Proof.Gen.Kernel7Ideal.Value
public import Idealize.ShloMosaic.Lib.Pointwise
public import Idealize.ShloMosaic.Lib.Pipeline.ValueKit.Acc

@[expose] public section

set_option maxRecDepth 16384

noncomputable section

namespace Cert.Kernel7Ideal.Mlp

open Idealize.ShloMosaic Idealize.ShloMosaic.TcCoe Idealize.SL.Sem
open Cert.Kernel7Ideal.Gen
open Cert.Mlp (unitScale entering entry)

/-! ## The payloads -/

theorem pay1_apply (x : Vec Ideal S1x1024x1024 .f32) (g : Vec Ideal S1x1024 .f32) (s b : Vec Ideal S1x1x1024 .f32) (i d : Fin 1024) :
    k0_pay1 x g s b (ix2 i d)
      = x (ix3 0 i d) * Ideal.rsqrt (Ideal.div (∑ e : Fin 1024, x (ix3 0 i e) * x (ix3 0 i e)) (Ideal.ofBits .f32 0x44800000#32) + Ideal.ofBits .f32 0x358637BD#32)
        * (g (ix2 0 d) * (Ideal.ofBits .f32 0x3F800000#32 + s (ix3 0 0 d))) + b (ix3 0 0 d) :=
  Cert.Kernel2Ideal.Mlp.pay1_apply x g s b i d

theorem pay2_apply (i d : Fin 1024) : k0_pay2 (F := Ideal) (ix2 i d) = 0 :=
  Cert.Kernel2Ideal.Mlp.pay2_apply i d

theorem pay3_apply (h w1 : Vec Ideal S1024x1024 .bf16) (a : Vec Ideal S1024x1024 .f32) (w2 : Vec Ideal S1024x1024 .bf16) (i d : Fin 1024) :
    k0_pay3 h w1 a w2 (ix2 i d)
      = a (ix2 i d) + ∑ k : Fin 1024, max (∑ e : Fin 1024, h (ix2 i e) * w1 (ix2 e k)) (0 : EReal) * max (∑ e : Fin 1024, h (ix2 i e) * w1 (ix2 e k)) 0 * w2 (ix2 k d) :=
  Cert.Kernel2Ideal.Mlp.pay3_apply h w1 a w2 i d

theorem pay4_apply (x : Vec Ideal S1x1024x1024 .f32) (a : Vec Ideal S1024x1024 .f32) (g : Vec Ideal S1x1024 .f32) (s : Vec Ideal S1x1x1024 .f32) (i d : Fin 1024) :
    k0_pay4 x a g s (ix3 0 i d)
      = x (ix3 0 i d) + a (ix2 i d) * Ideal.rsqrt (Ideal.div (∑ e : Fin 1024, a (ix2 i e) * a (ix2 i e)) (Ideal.ofBits .f32 0x44800000#32) + Ideal.ofBits .f32 0x358637BD#32)
        * (g (ix2 0 d) * s (ix3 0 0 d)) :=
  Cert.Kernel2Ideal.Mlp.pay4_apply x a g s i d

variable (m : (ℓ : Loc nD τ sig) → Buf (Elt Ideal) ℓ) (c : Dev nD)

/-! ## What each point leaves: the entering rows, the accumulator and the output block -/

theorem ld_row (X : Vec Ideal S1x6x1024 .f32) (k : ℕ) (hk : k < 6) (inb) (d : Fin 1024) :
    View.ld X (Rect.unit (s := S1x6x1024) ![0, k, 0] ![1, 1, 1024] inb) (ix3 0 0 d) = X (ix3 0 ⟨k, hk⟩ d) := by
  refine congrArg X (funext fun a => Fin.ext ?_)
  match a with
  | ⟨0, _⟩ => rfl
  | ⟨1, _⟩ => show k + 1 * 0 = k; omega
  | ⟨2, _⟩ => show 0 + 1 * d.val = d.val; omega

/-- The input blocks of a point, at their shapes. -/
abbrev blkX (t : Fin cfg0.N) : Vec Ideal S1x1024x1024 .f32 := iblk m c 0 t
abbrev blkM (t : Fin cfg0.N) : Vec Ideal S1x6x1024 .f32 := iblk m c 1 t
abbrev blkG (t : Fin cfg0.N) : Vec Ideal S1x1024 .f32 := iblk m c 2 t
abbrev blkA (t : Fin cfg0.N) : Vec Ideal S1024x1024 .bf16 := iblk m c 3 t
abbrev blkB (t : Fin cfg0.N) : Vec Ideal S1024x1024 .bf16 := iblk m c 4 t
abbrev blkP (t : Fin cfg0.N) : Vec Ideal S1x1024 .f32 := iblk m c 5 t

/-- The rows and the accumulator after a point. -/
def hid (n : ℕ) (hn : n < cfg0.N) : Vec Ideal S1024x1024 .bf16 := (outsAt0 m c n hn).2.1
def acc (n : ℕ) (hn : n < cfg0.N) : Vec Ideal S1024x1024 .f32 := (outsAt0 m c n hn).2.2

theorem pred_lt (t : Fin cfg0.N) : t.val - 1 < cfg0.N := Nat.lt_of_le_of_lt (Nat.sub_le _ _) t.isLt

/-- Scratch held at given contents reads as them. -/
theorem held0 (h : scM0_0.IsWhole) (x : Vec Ideal S1024x1024 .bf16) : View.read (Elt Ideal) (View.whole cc0_scratch0) (h.unread x) = x := h.read_unread x
theorem held1 (h : scM0_1.IsWhole) (x : Vec Ideal S1024x1024 .f32) : View.read (Elt Ideal) (View.whole cc0_scratch1) (h.unread x) = x := h.read_unread x

theorem hid_first (t : Fin cfg0.N) (h0 : t.val % 4 = 0) :
    hid m c t.val t.isLt = k0_pay1 (blkX m c t) (blkG m c t)
      (View.ld (blkM m c t) (Rect.unit ![0, 4, 0] ![1, 1, 1024] inb_S1x6x1024_S1x1x1024_0_4_0))
      (View.ld (blkM m c t) (Rect.unit ![0, 3, 0] ![1, 1, 1024] inb_S1x6x1024_S1x1x1024_0_3_0)) := by
  unfold hid
  rw [outsAt0_A m c t h0 (by omega)]
  frame_out

theorem hid_later (t : Fin cfg0.N) (h0 : ¬ t.val % 4 = 0) : hid m c t.val t.isLt = hid m c (t.val - 1) (pred_lt t) := by
  unfold hid
  by_cases h1 : t.val % 4 = 3
  · rw [outsAt0_C m c t h0 h1]; rfl
  · rw [outsAt0_B m c t h0 h1]; rfl

theorem acc_first (t : Fin cfg0.N) (h0 : t.val % 4 = 0) :
    acc m c t.val t.isLt = k0_pay3 (hid m c t.val t.isLt) (blkA m c t) (k0_pay2 (F := Ideal)) (blkB m c t) := by
  rw [hid_first m c t h0]
  unfold acc
  rw [outsAt0_A m c t h0 (by omega)]
  frame_out

theorem acc_later (t : Fin cfg0.N) (h0 : ¬ t.val % 4 = 0) :
    acc m c t.val t.isLt = k0_pay3 (hid m c t.val t.isLt) (blkA m c t) (acc m c (t.val - 1) (pred_lt t)) (blkB m c t) := by
  rw [hid_later m c t h0]
  unfold acc hid
  by_cases h1 : t.val % 4 = 3
  · rw [outsAt0_C m c t h0 h1]; frame_out; rw [held0, held1]
  · rw [outsAt0_B m c t h0 h1]; frame_out; rw [held0, held1]

theorem out_last (t : Fin cfg0.N) (h1 : t.val % 4 = 3) :
    (outsAt0 m c t.val t.isLt).1 = k0_pay4 (blkX m c t) (acc m c t.val t.isLt) (blkP m c t)
      (View.ld (blkM m c t) (Rect.unit ![0, 5, 0] ![1, 1, 1024] inb_S1x6x1024_S1x1x1024_0_5_0)) := by
  rw [acc_later m c t (by omega), hid_later m c t (by omega)]
  unfold acc hid
  rw [outsAt0_C m c t (by omega) h1]
  frame_out
  rw [held0, held1]

end Cert.Kernel7Ideal.Mlp

end
-- ==== Proof.Mlp.ContextArray.lean ====
/-
  The blocks of the call on the context tokens read back to the argument arrays, and the array the launch leaves: every entry is the formula's.
-/
module

public import proofs.«01_k».proof.Proof.Mlp.ContextBlock

@[expose] public section

set_option maxRecDepth 16384

noncomputable section

namespace Cert.Kernel7Ideal.Mlp

open Idealize.ShloMosaic Idealize.ShloMosaic.TcCoe Idealize.SL.Sem
open Idealize.ShloMosaic.Pipeline (Dat)
open Cert.Kernel7Ideal.Gen
open Cert.Mlp (unitScale entering unit entry blockSum added added_all)

/-! ## The blocks of the argument arrays -/

theorem cast_rows (x : Vec Ideal S16x256x1024 .f32) (s : Fin 4096) (d : Fin 1024) :
    shapeCast S1x4096x1024 x shapeCasts_S16x256x1024_S1x4096x1024 (ix3 0 s d) = x (ix3 ⟨s.val / 256, by omega⟩ ⟨s.val % 256, by omega⟩ d) := by
  pointwise

theorem cast_mod (x : Vec Ideal S6144 .f32) (k : Fin 6) (d : Fin 1024) :
    shapeCast S1x6x1024 x shapeCasts_S6144_S1x6x1024 (ix3 0 k d) = x (ix1 ⟨1024 * k.val + d.val, by omega⟩) := by
  pointwise
  exact congrArg (fun e : Fin 6144 => x (ix1 e)) (Fin.ext (by dsimp only; omega))

theorem cast_row (x : Vec Ideal S1024 .f32) (d : Fin 1024) : shapeCast S1x1024 x shapeCasts_S1024_S1x1024 (ix2 0 d) = x (ix1 d) := by
  pointwise

variable (m : (ℓ : Loc nD τ sig) → Buf (Elt Ideal) ℓ) (c : Dev nD)

abbrev argX : Vec Ideal S16x256x1024 .f32 := m ((c.tc : Thread nD τ).loc main_arg0)
abbrev argM : Vec Ideal S6144 .f32 := m ((c.tc : Thread nD τ).loc main_arg1)
abbrev argG : Vec Ideal S1024 .f32 := m ((c.tc : Thread nD τ).loc main_arg2)
abbrev argA : Vec Ideal S1024x4096 .f32 := m ((c.tc : Thread nD τ).loc main_arg3)
abbrev argB : Vec Ideal S4096x1024 .f32 := m ((c.tc : Thread nD τ).loc main_arg4)
abbrev argP : Vec Ideal S1024 .f32 := m ((c.tc : Thread nD τ).loc main_arg5)

/-- A row of a point's tile, and a hidden unit of its block. -/
def row (t : Fin cfg0.N) (i : Fin 1024) : Fin 4096 := ⟨1024 * (t.val / 4 % 4) + i.val, by omega⟩
def unitOf (t : Fin cfg0.N) (k : Fin 1024) : Fin 4096 := ⟨(1024 * (t.val % 4) + k.val) % 4096, Nat.mod_lt _ (by decide)⟩

theorem coord0 (t : Fin cfg0.N) : (BitVec.ofNat 32 (grid0.coords t 0).val).toNat = 0 := by
  have e : (grid0.coords t 0).val < 1 := (grid0.coords t 0).isLt
  rw [BitVec.toNat_ofNat]; omega
theorem coord1 (t : Fin cfg0.N) : (BitVec.ofNat 32 (grid0.coords t 1).val).toNat = t.val / 4 % 4 := by
  have e : (grid0.coords t 1).val = t.val / 4 % 4 := Pipeline.Grid.coords_val t 1 (by decide) rfl
  rw [e, BitVec.toNat_ofNat]; omega
theorem coord2 (t : Fin cfg0.N) : (BitVec.ofNat 32 (grid0.coords t 2).val).toNat = t.val % 4 := by
  have e : (grid0.coords t 2).val = t.val / 1 % 4 := Pipeline.Grid.coords_val t 2 (by decide) rfl
  rw [e, BitVec.toNat_ofNat]; omega

theorem V_x : V m c main_v0 = shapeCast S1x4096x1024 (argX m c) shapeCasts_S16x256x1024_S1x4096x1024 := by entry_read; rfl
theorem V_m : V m c main_v1 = shapeCast S1x6x1024 (argM m c) shapeCasts_S6144_S1x6x1024 := by entry_read; rfl
theorem V_a : @Eq (Vec Ideal S1024x4096 .bf16) (V m c main_v2) (truncf (F := Ideal) .bf16 (argA m c) bitsLt_bf16_f32) := by entry_read; rfl
theorem V_b : @Eq (Vec Ideal S4096x1024 .bf16) (V m c main_v3) (truncf (F := Ideal) .bf16 (argB m c) bitsLt_bf16_f32) := by entry_read; rfl
theorem V_g : V m c main_v4 = shapeCast S1x1024 (argG m c) shapeCasts_S1024_S1x1024 := by entry_read; rfl
theorem V_p : V m c main_v5 = shapeCast S1x1024 (argP m c) shapeCasts_S1024_S1x1024 := by entry_read; rfl

theorem blkX_apply (t : Fin cfg0.N) (i d : Fin 1024) : blkX m c t (ix3 0 i d) = argX m c (ix3 ⟨(row t i).val / 256, by omega⟩ ⟨(row t i).val % 256, by omega⟩ d) := by
  refine Eq.trans ?_ (cast_rows (argX m c) (row t i) d)
  rw [← V_x]
  unfold blkX iblk
  rw [View.read_apply]
  show V m c main_v0 _ = V m c main_v0 _
  refine congrArg (V m c main_v0) (funext fun a => Fin.ext ?_)
  match a with
  | ⟨0, _⟩ => show (BitVec.ofNat 32 (grid0.coords t 0).val).toNat * 1 + 1 * 0 = 0; rw [coord0]
  | ⟨1, _⟩ => show (BitVec.ofNat 32 (grid0.coords t 1).val).toNat * 1024 + 1 * i.val = 1024 * (t.val / 4 % 4) + i.val; rw [coord1]; omega
  | ⟨2, _⟩ => show 0 * 1024 + 1 * d.val = d.val; omega

theorem blkM_apply (t : Fin cfg0.N) (k : Fin 6) (d : Fin 1024) : blkM m c t (ix3 0 k d) = argM m c (ix1 ⟨1024 * k.val + d.val, by omega⟩) := by
  refine Eq.trans ?_ (cast_mod (argM m c) k d)
  rw [← V_m]
  unfold blkM iblk
  rw [View.read_apply]
  show V m c main_v1 _ = V m c main_v1 _
  refine congrArg (V m c main_v1) (funext fun a => Fin.ext ?_)
  match a with
  | ⟨0, _⟩ => show 0 * 1 + 1 * 0 = 0; omega
  | ⟨1, _⟩ => show 0 * 6 + 1 * k.val = k.val; omega
  | ⟨2, _⟩ => show 0 * 1024 + 1 * d.val = d.val; omega

theorem blkG_apply (t : Fin cfg0.N) (d : Fin 1024) : blkG m c t (ix2 0 d) = argG m c (ix1 d) := by
  refine Eq.trans ?_ (cast_row (argG m c) d)
  rw [← V_g]
  unfold blkG iblk
  rw [View.read_apply]
  show V m c main_v4 _ = V m c main_v4 _
  refine congrArg (V m c main_v4) (funext fun a => Fin.ext ?_)
  match a with
  | ⟨0, _⟩ => show 0 * 1 + 1 * 0 = 0; omega
  | ⟨1, _⟩ => show 0 * 1024 + 1 * d.val = d.val; omega

theorem blkP_apply (t : Fin cfg0.N) (d : Fin 1024) : blkP m c t (ix2 0 d) = argP m c (ix1 d) := by
  refine Eq.trans ?_ (cast_row (argP m c) d)
  rw [← V_p]
  unfold blkP iblk
  rw [View.read_apply]
  show V m c main_v5 _ = V m c main_v5 _
  refine congrArg (V m c main_v5) (funext fun a => Fin.ext ?_)
  match a with
  | ⟨0, _⟩ => show 0 * 1 + 1 * 0 = 0; omega
  | ⟨1, _⟩ => show 0 * 1024 + 1 * d.val = d.val; omega

theorem blkA_apply (t : Fin cfg0.N) (e k : Fin 1024) : blkA m c t (ix2 e k) = argA m c (ix2 e (unitOf t k)) := by
  have h : V m c main_v2 (ix2 e (unitOf t k)) = argA m c (ix2 e (unitOf t k)) := congrFun (V_a m c) _
  rw [← h]
  unfold blkA iblk
  rw [View.read_apply]
  show V m c main_v2 _ = V m c main_v2 _
  refine congrArg (V m c main_v2) (funext fun a => Fin.ext ?_)
  match a with
  | ⟨0, _⟩ => show 0 * 1024 + 1 * e.val = e.val; omega
  | ⟨1, _⟩ => show (BitVec.ofNat 32 (grid0.coords t 2).val).toNat * 1024 + 1 * k.val = (1024 * (t.val % 4) + k.val) % 4096; rw [coord2]; omega

theorem blkB_apply (t : Fin cfg0.N) (k d : Fin 1024) : blkB m c t (ix2 k d) = argB m c (ix2 (unitOf t k) d) := by
  have h : V m c main_v3 (ix2 (unitOf t k) d) = argB m c (ix2 (unitOf t k) d) := congrFun (V_b m c) _
  rw [← h]
  unfold blkB iblk
  rw [View.read_apply]
  show V m c main_v3 _ = V m c main_v3 _
  refine congrArg (V m c main_v3) (funext fun a => Fin.ext ?_)
  match a with
  | ⟨0, _⟩ => show (BitVec.ofNat 32 (grid0.coords t 2).val).toNat * 1024 + 1 * k.val = (1024 * (t.val % 4) + k.val) % 4096; rw [coord2]; omega
  | ⟨1, _⟩ => show 0 * 1024 + 1 * d.val = d.val; omega

/-! ## The launch's array -/

/-- Row `k` of the modulation. -/
def modRow (k : Fin 6) (d : Fin 1024) : EReal := argM m c (ix1 ⟨1024 * k.val + d.val, by omega⟩)

/-- The row entering the products at one position. -/
def entered (s : Fin 4096) : Fin 1024 → EReal :=
  entering (fun e => argX m c (ix3 ⟨s.val / 256, by omega⟩ ⟨s.val % 256, by omega⟩ e)) (fun e => argG m c (ix1 e)) (modRow m c 4) (modRow m c 3)

/-- The contribution of one hidden unit to a column of the second product. -/
def term (s : Fin 4096) (d : Fin 1024) (n : Fin 4096) : EReal :=
  unit (entered m c s) (fun e => argA m c (ix2 e n)) * argB m c (ix2 n d)

/-- One entry of the result. -/
def value (s : Fin 4096) (d : Fin 1024) : EReal :=
  entry (fun e => argX m c (ix3 ⟨s.val / 256, by omega⟩ ⟨s.val % 256, by omega⟩ e)) (fun e => ∑ n : Fin 4096, term m c s e n) (fun e => argP m c (ix1 e)) (modRow m c 5) d

/-- The array of the results. -/
def result : Buf (Elt Ideal) ((c.tc : Thread nD τ).loc main_v6) := fun y : S1x4096x1024.Idx =>
  value m c ⟨(y 1).val, (y 1).isLt⟩ ⟨(y 2).val, (y 2).isLt⟩

theorem value_congr {s s' : Fin 4096} {d d' : Fin 1024} (es : s.val = s'.val) (ed : d.val = d'.val) :
    value m c s d = value m c s' d' := by
  rw [Fin.ext es, Fin.ext ed]

/-- The rows in scratch after any point are its tile's entering rows. -/
theorem hid_apply : (n : ℕ) → (hn : n < cfg0.N) → (i d : Fin 1024) → hid m c n hn (ix2 i d) = entered m c (row ⟨n, hn⟩ i) d := by
  intro n
  induction n using Nat.strong_induction_on with
  | _ n ih =>
    intro hn i d
    by_cases h0 : n % 4 = 0
    · refine (congrFun (hid_first m c ⟨n, hn⟩ h0) _).trans ?_
      rw [pay1_apply, ld_row _ 4 (by decide), ld_row _ 3 (by decide)]
      simp only [blkX_apply, blkG_apply, blkM_apply]
      unfold entered entering unitScale
      rw [mul_assoc (_ * _) (argG m c (ix1 d))]
      rfl
    · refine (congrFun (hid_later m c ⟨n, hn⟩ h0) _).trans ((ih (n - 1) (by omega) _ i d).trans ?_)
      have er : row ⟨n - 1, pred_lt ⟨n, hn⟩⟩ i = row ⟨n, hn⟩ i := Fin.ext (by show 1024 * ((n - 1) / 4 % 4) + i.val = 1024 * (n / 4 % 4) + i.val; omega)
      rw [← er]

/-- The second product's contribution at a point is its block of hidden units. -/
theorem step_apply (t : Fin cfg0.N) (i d : Fin 1024) (a : Vec Ideal S1024x1024 .f32) :
    k0_pay3 (hid m c t.val t.isLt) (blkA m c t) a (blkB m c t) (ix2 i d) = a (ix2 i d) + blockSum (term m c (row t i) d) (t.val % 4) := by
  rw [pay3_apply]
  simp only [hid_apply, blkA_apply, blkB_apply]
  rfl

/-- The accumulator after any point holds the blocks of hidden units so far. -/
theorem acc_apply : (n : ℕ) → (hn : n < cfg0.N) → (i d : Fin 1024) → acc m c n hn (ix2 i d) = added (term m c (row ⟨n, hn⟩ i) d) (n % 4) := by
  intro n
  induction n using Nat.strong_induction_on with
  | _ n ih =>
    intro hn i d
    by_cases h0 : n % 4 = 0
    · refine (congrFun (acc_first m c ⟨n, hn⟩ h0) _).trans ((step_apply m c ⟨n, hn⟩ i d _).trans ?_)
      rw [pay2_apply, h0]
      rfl
    · refine (congrFun (acc_later m c ⟨n, hn⟩ h0) _).trans ((step_apply m c ⟨n, hn⟩ i d _).trans ?_)
      rw [ih (n - 1) (by omega)]
      have er : row ⟨n - 1, pred_lt ⟨n, hn⟩⟩ i = row ⟨n, hn⟩ i := Fin.ext (by show 1024 * ((n - 1) / 4 % 4) + i.val = 1024 * (n / 4 % 4) + i.val; omega)
      have en : n % 4 = (n - 1) % 4 + 1 := by omega
      show added (term m c (row ⟨n - 1, pred_lt ⟨n, hn⟩⟩ i) d) ((n - 1) % 4) + blockSum _ (n % 4) = _
      rw [er, en]
      rfl

/-- What the last point of a tile stores, entry by entry. -/
theorem out_apply (t : Fin cfg0.N) (h1 : t.val % 4 = 3) (i d : Fin 1024) :
    (outsAt0 m c t.val t.isLt).1 (ix3 0 i d) = value m c (row t i) d := by
  rw [out_last m c t h1, pay4_apply, ld_row _ 5 (by decide)]
  simp only [blkX_apply, blkP_apply, blkM_apply, acc_apply, h1, added_all]
  unfold value entry unitScale
  rw [mul_comm (modRow m c 5 d), mul_assoc (_ * _) (argP m c (ix1 d))]
  rfl

/-- What a tile's last point writes back is its block of the array. -/
theorem flushed_eq (t : Fin cfg0.N) (hf : (cfg0.win 6).flush t = true) : (dats m 0 c).flushed 6 t = (win0_6.blk t).view.read (Elt Ideal) (result m c) := by
  have h1 : t.val % 4 = 3 := (flush0_6 t).mp hf
  rw [Value.flushed6]
  funext y
  rw [View.read_apply]
  show (outsAt0 m c t.val t.isLt).1 y = result m c _
  have y0 : (y 0).val < 1 := (y 0).isLt
  have y1 : (y 1).val < 1024 := (y 1).isLt
  have y2 : (y 2).val < 1024 := (y 2).isLt
  have ey : y = (ix3 0 ⟨(y 1).val, y1⟩ ⟨(y 2).val, y2⟩ : S1x1024x1024.Idx) := by
    funext a
    match a with
    | ⟨0, _⟩ => exact Fin.ext (by show (y 0).val = 0; omega)
    | ⟨1, _⟩ => rfl
    | ⟨2, _⟩ => rfl
  refine ((congrArg (outsAt0 m c t.val t.isLt).1 ey).trans (out_apply m c t h1 ⟨(y 1).val, y1⟩ ⟨(y 2).val, y2⟩)).trans ?_
  have c1 : 1024 * (t.val / 4 % 4) + (y 1).val = (BitVec.ofNat 32 (grid0.coords t 1).val).toNat * 1024 + 1 * (y 1).val := by rw [coord1]; omega
  have c2 : (y 2).val = 0 * 1024 + 1 * (y 2).val := by omega
  exact value_congr m c c1 c2

theorem final_eq : (dats m 0 c).arrAt 6 cfg0.N = result m c :=
  (dats m 0 c).arrAt_eq_of_cover 6 (result m c) (fun t hf => flushed_eq m c t hf) (fun i => (Value.covered_iff6 i).2
    (by have h0 : (i 0).val < 1 := (i 0).isLt; have h1 : (i 1).val < 4096 := (i 1).isLt; have h2 : (i 2).val < 1024 := (i 2).isLt; omega))

/-- The run: the result array holds the formula's entries, and the arguments are as they were. -/
theorem run_value (ρ : Dev nD → PrngReg) : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_eq m c), (h c).2⟩) (Value.run_blocks m ρ)

end Cert.Kernel7Ideal.Mlp

end
-- ==== Proof.Mlp.ContextReference.lean ====
/-
  The reference feed-forward's result on the context tokens, entry by entry.
-/
module

public import proofs.«01_k».proof.Proof.Mlp.Formula
public import proofs.«01_k».proof.Proof.Gen.Reference7Ideal.Run
public import Idealize.ShloMosaic.Lib.Pointwise

@[expose] public section

set_option maxRecDepth 16384

noncomputable section

namespace Cert.Reference7Ideal.Mlp

open Idealize.ShloMosaic Idealize.ShloMosaic.TcCoe Idealize.SL.Sem
open Cert.Reference7Ideal Cert.Reference7Ideal.Gen Cert.Reference7Ideal.Value
open Cert.Mlp (unitScale entering unit entry)
open Facts

/-- A row brought to unit root mean square and scaled by the learned weights. -/
def normed (X : FVec Ideal S16x256x1024 .f32) (G : FVec Ideal S1024 .f32) : FVec Ideal S16x256x1024 .f32 :=
  mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 G))

def rowsIn (Y : FVec Ideal S16x256x1024 .f32) (M : FVec Ideal S6144 .f32) : FVec Ideal S16x256x1024 .f32 :=
  addf (mulf Y (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 4096] (broadcastInDim S1x1x6144 ![2] bcast_S6144_S1x1x6144_2 M) slices_S1x1x6144_S1x1x1024_0_0_4096)))) (broadcastInDim S16x256x1024 ![0, 1, 2] bcast_S1x1x1024_S16x256x1024_0_1_2 (extractStridedSlice S1x1x1024 ![0, 0, 3072] (broadcastInDim S1x1x6144 ![2] bcast_S6144_S1x1x6144_2 M) slices_S1x1x6144_S1x1x1024_0_0_3072))

def units (H : FVec Ideal S16x256x1024 .f32) (A : FVec Ideal S1024x4096 .f32) : FVec Ideal S16x256x4096 .f32 :=
  maximumf (Host.dotGeneral dot_S16x256x1024_S1024x4096_S16x256x4096_2_0_01_1_n_n none H A) (broadcastInDim S16x256x4096 ![] bcast_S_S16x256x4096 (constant S_ .f32 0x00000000#32))

def products (U : FVec Ideal S16x256x4096 .f32) (B : FVec Ideal S4096x1024 .f32) : FVec Ideal S16x256x1024 .f32 :=
  Host.dotGeneral dot_S16x256x4096_S4096x1024_S16x256x1024_2_0_01_1_n_n none (mulf U U) B

def gated (X : FVec Ideal S16x256x1024 .f32) (M : FVec Ideal S6144 .f32) (N : FVec Ideal S16x256x1024 .f32) : FVec Ideal S16x256x1024 .f32 :=
  addf X (mulf (broadcastInDim S16x256x1024 ![0, 1, 2] bcast_S1x1x1024_S16x256x1024_0_1_2 (extractStridedSlice S1x1x1024 ![0, 0, 5120] (broadcastInDim S1x1x6144 ![2] bcast_S6144_S1x1x6144_2 M) slices_S1x1x6144_S1x1x1024_0_0_5120)) N)

/-- The rows of the prompts, one after the other. -/
def joined (Y : FVec Ideal S16x256x1024 .f32) : FVec Ideal S1x4096x1024 .f32 :=
  shapeCast S1x4096x1024 Y shapeCasts_S16x256x1024_S1x4096x1024

theorem joined_apply (Y : FVec Ideal S16x256x1024 .f32) (s : Fin 4096) (d : Fin 1024) :
    joined Y (ix3 0 s d) = Y (ix3 ⟨s.val / 256, by omega⟩ ⟨s.val % 256, by omega⟩ d) := by
  pointwise [joined]

/-- The result before its rows are joined. -/
def before (m : (ℓ : Loc nD τ sig) → Buf (Elt Ideal) ℓ) (c : Dev nD) : FVec Ideal S16x256x1024 .f32 :=
  gated (m ((c.tc : Thread nD τ).loc main_arg0)) (m ((c.tc : Thread nD τ).loc main_arg1))
      (normed (products (units (rowsIn (normed (m ((c.tc : Thread nD τ).loc main_arg0)) (m ((c.tc : Thread nD τ).loc main_arg2))) (m ((c.tc : Thread nD τ).loc main_arg1)))
        (m ((c.tc : Thread nD τ).loc main_arg3))) (m ((c.tc : Thread nD τ).loc main_arg4))) (m ((c.tc : Thread nD τ).loc main_arg5)))

theorem res_eq (m : (ℓ : Loc nD τ sig) → Buf (Elt Ideal) ℓ) (c : Dev nD) :
    res_main_v46 m c = joined (before m c) := rfl

theorem normed_apply (X : FVec Ideal S16x256x1024 .f32) (G : FVec Ideal S1024 .f32) (b : Fin 16) (s : Fin 256) (d : Fin 1024) :
    normed X G (ix3 b s d) = X (ix3 b s d) * Ideal.rsqrt (Ideal.div (∑ e : Fin 1024, X (ix3 b s e) * X (ix3 b s e)) (Ideal.ofBits .f32 0x44800000#32) + Ideal.ofBits .f32 0x358637BD#32) * G (ix1 d) := by
  pointwise [normed]

theorem rowsIn_apply (Y : FVec Ideal S16x256x1024 .f32) (M : FVec Ideal S6144 .f32) (b : Fin 16) (s : Fin 256) (d : Fin 1024) :
    rowsIn Y M (ix3 b s d) = Y (ix3 b s d) * (Ideal.ofBits .f32 0x3F800000#32 + M (ix1 ⟨4096 + d.val, by omega⟩)) + M (ix1 ⟨3072 + d.val, by omega⟩) := by
  pointwise [rowsIn]

theorem units_apply (H : FVec Ideal S16x256x1024 .f32) (A : FVec Ideal S1024x4096 .f32) (b : Fin 16) (s : Fin 256) (n : Fin 4096) :
    units H A (ix3 b s n) = max (∑ e : Fin 1024, H (ix3 b s e) * A (ix2 e n)) (0 : EReal) := by
  pointwise [units]

theorem products_apply (U : FVec Ideal S16x256x4096 .f32) (B : FVec Ideal S4096x1024 .f32) (b : Fin 16) (s : Fin 256) (d : Fin 1024) :
    products U B (ix3 b s d) = ∑ n : Fin 4096, U (ix3 b s n) * U (ix3 b s n) * B (ix2 n d) := by
  pointwise [products]

theorem gated_apply (X : FVec Ideal S16x256x1024 .f32) (M : FVec Ideal S6144 .f32) (N : FVec Ideal S16x256x1024 .f32) (b : Fin 16) (s : Fin 256) (d : Fin 1024) :
    gated X M N (ix3 b s d) = X (ix3 b s d) + M (ix1 ⟨5120 + d.val, by omega⟩) * N (ix3 b s d) := by
  pointwise [gated]

/-- One entry, the modulation read at its rows' columns. -/
theorem before_apply (m : (ℓ : Loc nD τ sig) → Buf (Elt Ideal) ℓ) (c : Dev nD) (b : Fin 16) (s : Fin 256) (d : Fin 1024) :
    before m c (ix3 b s d)
      = entry (fun e => m ((c.tc : Thread nD τ).loc main_arg0) (ix3 b s e))
        (fun e => ∑ n : Fin 4096, unit (entering (fun e => m ((c.tc : Thread nD τ).loc main_arg0) (ix3 b s e)) (fun e => m ((c.tc : Thread nD τ).loc main_arg2) (ix1 e))
            (fun e => m ((c.tc : Thread nD τ).loc main_arg1) (ix1 ⟨1024 * 4 + e.val, by omega⟩)) (fun e => m ((c.tc : Thread nD τ).loc main_arg1) (ix1 ⟨1024 * 3 + e.val, by omega⟩)))
          (fun k => m ((c.tc : Thread nD τ).loc main_arg3) (ix2 k n)) * m ((c.tc : Thread nD τ).loc main_arg4) (ix2 n e))
        (fun e => m ((c.tc : Thread nD τ).loc main_arg5) (ix1 e)) (fun e => m ((c.tc : Thread nD τ).loc main_arg1) (ix1 ⟨1024 * 5 + e.val, by omega⟩)) d := by
  unfold before
  rw [gated_apply, normed_apply]
  simp only [products_apply, units_apply, rowsIn_apply, normed_apply]
  rfl

end Cert.Reference7Ideal.Mlp

end
-- ==== Proof.Outproj.Formula.lean ====
/-
  One entry of the mixers' output call as a formula over the extended reals: the two mixers' rows, joined, by the output matrix,
  normed and gated onto the row.  The product over the joined row is the sum of the products over its halves.
-/
module

public import proofs.«01_k».proof.Proof.Mlp.Formula

@[expose] public section

noncomputable section

namespace Cert.Outproj

open Idealize.ShloMosaic

/-- Two rows of 512 as one of 1024. -/
def joined (a b : Fin 512 → EReal) (k : Fin 1024) : EReal :=
  if h : k.val < 512 then a ⟨k.val, h⟩ else b ⟨k.val - 512, by omega⟩

/-- A column of the output product, half by half. -/
def product (a b : Fin 512 → EReal) (w : Fin 1024 → EReal) : EReal :=
  (∑ k : Fin 512, a k * w ⟨k.val, by omega⟩) + ∑ k : Fin 512, b k * w ⟨512 + k.val, by omega⟩

theorem joined_product (a b : Fin 512 → EReal) (w : Fin 1024 → EReal) : ∑ k : Fin 1024, joined a b k * w k = product a b w := by
  refine (Fin.sum_univ_add (a := 512) (b := 512) fun k => joined a b k * w k).trans (congrArg₂ (· + ·) ?_ ?_)
  · refine Finset.sum_congr rfl fun k _ => congrArg (· * _) ?_
    exact dif_pos k.isLt
  · refine Finset.sum_congr rfl fun k _ => congrArg (· * _) ?_
    refine (dif_neg (by show ¬ 512 + k.val < 512; omega)).trans (congrArg b (Fin.ext ?_))
    show 512 + k.val - 512 = k.val
    omega

/-- The factor that brings one mixer's row to unit root mean square. -/
def halfScale (v : Fin 512 → EReal) : EReal :=
  Ideal.rsqrt (Ideal.div (∑ e : Fin 512, v e * v e) (Ideal.ofBits .f32 0x44000000#32) + Ideal.ofBits .f32 0x358637BD#32)

/-- One mixer's row, normed. -/
def halfNormed (v g : Fin 512 → EReal) (k : Fin 512) : EReal := v k * halfScale v * g k

end Cert.Outproj

end
-- ==== Proof.Outproj.Even.lean ====
/-
  The even layers' output call: what one point computes from its blocks, the blocks read back to the arguments, and the array that the
  launch leaves, entry by entry.
-/
module

public import proofs.«01_k».proof.Proof.Outproj.Formula
public import proofs.«01_k».proof.Proof.Gen.Kernel5Ideal.Value
public import Idealize.ShloMosaic.Lib.Pointwise
public import Idealize.ShloMosaic.Lib.Pipeline.ValueKit.Acc

@[expose] public section

set_option maxRecDepth 16384

noncomputable section

namespace Cert.Kernel5Ideal.Outproj

open Idealize.ShloMosaic Idealize.ShloMosaic.TcCoe Idealize.SL.Sem
open Idealize.ShloMosaic.Pipeline (Dat)
open Cert.Kernel5Ideal.Gen
open Cert.Mlp (unitScale entry)
open Cert.Outproj (product)

/-! ## The payloads -/

/-- The product that a point forms from its blocks. -/
def prod (a : Vec Ideal S1x512x512 .bf16) (u : Vec Ideal S512x1024 .bf16) (b : Vec Ideal S1x512x512 .bf16) (w : Vec Ideal S512x1024 .bf16) (i : Fin 512) (d : Fin 1024) : EReal :=
  (∑ k : Fin 512, a (ix3 0 i k) * u (ix2 k d)) + ∑ k : Fin 512, b (ix3 0 i k) * w (ix2 k d)

theorem pay_apply (a : Vec Ideal S1x512x512 .bf16) (u : Vec Ideal S512x1024 .bf16) (b : Vec Ideal S1x512x512 .bf16) (w : Vec Ideal S512x1024 .bf16)
    (x : Vec Ideal S1x512x1024 .f32) (p : Vec Ideal S1x1024 .f32) (s : Vec Ideal S1x1x1024 .f32) (i : Fin 512) (d : Fin 1024) :
    k0_pay1 (k0_pay2 a u b w x p s) (ix3 0 i d)
      = x (ix3 0 i d) + prod a u b w i d * Ideal.rsqrt (Ideal.div (∑ e : Fin 1024, prod a u b w i e * prod a u b w i e) (Ideal.ofBits .f32 0x44800000#32) + Ideal.ofBits .f32 0x358637BD#32)
        * (p (ix2 0 d) * s (ix3 0 0 d)) := by
  unfold prod
  pointwise [k0_pay1, k0_pay2]

theorem ld_row (X : Vec Ideal S1x6x1024 .f32) (inb) (d : Fin 1024) :
    View.ld X (Rect.unit (s := S1x6x1024) ![0, 2, 0] ![1, 1, 1024] inb) (ix3 0 0 d) = X (ix3 0 2 d) := by
  refine congrArg X (funext fun a => Fin.ext ?_)
  match a with
  | ⟨0, _⟩ => rfl
  | ⟨1, _⟩ => show 2 + 1 * 0 = 2; omega
  | ⟨2, _⟩ => show 0 + 1 * d.val = d.val; omega

/-- The two halves of the output matrix that the products read. -/
def low (X : Vec Ideal S1024x1024 .bf16) : Vec Ideal S512x1024 .bf16 := View.ld X (Rect.unit ![0, 0] ![512, 1024] inb_S1024x1024_S512x1024_0_0)
def high (X : Vec Ideal S1024x1024 .bf16) : Vec Ideal S512x1024 .bf16 := View.ld X (Rect.unit ![512, 0] ![512, 1024] inb_S1024x1024_S512x1024_512_0)

theorem low_apply (X : Vec Ideal S1024x1024 .bf16) (k : Fin 512) (d : Fin 1024) : low X (ix2 k d) = X (ix2 ⟨k.val, by omega⟩ d) := by
  refine congrArg X (funext fun a => Fin.ext ?_)
  match a with
  | ⟨0, _⟩ => show 0 + 1 * k.val = k.val; omega
  | ⟨1, _⟩ => show 0 + 1 * d.val = d.val; omega

theorem high_apply (X : Vec Ideal S1024x1024 .bf16) (k : Fin 512) (d : Fin 1024) : high X (ix2 k d) = X (ix2 ⟨512 + k.val, by omega⟩ d) := by
  refine congrArg X (funext fun a => Fin.ext ?_)
  match a with
  | ⟨0, _⟩ => show 512 + 1 * k.val = 512 + k.val; omega
  | ⟨1, _⟩ => show 0 + 1 * d.val = d.val; omega

/-! ## The blocks of the argument arrays -/

theorem cast_mod (x : Vec Ideal S8x6144 .f32) (b : Fin 8) (k : Fin 6) (d : Fin 1024) :
    shapeCast S8x6x1024 x shapeCasts_S8x6144_S8x6x1024 (ix3 b k d) = x (ix2 b ⟨1024 * k.val + d.val, by omega⟩) := by
  pointwise
  exact congrArg (fun e : Fin 6144 => x (ix2 b e)) (Fin.ext (by dsimp only; omega))

theorem cast_row (x : Vec Ideal S1024 .f32) (d : Fin 1024) : shapeCast S1x1024 x shapeCasts_S1024_S1x1024 (ix2 0 d) = x (ix1 d) := by
  pointwise

variable (m : (ℓ : Loc nD τ sig) → Buf (Elt Ideal) ℓ) (c : Dev nD)

abbrev argA : Vec Ideal S8x4096x512 .f32 := m ((c.tc : Thread nD τ).loc main_arg0)
abbrev argB : Vec Ideal S8x4096x512 .f32 := m ((c.tc : Thread nD τ).loc main_arg1)
abbrev argX : Vec Ideal S8x4096x1024 .f32 := m ((c.tc : Thread nD τ).loc main_arg2)
abbrev argM : Vec Ideal S8x6144 .f32 := m ((c.tc : Thread nD τ).loc main_arg3)
abbrev argW : Vec Ideal S1024x1024 .f32 := m ((c.tc : Thread nD τ).loc main_arg4)
abbrev argP : Vec Ideal S1024 .f32 := m ((c.tc : Thread nD τ).loc main_arg5)

/-- The input blocks of a point, at their shapes. -/
abbrev blkA (t : Fin cfg0.N) : Vec Ideal S1x512x512 .bf16 := iblk m c 0 t
abbrev blkB (t : Fin cfg0.N) : Vec Ideal S1x512x512 .bf16 := iblk m c 1 t
abbrev blkX (t : Fin cfg0.N) : Vec Ideal S1x512x1024 .f32 := iblk m c 2 t
abbrev blkM (t : Fin cfg0.N) : Vec Ideal S1x6x1024 .f32 := iblk m c 3 t
abbrev blkW (t : Fin cfg0.N) : Vec Ideal S1024x1024 .bf16 := iblk m c 4 t
abbrev blkP (t : Fin cfg0.N) : Vec Ideal S1x1024 .f32 := iblk m c 5 t

/-- The batch element of a point, and a row of its tile. -/
def batch (t : Fin cfg0.N) : Fin 8 := ⟨t.val / 8, by have := Nat.lt_of_lt_of_eq t.isLt N_0; omega⟩
def row (t : Fin cfg0.N) (i : Fin 512) : Fin 4096 := ⟨512 * (t.val % 8) + i.val, by omega⟩

theorem coord0 (t : Fin cfg0.N) : (BitVec.ofNat 32 (grid0.coords t 0).val).toNat = t.val / 8 := by
  have ht : t.val < 64 := Nat.lt_of_lt_of_eq t.isLt N_0
  have e : (grid0.coords t 0).val = t.val / 8 % 8 := Pipeline.Grid.coords_val t 0 (by decide) rfl
  rw [e, BitVec.toNat_ofNat]; omega
theorem coord1 (t : Fin cfg0.N) : (BitVec.ofNat 32 (grid0.coords t 1).val).toNat = t.val % 8 := by
  have e : (grid0.coords t 1).val = t.val / 1 % 8 := Pipeline.Grid.coords_val t 1 (by decide) rfl
  rw [e, BitVec.toNat_ofNat]; omega

theorem V_a : @Eq (Vec Ideal S8x4096x512 .bf16) (V m c main_v0) (truncf (F := Ideal) .bf16 (argA m c) bitsLt_bf16_f32) := by entry_read; rfl
theorem V_b : @Eq (Vec Ideal S8x4096x512 .bf16) (V m c main_v1) (truncf (F := Ideal) .bf16 (argB m c) bitsLt_bf16_f32) := by entry_read; rfl
theorem V_x : V m c main_arg2 = argX m c := by entry_read; rfl
theorem V_m : V m c main_v2 = shapeCast S8x6x1024 (argM m c) shapeCasts_S8x6144_S8x6x1024 := by entry_read; rfl
theorem V_w : @Eq (Vec Ideal S1024x1024 .bf16) (V m c main_v3) (truncf (F := Ideal) .bf16 (argW m c) bitsLt_bf16_f32) := by entry_read; rfl
theorem V_p : V m c main_v4 = shapeCast S1x1024 (argP m c) shapeCasts_S1024_S1x1024 := by entry_read; rfl

theorem blkA_apply (t : Fin cfg0.N) (i d : Fin 512) : blkA m c t (ix3 0 i d) = argA m c (ix3 (batch t) (row t i) d) := by
  have h : V m c main_v0 (ix3 (batch t) (row t i) d) = argA m c (ix3 (batch t) (row t i) d) := congrFun (V_a m c) _
  rw [← h]
  unfold blkA iblk
  rw [View.read_apply]
  show V m c main_v0 _ = V m c main_v0 _
  refine congrArg (V m c main_v0) (funext fun a => Fin.ext ?_)
  match a with
  | ⟨0, _⟩ => show (BitVec.ofNat 32 (grid0.coords t 0).val).toNat * 1 + 1 * 0 = t.val / 8; rw [coord0]; omega
  | ⟨1, _⟩ => show (BitVec.ofNat 32 (grid0.coords t 1).val).toNat * 512 + 1 * i.val = 512 * (t.val % 8) + i.val; rw [coord1]; omega
  | ⟨2, _⟩ => show 0 * 512 + 1 * d.val = d.val; omega

theorem blkB_apply (t : Fin cfg0.N) (i d : Fin 512) : blkB m c t (ix3 0 i d) = argB m c (ix3 (batch t) (row t i) d) := by
  have h : V m c main_v1 (ix3 (batch t) (row t i) d) = argB m c (ix3 (batch t) (row t i) d) := congrFun (V_b m c) _
  rw [← h]
  unfold blkB iblk
  rw [View.read_apply]
  show V m c main_v1 _ = V m c main_v1 _
  refine congrArg (V m c main_v1) (funext fun a => Fin.ext ?_)
  match a with
  | ⟨0, _⟩ => show (BitVec.ofNat 32 (grid0.coords t 0).val).toNat * 1 + 1 * 0 = t.val / 8; rw [coord0]; omega
  | ⟨1, _⟩ => show (BitVec.ofNat 32 (grid0.coords t 1).val).toNat * 512 + 1 * i.val = 512 * (t.val % 8) + i.val; rw [coord1]; omega
  | ⟨2, _⟩ => show 0 * 512 + 1 * d.val = d.val; omega

theorem blkX_apply (t : Fin cfg0.N) (i : Fin 512) (d : Fin 1024) : blkX m c t (ix3 0 i d) = argX m c (ix3 (batch t) (row t i) d) := by
  rw [← V_x]
  unfold blkX iblk
  rw [View.read_apply]
  show V m c main_arg2 _ = V m c main_arg2 _
  refine congrArg (V m c main_arg2) (funext fun a => Fin.ext ?_)
  match a with
  | ⟨0, _⟩ => show (BitVec.ofNat 32 (grid0.coords t 0).val).toNat * 1 + 1 * 0 = t.val / 8; rw [coord0]; omega
  | ⟨1, _⟩ => show (BitVec.ofNat 32 (grid0.coords t 1).val).toNat * 512 + 1 * i.val = 512 * (t.val % 8) + i.val; rw [coord1]; omega
  | ⟨2, _⟩ => show 0 * 1024 + 1 * d.val = d.val; omega

theorem blkM_apply (t : Fin cfg0.N) (d : Fin 1024) : blkM m c t (ix3 0 2 d) = argM m c (ix2 (batch t) ⟨1024 * 2 + d.val, by omega⟩) := by
  refine Eq.trans ?_ (cast_mod (argM m c) (batch t) 2 d)
  rw [← V_m]
  unfold blkM iblk
  rw [View.read_apply]
  show V m c main_v2 _ = V m c main_v2 _
  refine congrArg (V m c main_v2) (funext fun a => Fin.ext ?_)
  match a with
  | ⟨0, _⟩ => show (BitVec.ofNat 32 (grid0.coords t 0).val).toNat * 1 + 1 * 0 = t.val / 8; rw [coord0]; omega
  | ⟨1, _⟩ => show 0 * 6 + 1 * 2 = 2; omega
  | ⟨2, _⟩ => show 0 * 1024 + 1 * d.val = d.val; omega

theorem blkW_apply (t : Fin cfg0.N) (k d : Fin 1024) : blkW m c t (ix2 k d) = argW m c (ix2 k d) := by
  have h : V m c main_v3 (ix2 k d) = argW m c (ix2 k d) := congrFun (V_w m c) _
  rw [← h]
  unfold blkW iblk
  rw [View.read_apply]
  show V m c main_v3 _ = V m c main_v3 _
  refine congrArg (V m c main_v3) (funext fun a => Fin.ext ?_)
  match a with
  | ⟨0, _⟩ => show 0 * 1024 + 1 * k.val = k.val; omega
  | ⟨1, _⟩ => show 0 * 1024 + 1 * d.val = d.val; omega

theorem blkP_apply (t : Fin cfg0.N) (d : Fin 1024) : blkP m c t (ix2 0 d) = argP m c (ix1 d) := by
  refine Eq.trans ?_ (cast_row (argP m c) d)
  rw [← V_p]
  unfold blkP iblk
  rw [View.read_apply]
  show V m c main_v4 _ = V m c main_v4 _
  refine congrArg (V m c main_v4) (funext fun a => Fin.ext ?_)
  match a with
  | ⟨0, _⟩ => show 0 * 1 + 1 * 0 = 0; omega
  | ⟨1, _⟩ => show 0 * 1024 + 1 * d.val = d.val; omega

/-! ## The launch's array -/

/-- The output product at one position. -/
def mixed (b : Fin 8) (s : Fin 4096) (d : Fin 1024) : EReal :=
  product (fun k => argA m c (ix3 b s k)) (fun k => argB m c (ix3 b s k)) fun k => argW m c (ix2 k d)

/-- One entry of the result. -/
def value (b : Fin 8) (s : Fin 4096) (d : Fin 1024) : EReal :=
  entry (fun e => argX m c (ix3 b s e)) (mixed m c b s) (fun e => argP m c (ix1 e)) (fun e => argM m c (ix2 b ⟨1024 * 2 + e.val, by omega⟩)) d

/-- The array of the results. -/
def result : Buf (Elt Ideal) ((c.tc : Thread nD τ).loc main_v5) := fun y : S8x4096x1024.Idx =>
  value m c ⟨(y 0).val, (y 0).isLt⟩ ⟨(y 1).val, (y 1).isLt⟩ ⟨(y 2).val, (y 2).isLt⟩

theorem value_congr {b b' : Fin 8} {s s' : Fin 4096} {d d' : Fin 1024} (eb : b.val = b'.val) (es : s.val = s'.val) (ed : d.val = d'.val) :
    value m c b s d = value m c b' s' d' := by
  rw [Fin.ext eb, Fin.ext es, Fin.ext ed]

/-- What a point leaves in the output block, as the payloads of its blocks. -/
theorem out_eq (t : Fin cfg0.N) : (dats m 0 c).after 6 t
    = k0_pay1 (k0_pay2 (blkA m c t) (low (blkW m c t)) (blkB m c t) (high (blkW m c t)) (blkX m c t) (blkP m c t)
        (View.ld (blkM m c t) (Rect.unit ![0, 2, 0] ![1, 1, 1024] inb_S1x6x1024_S1x1x1024_0_2_0))) := by
  rw [after0_6]; unfold low high; frame_out

/-- What a point stores, entry by entry. -/
theorem out_apply (t : Fin cfg0.N) (i : Fin 512) (d : Fin 1024) :
    (dats m 0 c).after 6 t (ix3 0 i d) = value m c (batch t) (row t i) d := by
  rw [out_eq m c t, pay_apply, ld_row]
  simp only [prod, low_apply, high_apply, blkA_apply, blkB_apply, blkX_apply, blkM_apply, blkW_apply, blkP_apply]
  unfold value entry unitScale mixed product
  rw [mul_comm (argM m c _) _, mul_assoc (_ * _) (argP m c (ix1 d))]

/-- What a point writes back is its block of the array. -/
theorem flushed_eq (t : Fin cfg0.N) : (dats m 0 c).flushed 6 t = (win0_6.blk t).view.read (Elt Ideal) (result m c) := by
  rw [Value.flushed6, ← after0_6]
  funext y
  rw [View.read_apply]
  show (dats m 0 c).after 6 t y = result m c _
  have y0 : (y 0).val < 1 := (y 0).isLt
  have y1 : (y 1).val < 512 := (y 1).isLt
  have y2 : (y 2).val < 1024 := (y 2).isLt
  have ey : y = (ix3 0 ⟨(y 1).val, y1⟩ ⟨(y 2).val, y2⟩ : S1x512x1024.Idx) := by
    funext a
    match a with
    | ⟨0, _⟩ => exact Fin.ext (by show (y 0).val = 0; omega)
    | ⟨1, _⟩ => rfl
    | ⟨2, _⟩ => rfl
  refine ((congrArg ((dats m 0 c).after 6 t) ey).trans (out_apply m c t ⟨(y 1).val, y1⟩ ⟨(y 2).val, y2⟩)).trans ?_
  have c0 : t.val / 8 = (BitVec.ofNat 32 (grid0.coords t 0).val).toNat * 1 + 1 * (y 0).val := by rw [coord0]; omega
  have c1 : 512 * (t.val % 8) + (y 1).val = (BitVec.ofNat 32 (grid0.coords t 1).val).toNat * 512 + 1 * (y 1).val := by rw [coord1]; omega
  have c2 : (y 2).val = 0 * 1024 + 1 * (y 2).val := by omega
  exact value_congr m c c0 c1 c2

/-- Every position of the array lies in the block of a point that writes back. -/
theorem covered (i : S8x4096x1024.Idx) : ∃ t : Fin cfg0.N, (cfg0.win 6).flush t = true ∧ i ∈ ((cfg0.win 6).blk t).view.set := by
  have h0 : (i 0).val < 8 := (i 0).isLt
  have h1 : (i 1).val < 4096 := (i 1).isLt
  have h2 : (i 2).val < 1024 := (i 2).isLt
  let t : Fin cfg0.N := ⟨8 * (i 0).val + (i 1).val / 512, Nat.lt_of_lt_of_eq (by omega : _ < 64) N_0.symm⟩
  refine ⟨t, flush0_6 t, ?_⟩
  show i ∈ ((View.whole main_v5).slice (win0_6.rect t)).set
  rw [View.set_slice_whole, Rect.mem_set_unit]
  have e0 := coord0 t
  have e1 := coord1 t
  have et : t.val = 8 * (i 0).val + (i 1).val / 512 := rfl
  intro a
  match a with
  | ⟨0, _⟩ =>
    show (BitVec.ofNat 32 (grid0.coords t 0).val).toNat * 1 ≤ (i 0).val ∧ (i 0).val < (BitVec.ofNat 32 (grid0.coords t 0).val).toNat * 1 + 1
    omega
  | ⟨1, _⟩ =>
    show (BitVec.ofNat 32 (grid0.coords t 1).val).toNat * 512 ≤ (i 1).val ∧ (i 1).val < (BitVec.ofNat 32 (grid0.coords t 1).val).toNat * 512 + 512
    omega
  | ⟨2, _⟩ => show 0 * 1024 ≤ (i 2).val ∧ (i 2).val < 0 * 1024 + 1024; omega

theorem final_eq : (dats m 0 c).arrAt 6 cfg0.N = result m c :=
  (dats m 0 c).arrAt_eq_of_cover 6 (result m c) (fun t _ => flushed_eq m c t) covered

/-- The run: the result array holds the formula's entries, and the arguments are as they were. -/
theorem run_value (ρ : Dev nD → PrngReg) : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_eq m c), (h c).2⟩) (Value.run_blocks m ρ)

end Cert.Kernel5Ideal.Outproj

end
-- ==== Proof.Outproj.EvenReference.lean ====
/-
  The even layers' output call as the reference states it, entry by entry.
-/
module

public import proofs.«01_k».proof.Proof.Outproj.Formula
public import proofs.«01_k».proof.Proof.Gen.Reference5Ideal.Run
public import Idealize.ShloMosaic.Lib.Pointwise

@[expose] public section

set_option maxRecDepth 16384

noncomputable section

namespace Cert.Reference5Ideal.Outproj

open Idealize.ShloMosaic Idealize.ShloMosaic.TcCoe Idealize.SL.Sem
open Cert.Reference5Ideal Cert.Reference5Ideal.Gen Cert.Reference5Ideal.Value
open Cert.Mlp (unitScale entry)
open Cert.Outproj (joined product joined_product)
open Facts

/-- A row brought to unit root mean square and scaled by the learned weights. -/
def normed (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))

def products (A B : FVec Ideal S8x4096x512 .f32) (W : FVec Ideal S1024x1024 .f32) : FVec Ideal S8x4096x1024 .f32 :=
  Host.dotGeneral dot_S8x4096x1024_S1024x1024_S8x4096x1024_2_0_01_1_n_n none (concatenate S8x4096x1024 2 [⟨S8x4096x512, A⟩, ⟨S8x4096x512, B⟩] concatenates_S8x4096x512_S8x4096x512_S8x4096x1024_d2) W

def gated (X : FVec Ideal S8x4096x1024 .f32) (M : FVec Ideal S8x6144 .f32) (N : FVec Ideal S8x4096x1024 .f32) : FVec Ideal S8x4096x1024 .f32 :=
  addf X (mulf (broadcastInDim S8x4096x1024 ![0, 1, 2] bcast_S8x1x1024_S8x4096x1024_0_1_2 (extractStridedSlice S8x1x1024 ![0, 0, 2048] (broadcastInDim S8x1x6144 ![0, 2] bcast_S8x6144_S8x1x6144_0_2 M) slices_S8x1x6144_S8x1x1024_0_0_2048)) N)

theorem normed_apply (X : FVec Ideal S8x4096x1024 .f32) (G : FVec Ideal S1024 .f32) (b : Fin 8) (s : Fin 4096) (d : Fin 1024) :
    normed X G (ix3 b s d) = X (ix3 b s d) * unitScale (fun e => X (ix3 b s e)) * G (ix1 d) := by
  unfold unitScale
  pointwise [normed]

theorem products_apply (A B : FVec Ideal S8x4096x512 .f32) (W : FVec Ideal S1024x1024 .f32) (b : Fin 8) (s : Fin 4096) (d : Fin 1024) :
    products A B W (ix3 b s d) = product (fun k => A (ix3 b s k)) (fun k => B (ix3 b s k)) fun k => W (ix2 k d) := by
  rw [← joined_product]
  unfold joined
  pointwise [products]

theorem gated_apply (X : FVec Ideal S8x4096x1024 .f32) (M : FVec Ideal S8x6144 .f32) (N : FVec Ideal S8x4096x1024 .f32) (b : Fin 8) (s : Fin 4096) (d : Fin 1024) :
    gated X M N (ix3 b s d) = X (ix3 b s d) + M (ix2 b ⟨2048 + d.val, by omega⟩) * N (ix3 b s d) := by
  pointwise [gated]

variable (m : (ℓ : Loc nD τ sig) → Buf (Elt Ideal) ℓ) (c : Dev nD)

/-- The reference's result, stage by stage. -/
def res : Buf (Elt Ideal) ((c.tc : Thread nD τ).loc main_v24) :=
  gated (m ((c.tc : Thread nD τ).loc main_arg2)) (m ((c.tc : Thread nD τ).loc main_arg3))
    (normed (products (m ((c.tc : Thread nD τ).loc main_arg0)) (m ((c.tc : Thread nD τ).loc main_arg1))
      (m ((c.tc : Thread nD τ).loc main_arg4))) (m ((c.tc : Thread nD τ).loc main_arg5)))

/-- One entry of the result. -/
theorem res_apply (b : Fin 8) (s : Fin 4096) (d : Fin 1024) :
    res m c (ix3 b s d)
      = entry (fun e => m ((c.tc : Thread nD τ).loc main_arg2) (ix3 b s e))
        (fun e => product (fun k => m ((c.tc : Thread nD τ).loc main_arg0) (ix3 b s k))
          (fun k => m ((c.tc : Thread nD τ).loc main_arg1) (ix3 b s k)) fun k => m ((c.tc : Thread nD τ).loc main_arg4) (ix2 k e))
        (fun e => m ((c.tc : Thread nD τ).loc main_arg5) (ix1 e)) (fun e => m ((c.tc : Thread nD τ).loc main_arg3) (ix2 b ⟨1024 * 2 + e.val, by omega⟩)) d := by
  unfold res
  rw [gated_apply, normed_apply]
  simp only [products_apply]
  rfl

/-- The reference's run, its result stage by stage. -/
theorem run_res (ρ : Dev nD → PrngReg) : θ_run defs (onTc (τ := τ) (main (F := Ideal))) ⟨m, fun _ => 0, ρ⟩ fun r => ∀ c : Dev nD,
      r.2.mem ((c.tc : Thread nD τ).loc main_v24) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (run (F := Ideal) m ρ)

end Cert.Reference5Ideal.Outproj

end
-- ==== Proof.Outproj.Odd.lean ====
/-
  The odd layers' output call: what one point computes from its blocks, the blocks read back to the arguments, and the array that the
  launch leaves, entry by entry.
-/
module

public import proofs.«01_k».proof.Proof.Outproj.Formula
public import proofs.«01_k».proof.Proof.Gen.Kernel6Ideal.Value
public import Idealize.ShloMosaic.Lib.Pointwise
public import Idealize.ShloMosaic.Lib.Pipeline.ValueKit.Acc

@[expose] public section

set_option maxRecDepth 16384

noncomputable section

namespace Cert.Kernel6Ideal.Outproj

open Idealize.ShloMosaic Idealize.ShloMosaic.TcCoe Idealize.SL.Sem
open Idealize.ShloMosaic.Pipeline (Dat)
open Cert.Kernel6Ideal.Gen
open Cert.Mlp (unitScale entry)
open Cert.Outproj (product halfScale halfNormed)

/-! ## The payloads -/

theorem pay2_apply (a : Vec Ideal S1x512x512 .f32) (g : Vec Ideal S1x512 .f32) (u : Vec Ideal S512x1024 .bf16) (b : Vec Ideal S1x512x512 .bf16)
    (w : Vec Ideal S512x1024 .bf16) (i : Fin 512) (d : Fin 1024) :
    k0_pay2 a g u b w (ix2 i d)
      = (∑ k : Fin 512, a (ix3 0 i k) * Ideal.rsqrt (Ideal.div (∑ e : Fin 512, a (ix3 0 i e) * a (ix3 0 i e)) (Ideal.ofBits .f32 0x44000000#32) + Ideal.ofBits .f32 0x358637BD#32) * g (ix2 0 k) * u (ix2 k d))
        + ∑ k : Fin 512, b (ix3 0 i k) * w (ix2 k d) := by
  pointwise [k0_pay2]

theorem pay1_apply (y : FVec Ideal S512x1024 .f32) (x : Vec Ideal S1x512x1024 .f32) (p : Vec Ideal S1x1024 .f32) (s : Vec Ideal S1x1x1024 .f32) (i : Fin 512) (d : Fin 1024) :
    k0_pay1 y (k0_pay3 x) (k0_pay4 p s) (ix3 0 i d)
      = x (ix3 0 i d) + y (ix2 i d) * Ideal.rsqrt (Ideal.div (∑ e : Fin 1024, y (ix2 i e) * y (ix2 i e)) (Ideal.ofBits .f32 0x44800000#32) + Ideal.ofBits .f32 0x358637BD#32)
        * (p (ix2 0 d) * s (ix3 0 0 d)) := by
  pointwise [k0_pay1, k0_pay3, k0_pay4]

theorem ld_row (X : Vec Ideal S1x6x1024 .f32) (inb) (d : Fin 1024) :
    View.ld X (Rect.unit (s := S1x6x1024) ![0, 2, 0] ![1, 1, 1024] inb) (ix3 0 0 d) = X (ix3 0 2 d) := by
  refine congrArg X (funext fun a => Fin.ext ?_)
  match a with
  | ⟨0, _⟩ => rfl
  | ⟨1, _⟩ => show 2 + 1 * 0 = 2; omega
  | ⟨2, _⟩ => show 0 + 1 * d.val = d.val; omega

/-- The two halves of the output matrix that the products read. -/
def low (X : Vec Ideal S1024x1024 .bf16) : Vec Ideal S512x1024 .bf16 := View.ld X (Rect.unit ![0, 0] ![512, 1024] inb_S1024x1024_S512x1024_0_0)
def high (X : Vec Ideal S1024x1024 .bf16) : Vec Ideal S512x1024 .bf16 := View.ld X (Rect.unit ![512, 0] ![512, 1024] inb_S1024x1024_S512x1024_512_0)

theorem low_apply (X : Vec Ideal S1024x1024 .bf16) (k : Fin 512) (d : Fin 1024) : low X (ix2 k d) = X (ix2 ⟨k.val, by omega⟩ d) := by
  refine congrArg X (funext fun a => Fin.ext ?_)
  match a with
  | ⟨0, _⟩ => show 0 + 1 * k.val = k.val; omega
  | ⟨1, _⟩ => show 0 + 1 * d.val = d.val; omega

theorem high_apply (X : Vec Ideal S1024x1024 .bf16) (k : Fin 512) (d : Fin 1024) : high X (ix2 k d) = X (ix2 ⟨512 + k.val, by omega⟩ d) := by
  refine congrArg X (funext fun a => Fin.ext ?_)
  match a with
  | ⟨0, _⟩ => show 512 + 1 * k.val = 512 + k.val; omega
  | ⟨1, _⟩ => show 0 + 1 * d.val = d.val; omega

/-! ## The blocks of the argument arrays -/

theorem cast_mod (x : Vec Ideal S8x6144 .f32) (b : Fin 8) (k : Fin 6) (d : Fin 1024) :
    shapeCast S8x6x1024 x shapeCasts_S8x6144_S8x6x1024 (ix3 b k d) = x (ix2 b ⟨1024 * k.val + d.val, by omega⟩) := by
  pointwise
  exact congrArg (fun e : Fin 6144 => x (ix2 b e)) (Fin.ext (by dsimp only; omega))

theorem cast_row (x : Vec Ideal S1024 .f32) (d : Fin 1024) : shapeCast S1x1024 x shapeCasts_S1024_S1x1024 (ix2 0 d) = x (ix1 d) := by
  pointwise

theorem cast_half (x : Vec Ideal S512 .f32) (d : Fin 512) : shapeCast S1x512 x shapeCasts_S512_S1x512 (ix2 0 d) = x (ix1 d) := by
  pointwise

variable (m : (ℓ : Loc nD τ sig) → Buf (Elt Ideal) ℓ) (c : Dev nD)

abbrev argA : Vec Ideal S8x4096x512 .f32 := m ((c.tc : Thread nD τ).loc main_arg0)
abbrev argB : Vec Ideal S8x4096x512 .f32 := m ((c.tc : Thread nD τ).loc main_arg1)
abbrev argX : Vec Ideal S8x4096x1024 .f32 := m ((c.tc : Thread nD τ).loc main_arg2)
abbrev argM : Vec Ideal S8x6144 .f32 := m ((c.tc : Thread nD τ).loc main_arg3)
abbrev argW : Vec Ideal S1024x1024 .f32 := m ((c.tc : Thread nD τ).loc main_arg4)
abbrev argP : Vec Ideal S1024 .f32 := m ((c.tc : Thread nD τ).loc main_arg5)
abbrev argG : Vec Ideal S512 .f32 := m ((c.tc : Thread nD τ).loc main_arg6)

/-- The input blocks of a point, at their shapes. -/
abbrev blkA (t : Fin cfg0.N) : Vec Ideal S1x512x512 .f32 := iblk m c 0 t
abbrev blkB (t : Fin cfg0.N) : Vec Ideal S1x512x512 .bf16 := iblk m c 1 t
abbrev blkX (t : Fin cfg0.N) : Vec Ideal S1x512x1024 .f32 := iblk m c 2 t
abbrev blkM (t : Fin cfg0.N) : Vec Ideal S1x6x1024 .f32 := iblk m c 3 t
abbrev blkW (t : Fin cfg0.N) : Vec Ideal S1024x1024 .bf16 := iblk m c 4 t
abbrev blkP (t : Fin cfg0.N) : Vec Ideal S1x1024 .f32 := iblk m c 5 t
abbrev blkG (t : Fin cfg0.N) : Vec Ideal S1x512 .f32 := iblk m c 6 t

/-- The batch element of a point, and a row of its tile. -/
def batch (t : Fin cfg0.N) : Fin 8 := ⟨t.val / 8, by have := Nat.lt_of_lt_of_eq t.isLt N_0; omega⟩
def row (t : Fin cfg0.N) (i : Fin 512) : Fin 4096 := ⟨512 * (t.val % 8) + i.val, by omega⟩

theorem coord0 (t : Fin cfg0.N) : (BitVec.ofNat 32 (grid0.coords t 0).val).toNat = t.val / 8 := by
  have ht : t.val < 64 := Nat.lt_of_lt_of_eq t.isLt N_0
  have e : (grid0.coords t 0).val = t.val / 8 % 8 := Pipeline.Grid.coords_val t 0 (by decide) rfl
  rw [e, BitVec.toNat_ofNat]; omega
theorem coord1 (t : Fin cfg0.N) : (BitVec.ofNat 32 (grid0.coords t 1).val).toNat = t.val % 8 := by
  have e : (grid0.coords t 1).val = t.val / 1 % 8 := Pipeline.Grid.coords_val t 1 (by decide) rfl
  rw [e, BitVec.toNat_ofNat]; omega

theorem V_a : V m c main_arg0 = argA m c := by entry_read; rfl
theorem V_b : @Eq (Vec Ideal S8x4096x512 .bf16) (V m c main_v0) (truncf (F := Ideal) .bf16 (argB m c) bitsLt_bf16_f32) := by entry_read; rfl
theorem V_x : V m c main_arg2 = argX m c := by entry_read; rfl
theorem V_m : V m c main_v1 = shapeCast S8x6x1024 (argM m c) shapeCasts_S8x6144_S8x6x1024 := by entry_read; rfl
theorem V_w : @Eq (Vec Ideal S1024x1024 .bf16) (V m c main_v2) (truncf (F := Ideal) .bf16 (argW m c) bitsLt_bf16_f32) := by entry_read; rfl
theorem V_p : V m c main_v3 = shapeCast S1x1024 (argP m c) shapeCasts_S1024_S1x1024 := by entry_read; rfl
theorem V_g : V m c main_v4 = shapeCast S1x512 (argG m c) shapeCasts_S512_S1x512 := by entry_read; rfl

theorem blkA_apply (t : Fin cfg0.N) (i d : Fin 512) : blkA m c t (ix3 0 i d) = argA m c (ix3 (batch t) (row t i) d) := by
  rw [← V_a]
  unfold blkA iblk
  rw [View.read_apply]
  show V m c main_arg0 _ = V m c main_arg0 _
  refine congrArg (V m c main_arg0) (funext fun a => Fin.ext ?_)
  match a with
  | ⟨0, _⟩ => show (BitVec.ofNat 32 (grid0.coords t 0).val).toNat * 1 + 1 * 0 = t.val / 8; rw [coord0]; omega
  | ⟨1, _⟩ => show (BitVec.ofNat 32 (grid0.coords t 1).val).toNat * 512 + 1 * i.val = 512 * (t.val % 8) + i.val; rw [coord1]; omega
  | ⟨2, _⟩ => show 0 * 512 + 1 * d.val = d.val; omega

theorem blkB_apply (t : Fin cfg0.N) (i d : Fin 512) : blkB m c t (ix3 0 i d) = argB m c (ix3 (batch t) (row t i) d) := by
  have h : V m c main_v0 (ix3 (batch t) (row t i) d) = argB m c (ix3 (batch t) (row t i) d) := congrFun (V_b m c) _
  rw [← h]
  unfold blkB iblk
  rw [View.read_apply]
  show V m c main_v0 _ = V m c main_v0 _
  refine congrArg (V m c main_v0) (funext fun a => Fin.ext ?_)
  match a with
  | ⟨0, _⟩ => show (BitVec.ofNat 32 (grid0.coords t 0).val).toNat * 1 + 1 * 0 = t.val / 8; rw [coord0]; omega
  | ⟨1, _⟩ => show (BitVec.ofNat 32 (grid0.coords t 1).val).toNat * 512 + 1 * i.val = 512 * (t.val % 8) + i.val; rw [coord1]; omega
  | ⟨2, _⟩ => show 0 * 512 + 1 * d.val = d.val; omega

theorem blkX_apply (t : Fin cfg0.N) (i : Fin 512) (d : Fin 1024) : blkX m c t (ix3 0 i d) = argX m c (ix3 (batch t) (row t i) d) := by
  rw [← V_x]
  unfold blkX iblk
  rw [View.read_apply]
  show V m c main_arg2 _ = V m c main_arg2 _
  refine congrArg (V m c main_arg2) (funext fun a => Fin.ext ?_)
  match a with
  | ⟨0, _⟩ => show (BitVec.ofNat 32 (grid0.coords t 0).val).toNat * 1 + 1 * 0 = t.val / 8; rw [coord0]; omega
  | ⟨1, _⟩ => show (BitVec.ofNat 32 (grid0.coords t 1).val).toNat * 512 + 1 * i.val = 512 * (t.val % 8) + i.val; rw [coord1]; omega
  | ⟨2, _⟩ => show 0 * 1024 + 1 * d.val = d.val; omega

theorem blkM_apply (t : Fin cfg0.N) (d : Fin 1024) : blkM m c t (ix3 0 2 d) = argM m c (ix2 (batch t) ⟨1024 * 2 + d.val, by omega⟩) := by
  refine Eq.trans ?_ (cast_mod (argM m c) (batch t) 2 d)
  rw [← V_m]
  unfold blkM iblk
  rw [View.read_apply]
  show V m c main_v1 _ = V m c main_v1 _
  refine congrArg (V m c main_v1) (funext fun a => Fin.ext ?_)
  match a with
  | ⟨0, _⟩ => show (BitVec.ofNat 32 (grid0.coords t 0).val).toNat * 1 + 1 * 0 = t.val / 8; rw [coord0]; omega
  | ⟨1, _⟩ => show 0 * 6 + 1 * 2 = 2; omega
  | ⟨2, _⟩ => show 0 * 1024 + 1 * d.val = d.val; omega

theorem blkW_apply (t : Fin cfg0.N) (k d : Fin 1024) : blkW m c t (ix2 k d) = argW m c (ix2 k d) := by
  have h : V m c main_v2 (ix2 k d) = argW m c (ix2 k d) := congrFun (V_w m c) _
  rw [← h]
  unfold blkW iblk
  rw [View.read_apply]
  show V m c main_v2 _ = V m c main_v2 _
  refine congrArg (V m c main_v2) (funext fun a => Fin.ext ?_)
  match a with
  | ⟨0, _⟩ => show 0 * 1024 + 1 * k.val = k.val; omega
  | ⟨1, _⟩ => show 0 * 1024 + 1 * d.val = d.val; omega

theorem blkP_apply (t : Fin cfg0.N) (d : Fin 1024) : blkP m c t (ix2 0 d) = argP m c (ix1 d) := by
  refine Eq.trans ?_ (cast_row (argP m c) d)
  rw [← V_p]
  unfold blkP iblk
  rw [View.read_apply]
  show V m c main_v3 _ = V m c main_v3 _
  refine congrArg (V m c main_v3) (funext fun a => Fin.ext ?_)
  match a with
  | ⟨0, _⟩ => show 0 * 1 + 1 * 0 = 0; omega
  | ⟨1, _⟩ => show 0 * 1024 + 1 * d.val = d.val; omega

theorem blkG_apply (t : Fin cfg0.N) (d : Fin 512) : blkG m c t (ix2 0 d) = argG m c (ix1 d) := by
  refine Eq.trans ?_ (cast_half (argG m c) d)
  rw [← V_g]
  unfold blkG iblk
  rw [View.read_apply]
  show V m c main_v4 _ = V m c main_v4 _
  refine congrArg (V m c main_v4) (funext fun a => Fin.ext ?_)
  match a with
  | ⟨0, _⟩ => show 0 * 1 + 1 * 0 = 0; omega
  | ⟨1, _⟩ => show 0 * 512 + 1 * d.val = d.val; omega

/-! ## The launch's array -/

/-- The output product at one position: the first mixer's row is normed first. -/
def mixed (b : Fin 8) (s : Fin 4096) (d : Fin 1024) : EReal :=
  product (halfNormed (fun k => argA m c (ix3 b s k)) fun k => argG m c (ix1 k)) (fun k => argB m c (ix3 b s k)) fun k => argW m c (ix2 k d)

/-- One entry of the result. -/
def value (b : Fin 8) (s : Fin 4096) (d : Fin 1024) : EReal :=
  entry (fun e => argX m c (ix3 b s e)) (mixed m c b s) (fun e => argP m c (ix1 e)) (fun e => argM m c (ix2 b ⟨1024 * 2 + e.val, by omega⟩)) d

/-- The array of the results. -/
def result : Buf (Elt Ideal) ((c.tc : Thread nD τ).loc main_v5) := fun y : S8x4096x1024.Idx =>
  value m c ⟨(y 0).val, (y 0).isLt⟩ ⟨(y 1).val, (y 1).isLt⟩ ⟨(y 2).val, (y 2).isLt⟩

theorem value_congr {b b' : Fin 8} {s s' : Fin 4096} {d d' : Fin 1024} (eb : b.val = b'.val) (es : s.val = s'.val) (ed : d.val = d'.val) :
    value m c b s d = value m c b' s' d' := by
  rw [Fin.ext eb, Fin.ext es, Fin.ext ed]

/-- What a point leaves in the output block, as the payloads of its blocks. -/
theorem out_eq (t : Fin cfg0.N) : (dats m 0 c).after 7 t
    = k0_pay1 (k0_pay2 (blkA m c t) (blkG m c t) (low (blkW m c t)) (blkB m c t) (high (blkW m c t)))
      (k0_pay3 (blkX m c t)) (k0_pay4 (blkP m c t) (View.ld (blkM m c t) (Rect.unit ![0, 2, 0] ![1, 1, 1024] inb_S1x6x1024_S1x1x1024_0_2_0))) := by
  rw [after0_7]; unfold low high; frame_out

/-- What a point stores, entry by entry. -/
theorem out_apply (t : Fin cfg0.N) (i : Fin 512) (d : Fin 1024) :
    (dats m 0 c).after 7 t (ix3 0 i d) = value m c (batch t) (row t i) d := by
  rw [out_eq m c t, pay1_apply, ld_row]
  simp only [pay2_apply, low_apply, high_apply, blkA_apply, blkB_apply, blkX_apply, blkM_apply, blkW_apply, blkP_apply, blkG_apply]
  unfold value entry unitScale mixed product halfNormed halfScale
  rw [mul_comm (argM m c _) _, mul_assoc (_ * _) (argP m c (ix1 d))]

/-- What a point writes back is its block of the array. -/
theorem flushed_eq (t : Fin cfg0.N) : (dats m 0 c).flushed 7 t = (win0_7.blk t).view.read (Elt Ideal) (result m c) := by
  rw [Value.flushed7, ← after0_7]
  funext y
  rw [View.read_apply]
  show (dats m 0 c).after 7 t y = result m c _
  have y0 : (y 0).val < 1 := (y 0).isLt
  have y1 : (y 1).val < 512 := (y 1).isLt
  have y2 : (y 2).val < 1024 := (y 2).isLt
  have ey : y = (ix3 0 ⟨(y 1).val, y1⟩ ⟨(y 2).val, y2⟩ : S1x512x1024.Idx) := by
    funext a
    match a with
    | ⟨0, _⟩ => exact Fin.ext (by show (y 0).val = 0; omega)
    | ⟨1, _⟩ => rfl
    | ⟨2, _⟩ => rfl
  refine ((congrArg ((dats m 0 c).after 7 t) ey).trans (out_apply m c t ⟨(y 1).val, y1⟩ ⟨(y 2).val, y2⟩)).trans ?_
  have c0 : t.val / 8 = (BitVec.ofNat 32 (grid0.coords t 0).val).toNat * 1 + 1 * (y 0).val := by rw [coord0]; omega
  have c1 : 512 * (t.val % 8) + (y 1).val = (BitVec.ofNat 32 (grid0.coords t 1).val).toNat * 512 + 1 * (y 1).val := by rw [coord1]; omega
  have c2 : (y 2).val = 0 * 1024 + 1 * (y 2).val := by omega
  exact value_congr m c c0 c1 c2

/-- Every position of the array lies in the block of a point that writes back. -/
theorem covered (i : S8x4096x1024.Idx) : ∃ t : Fin cfg0.N, (cfg0.win 7).flush t = true ∧ i ∈ ((cfg0.win 7).blk t).view.set := by
  have h0 : (i 0).val < 8 := (i 0).isLt
  have h1 : (i 1).val < 4096 := (i 1).isLt
  have h2 : (i 2).val < 1024 := (i 2).isLt
  let t : Fin cfg0.N := ⟨8 * (i 0).val + (i 1).val / 512, Nat.lt_of_lt_of_eq (by omega : _ < 64) N_0.symm⟩
  refine ⟨t, flush0_7 t, ?_⟩
  show i ∈ ((View.whole main_v5).slice (win0_7.rect t)).set
  rw [View.set_slice_whole, Rect.mem_set_unit]
  have e0 := coord0 t
  have e1 := coord1 t
  have et : t.val = 8 * (i 0).val + (i 1).val / 512 := rfl
  intro a
  match a with
  | ⟨0, _⟩ =>
    show (BitVec.ofNat 32 (grid0.coords t 0).val).toNat * 1 ≤ (i 0).val ∧ (i 0).val < (BitVec.ofNat 32 (grid0.coords t 0).val).toNat * 1 + 1
    omega
  | ⟨1, _⟩ =>
    show (BitVec.ofNat 32 (grid0.coords t 1).val).toNat * 512 ≤ (i 1).val ∧ (i 1).val < (BitVec.ofNat 32 (grid0.coords t 1).val).toNat * 512 + 512
    omega
  | ⟨2, _⟩ => show 0 * 1024 ≤ (i 2).val ∧ (i 2).val < 0 * 1024 + 1024; omega

theorem final_eq : (dats m 0 c).arrAt 7 cfg0.N = result m c :=
  (dats m 0 c).arrAt_eq_of_cover 7 (result m c) (fun t _ => flushed_eq m c t) covered

/-- The run: the result array holds the formula's entries, and the arguments are as they were. -/
theorem run_value (ρ : Dev nD → PrngReg) : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final_eq m c), (h c).2⟩) (Value.run_blocks m ρ)

end Cert.Kernel6Ideal.Outproj

end
-- ==== Proof.Outproj.OddReference.lean ====
/-
  The odd layers' output call as the reference states it, entry by entry.
-/
module

public import proofs.«01_k».proof.Proof.Outproj.Formula
public import proofs.«01_k».proof.Proof.Gen.Reference6Ideal.Run
public import Idealize.ShloMosaic.Lib.Pointwise

@[expose] public section

set_option maxRecDepth 16384

noncomputable section

namespace Cert.Reference6Ideal.Outproj

open Idealize.ShloMosaic Idealize.ShloMosaic.TcCoe Idealize.SL.Sem
open Cert.Reference6Ideal Cert.Reference6Ideal.Gen Cert.Reference6Ideal.Value
open Cert.Mlp (unitScale entry)
open Cert.Outproj (joined product halfScale halfNormed joined_product)
open Facts

/-- A row brought to unit root mean square and scaled by the learned weights, over the model's width and over a mixer's. -/
def normed (X : FVec Ideal S8x4096x1024 .f32) (G : FVec Ideal S1024 .f32) : FVec Ideal S8x4096x1024 .f32 :=
  mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))

def normedHalf (X : FVec Ideal S8x4096x512 .f32) (G : FVec Ideal S512 .f32) : FVec Ideal S8x4096x512 .f32 :=
  mulf (mulf X (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf X X) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 G))

def products (A B : FVec Ideal S8x4096x512 .f32) (W : FVec Ideal S1024x1024 .f32) : FVec Ideal S8x4096x1024 .f32 :=
  Host.dotGeneral dot_S8x4096x1024_S1024x1024_S8x4096x1024_2_0_01_1_n_n none (concatenate S8x4096x1024 2 [⟨S8x4096x512, A⟩, ⟨S8x4096x512, B⟩] concatenates_S8x4096x512_S8x4096x512_S8x4096x1024_d2) W

def gated (X : FVec Ideal S8x4096x1024 .f32) (M : FVec Ideal S8x6144 .f32) (N : FVec Ideal S8x4096x1024 .f32) : FVec Ideal S8x4096x1024 .f32 :=
  addf X (mulf (broadcastInDim S8x4096x1024 ![0, 1, 2] bcast_S8x1x1024_S8x4096x1024_0_1_2 (extractStridedSlice S8x1x1024 ![0, 0, 2048] (broadcastInDim S8x1x6144 ![0, 2] bcast_S8x6144_S8x1x6144_0_2 M) slices_S8x1x6144_S8x1x1024_0_0_2048)) N)

theorem normed_apply (X : FVec Ideal S8x4096x1024 .f32) (G : FVec Ideal S1024 .f32) (b : Fin 8) (s : Fin 4096) (d : Fin 1024) :
    normed X G (ix3 b s d) = X (ix3 b s d) * unitScale (fun e => X (ix3 b s e)) * G (ix1 d) := by
  unfold unitScale
  pointwise [normed]

theorem normedHalf_apply (X : FVec Ideal S8x4096x512 .f32) (G : FVec Ideal S512 .f32) (b : Fin 8) (s : Fin 4096) (d : Fin 512) :
    normedHalf X G (ix3 b s d) = halfNormed (fun e => X (ix3 b s e)) (fun e => G (ix1 e)) d := by
  unfold halfNormed halfScale
  pointwise [normedHalf]

theorem products_apply (A B : FVec Ideal S8x4096x512 .f32) (W : FVec Ideal S1024x1024 .f32) (b : Fin 8) (s : Fin 4096) (d : Fin 1024) :
    products A B W (ix3 b s d) = product (fun k => A (ix3 b s k)) (fun k => B (ix3 b s k)) fun k => W (ix2 k d) := by
  rw [← joined_product]
  unfold joined
  pointwise [products]

theorem gated_apply (X : FVec Ideal S8x4096x1024 .f32) (M : FVec Ideal S8x6144 .f32) (N : FVec Ideal S8x4096x1024 .f32) (b : Fin 8) (s : Fin 4096) (d : Fin 1024) :
    gated X M N (ix3 b s d) = X (ix3 b s d) + M (ix2 b ⟨2048 + d.val, by omega⟩) * N (ix3 b s d) := by
  pointwise [gated]

variable (m : (ℓ : Loc nD τ sig) → Buf (Elt Ideal) ℓ) (c : Dev nD)

/-- The reference's result, stage by stage. -/
def res : Buf (Elt Ideal) ((c.tc : Thread nD τ).loc main_v37) :=
  gated (m ((c.tc : Thread nD τ).loc main_arg2)) (m ((c.tc : Thread nD τ).loc main_arg3))
    (normed (products (normedHalf (m ((c.tc : Thread nD τ).loc main_arg0)) (m ((c.tc : Thread nD τ).loc main_arg6))) (m ((c.tc : Thread nD τ).loc main_arg1))
      (m ((c.tc : Thread nD τ).loc main_arg4))) (m ((c.tc : Thread nD τ).loc main_arg5)))

/-- One entry of the result. -/
theorem res_apply (b : Fin 8) (s : Fin 4096) (d : Fin 1024) :
    res m c (ix3 b s d)
      = entry (fun e => m ((c.tc : Thread nD τ).loc main_arg2) (ix3 b s e))
        (fun e => product (halfNormed (fun k => m ((c.tc : Thread nD τ).loc main_arg0) (ix3 b s k)) fun k => m ((c.tc : Thread nD τ).loc main_arg6) (ix1 k))
          (fun k => m ((c.tc : Thread nD τ).loc main_arg1) (ix3 b s k)) fun k => m ((c.tc : Thread nD τ).loc main_arg4) (ix2 k e))
        (fun e => m ((c.tc : Thread nD τ).loc main_arg5) (ix1 e)) (fun e => m ((c.tc : Thread nD τ).loc main_arg3) (ix2 b ⟨1024 * 2 + e.val, by omega⟩)) d := by
  unfold res
  rw [gated_apply, normed_apply]
  simp only [products_apply, normedHalf_apply]
  rfl

/-- The reference's run, its result stage by stage. -/
theorem run_res (ρ : Dev nD → PrngReg) : θ_run defs (onTc (τ := τ) (main (F := Ideal))) ⟨m, fun _ => 0, ρ⟩ fun r => ∀ c : Dev nD,
      r.2.mem ((c.tc : Thread nD τ).loc main_v37) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2⟩) (run (F := Ideal) m ρ)

end Cert.Reference6Ideal.Outproj

end
-- ==== Proof.Inproj.Formula.lean ====
/-
  The columns of the input projections as formulas over the extended reals: the product of an entering row with a column of the input
  matrix, and where each column of the projection's results is found among the columns of the matrix.
-/
module

public import proofs.«01_k».proof.Proof.Mlp.Formula

@[expose] public section

noncomputable section

namespace Cert.Inproj

open Idealize.ShloMosaic

/-- The product of an entering row with a column. -/
def column (h w : Fin 1024 → EReal) : EReal := ∑ e : Fin 1024, h e * w e

/-- The product with a column of zeros. -/
theorem column_zero (h : Fin 1024 → EReal) : column h (fun _ => 0) = 0 := by
  unfold column
  simp only [mul_zero, Finset.sum_const_zero]

/-- The odd layers' columns for the state-space mixer: the convolved ones, then the gate's. -/
def oddMix (d : Fin 1536) : Fin 3088 := ⟨(512 + d.val) % 1536, by omega⟩

/-- The column of a lane of the step sizes: two groups of 128 lanes, whose first eight are the group's four heads of either direction. -/
def oddStep (l : Fin 256) : Fin 3088 := ⟨1536 + 8 * (l.val % 8 / 4) + 4 * (l.val / 128) + l.val % 4, by omega⟩

/-- A lane of the step sizes, zero past a group's eight heads. -/
def stepLane (p : Fin 3088 → EReal) (l : Fin 256) : EReal := if l.val % 128 < 8 then p (oddStep l) else 0

/-- A lane of the even layers' gates: sixteen columns, then zeros. -/
def gateLane (p : Fin 3088 → EReal) (l : Fin 128) : EReal := if h : l.val < 16 then p ⟨2048 + l.val, by omega⟩ else 0

/-- One entry of a head, brought to unit root mean square over its 128 entries and scaled by the learned weights. -/
def normedHead (v g : Fin 128 → EReal) (d : Fin 128) : EReal :=
  v d * Ideal.rsqrt (Ideal.div (∑ e : Fin 128, v e * v e) (Ideal.ofBits .f32 0x43000000#32) + Ideal.ofBits .f32 0x358637BD#32) * g d

theorem normedHead_congr {v v' : Fin 128 → EReal} (g : Fin 128 → EReal) {d d' : Fin 128} (hv : ∀ e, v e = v' e) (hd : d.val = d'.val) :
    normedHead v g d = normedHead v' g d' := by
  rw [funext hv, Fin.ext hd]

theorem unit_eq : Ideal.ofBits .f32 0x3F800000#32 = 1 := by
  simp [Ideal.ofBits, Ideal.ieee, -EReal.coe_mul]
  norm_num

theorem zero_eq : Ideal.ofBits .f32 0x00000000#32 = 0 := by
  simp [Ideal.ofBits, Ideal.ieee, -EReal.coe_mul]

/-- The exact scale of the queries: one over the root of the head dimension, in units of the logarithm of two. -/
def scale : ℝ := (Real.sqrt 128 * Real.log 2)⁻¹

/-- The scale as its two factors: the reciprocal root, over the logarithm. -/
theorem scale_eq : Ideal.div (Ideal.rsqrt (Ideal.ofBits .f32 0x43000000#32)) (Ideal.log (Ideal.ofBits .f32 0x40000000#32)) = ((scale : ℝ) : EReal) := by
  have e128 : Ideal.ofBits .f32 0x43000000#32 = ((128 : ℝ) : EReal) := by
    simp [Ideal.ofBits, Ideal.ieee, -EReal.coe_mul]
    norm_num
  have e2 : Ideal.ofBits .f32 0x40000000#32 = ((2 : ℝ) : EReal) := by
    simp [Ideal.ofBits, Ideal.ieee, -EReal.coe_mul]
    norm_num
  have er : Ideal.rsqrt ((128 : ℝ) : EReal) = (((Real.sqrt 128)⁻¹ : ℝ) : EReal) := by
    show (if (128 : ℝ) < 0 then (⊥ : EReal) else if (128 : ℝ) = 0 then ⊤ else (((Real.sqrt 128)⁻¹ : ℝ) : EReal)) = _
    rw [if_neg (by norm_num), if_neg (by norm_num)]
  have el : Ideal.log ((2 : ℝ) : EReal) = ((Real.log 2 : ℝ) : EReal) := by
    show (if (2 : ℝ) ≤ 0 then (⊥ : EReal) else ((Real.log 2 : ℝ) : EReal)) = _
    rw [if_neg (by norm_num)]
  have hl : Real.log 2 ≠ 0 := (Real.log_pos (by norm_num)).ne'
  rw [e128, e2, er, el]
  unfold Ideal.div scale
  rw [if_neg (by exact_mod_cast hl), ← EReal.coe_inv, ← EReal.coe_mul, mul_inv]

end Cert.Inproj

end
-- ==== Proof.Inproj.Tiles.lean ====
/-
  The input calls' arrays of 4096 rows, read and written in tiles of 512: positions of a tile, the array built from its entries, and the
  stores that fill a tile in strips of 128 columns.
-/
module

public import Idealize.ShloMosaic.Lib.Pointwise
public import Idealize.ShloMosaic.Lib.Pipeline.ValueKit.Acc

@[expose] public section

noncomputable section

namespace Cert.Inproj

open Idealize.ShloMosaic

/-- An array of rows, given entry by entry. -/
abbrev arr {n : ℕ} (f : Fin 4096 → Fin n → EReal) : (⟨3, ![1, 4096, n]⟩ : Shape).Idx → EReal := fun y => f ⟨(y 1).val, (y 1).isLt⟩ ⟨(y 2).val, (y 2).isLt⟩

/-- Arrays of rows are equal where their entries are. -/
theorem rows_ext {n : ℕ} {a b : (⟨3, ![1, 4096, n]⟩ : Shape).Idx → EReal} (h : ∀ (s : Fin 4096) (d : Fin n), a (ix3 0 s d) = b (ix3 0 s d)) : a = b := by
  funext y
  have y0 : (y 0).val < 1 := (y 0).isLt
  have e : y = ix3 0 ⟨(y 1).val, (y 1).isLt⟩ ⟨(y 2).val, (y 2).isLt⟩ := by
    funext a
    match a with
    | ⟨0, _⟩ => exact Fin.ext (by show (y 0).val = 0; omega)
    | ⟨1, _⟩ => rfl
    | ⟨2, _⟩ => rfl
  rw [e]
  exact h _ _

/-- A tile, likewise. -/
abbrev tile {n : ℕ} (f : Fin 512 → Fin n → EReal) : (⟨3, ![1, 512, n]⟩ : Shape).Idx → EReal := fun y => f ⟨(y 1).val, (y 1).isLt⟩ ⟨(y 2).val, (y 2).isLt⟩

theorem arr_congr {n : ℕ} (f : Fin 4096 → Fin n → EReal) {s s' : Fin 4096} {d d' : Fin n} (es : s.val = s'.val) (ed : d.val = d'.val) : f s d = f s' d' := by
  rw [Fin.ext es, Fin.ext ed]

/-- A position of a tile, by its row and column. -/
theorem tile_idx {n : ℕ} (y : (⟨3, ![1, 512, n]⟩ : Shape).Idx) : y = ix3 0 ⟨(y 1).val, (y 1).isLt⟩ ⟨(y 2).val, (y 2).isLt⟩ := by
  have y0 : (y 0).val < 1 := (y 0).isLt
  funext a
  match a with
  | ⟨0, _⟩ => exact Fin.ext (by show (y 0).val = 0; omega)
  | ⟨1, _⟩ => rfl
  | ⟨2, _⟩ => rfl

/-- A tile's entry is the array's, where the tile's rows start at row `o`. -/
theorem tile_entry {n : ℕ} (f : Fin 4096 → Fin n → EReal) (T : (⟨3, ![1, 512, n]⟩ : Shape).Idx → EReal) (row : Fin 512 → Fin 4096)
    (h : ∀ i d, T (ix3 0 i d) = f (row i) d) (y : (⟨3, ![1, 512, n]⟩ : Shape).Idx) (Y : (⟨3, ![1, 4096, n]⟩ : Shape).Idx)
    (e1 : (row ⟨(y 1).val, (y 1).isLt⟩).val = (Y 1).val) (e2 : (y 2).val = (Y 2).val) : T y = arr f Y :=
  ((congrArg T (tile_idx y)).trans (h _ _)).trans (arr_congr f e1 e2)

/-- A position lies within the tile of its row. -/
theorem mem_tile {n : ℕ} (i : (⟨3, ![1, 4096, n]⟩ : Shape).Idx) (o : Fin 3 → ℕ) (h0 : o 0 = 0) (h1 : o 1 = 512 * ((i 1).val / 512)) (h2 : o 2 = 0) (inb) :
    i ∈ (Rect.unit (s := ⟨3, ![1, 4096, n]⟩) o ![1, 512, n] inb).set := by
  have b0 : (i 0).val < 1 := (i 0).isLt
  have b2 : (i 2).val < n := (i 2).isLt
  rw [Rect.mem_set_unit]
  intro a
  match a with
  | ⟨0, _⟩ => show o 0 ≤ (i 0).val ∧ (i 0).val < o 0 + 1; omega
  | ⟨1, _⟩ => show o 1 ≤ (i 1).val ∧ (i 1).val < o 1 + 512; omega
  | ⟨2, _⟩ => show o 2 ≤ (i 2).val ∧ (i 2).val < o 2 + n; omega

/-- A strip of 128 columns, as a part of its tile. -/
theorem strip_entry {n : ℕ} (f : Fin 512 → Fin n → EReal) (k : ℕ) (hk : k + 128 ≤ n) (inb) (T : (⟨3, ![1, 512, 128]⟩ : Shape).Idx → EReal)
    (h : ∀ (i : Fin 512) (d : Fin 128), T (ix3 0 i d) = f i ⟨k + d.val, by omega⟩) (x : (⟨3, ![1, 512, 128]⟩ : Shape).Idx) :
    T x = tile f ((Rect.unit (s := ⟨3, ![1, 512, n]⟩) ![0, 0, k] ![1, 512, 128] inb).emb x) := by
  refine ((congrArg T (tile_idx x)).trans (h _ _)).trans ?_
  refine congr (congrArg f (Fin.ext ?_)) (Fin.ext ?_)
  · show (x 1).val = 0 + 1 * (x 1).val; omega
  · show k + (x 2).val = k + 1 * (x 2).val; omega

end Cert.Inproj

end
-- ==== Proof.Inproj.Even.lean ====
/-
  The even layers' input call: what one point computes from its blocks, the blocks read back to the arguments, and the arrays that the
  launch leaves, entry by entry.
-/
module

public import proofs.«01_k».proof.Proof.Inproj.Formula
public import proofs.«01_k».proof.Proof.Inproj.Tiles
public import proofs.«01_k».proof.Proof.Gen.Kernel3Ideal.Value
public import Idealize.ShloMosaic.Lib.Pointwise
public import Idealize.ShloMosaic.Lib.Pipeline.ValueKit.Acc

@[expose] public section

set_option maxRecDepth 16384

noncomputable section

namespace Cert.Kernel3Ideal.Inproj

open Idealize.ShloMosaic Idealize.ShloMosaic.TcCoe Idealize.SL.Sem
open Idealize.ShloMosaic.Pipeline (Dat)
open Cert.Kernel3Ideal.Gen
open Cert.Mlp (unitScale entering)
open Cert.Inproj

/-! ## The payloads -/

section Payloads

variable (x : Vec Ideal S1x512x1024 .f32) (g : Vec Ideal S1x1024 .f32) (s b : Vec Ideal S1x1x1024 .f32) (i : Fin 512)

/-- An entering row of a point. -/
abbrev rowIn : Fin 1024 → EReal :=
  entering (fun e => x (ix3 0 i e)) (fun e => g (ix2 0 e)) (fun e => s (ix3 0 0 e)) fun e => b (ix3 0 0 e)

theorem pay6_apply (e : Fin 1024) : k0_pay6 x g s b (ix2 i e) = rowIn x g s b i e := by
  unfold rowIn entering unitScale
  pointwise [k0_pay6]
  rw [mul_assoc (_ * _) (g (ix2 0 e))]

theorem pay7_apply (w : Vec Ideal S1024x1024 .bf16) (n : Fin 1024) : k0_pay7 x g s b w (ix2 i n) = column (rowIn x g s b i) fun e => w (ix2 e n) := by
  unfold column
  pointwise [k0_pay7]
  simp only [pay6_apply]

theorem pay9_apply (w : Vec Ideal S1024x2048 .bf16) (n : Fin 2048) : k0_pay9 (k0_pay8 x g s b w) (ix3 0 i n) = column (rowIn x g s b i) fun e => w (ix2 e n) := by
  unfold column
  pointwise [k0_pay8, k0_pay9]
  simp only [pay6_apply]

theorem pay10_apply (w : Vec Ideal S1024x128 .bf16) (n : Fin 128) : k0_pay10 (k0_pay6 x g s b) w (ix3 0 i n) = column (rowIn x g s b i) fun e => w (ix2 e n) := by
  unfold column
  pointwise [k0_pay10]
  simp only [pay6_apply]

variable (y : FVec Ideal S512x1024 .f32)

theorem pay4_apply (d : Fin 256) : k0_pay4 y (ix3 0 i d) = y (ix2 i ⟨768 + d.val, by omega⟩) := by pointwise [k0_pay4]
theorem pay5_apply (d : Fin 256) : k0_pay5 y (ix3 0 i d) = y (ix2 i ⟨768 + d.val, by omega⟩) := by pointwise [k0_pay5]

end Payloads

/-! ## The heads

The rotation's tables are ones and zeros: a head keeps its place. -/

section Heads

variable (y : FVec Ideal S512x1024 .f32) (cs sn : FVec Ideal S512x128 .f32) (mask : IVec S512x128 1) (g : Vec Ideal S1x128 .f32)

/-- The head that starts at a column, normed. -/
abbrev head (k : ℕ) (hk : k + 128 ≤ 1024) (i : Fin 512) (d : Fin 128) : EReal :=
  normedHead (fun e => y (ix2 i ⟨k + e.val, by omega⟩)) (fun e => g (ix2 0 e)) d

variable (hc : ∀ (i : Fin 512) (d : Fin 128), cs (ix2 i d) = 1) (hs : ∀ (i : Fin 512) (d : Fin 128), sn (ix2 i d) = 0) (i : Fin 512) (d : Fin 128)

theorem scale_named : (Named.named κ "qk_scale_log2" (φ := .f32) 0x3E0293EE#32 : Ideal .f32) = ((scale : ℝ) : EReal) := by simp [Named.named, κ, scale]

include hc hs

theorem query0_apply : k0_pay16 (k0_pay14 y cs sn g) k0_pay15 (ix3 0 i d) = head y g 0 (by decide) i d * ((scale : ℝ) : EReal) := by
  rw [← scale_named]
  unfold head normedHead
  pointwise [k0_pay16, k0_pay14, k0_pay15, k0_pay11, k0_pay12]
  simp only [hc, hs, mul_one, mul_zero, add_zero, Nat.zero_add]

theorem query1_apply : k0_pay17 y cs sn mask g (ix3 0 i d) = head y g 128 (by decide) i d * ((scale : ℝ) : EReal) := by
  rw [← scale_named]
  unfold head normedHead
  pointwise [k0_pay17]
  simp only [hc, hs, mul_one, mul_zero, add_zero]

theorem query2_apply : k0_pay21 cs sn mask (k0_pay18 y) (k0_pay19 g) (k0_pay20 y) (ix3 0 i d) = head y g 256 (by decide) i d * ((scale : ℝ) : EReal) := by
  rw [← scale_named]
  unfold head normedHead
  pointwise [k0_pay21, k0_pay18, k0_pay19, k0_pay20]
  simp only [hc, hs, mul_one, mul_zero, add_zero]

theorem query3_apply : k0_pay23 (k0_pay22 y cs sn mask g) (ix3 0 i d) = head y g 384 (by decide) i d * ((scale : ℝ) : EReal) := by
  rw [← scale_named]
  unfold head normedHead
  pointwise [k0_pay23, k0_pay22]
  simp only [hc, hs, mul_one, mul_zero, add_zero]

theorem key0_apply : k0_pay25 y cs sn mask g (ix3 0 i d) = head y g 512 (by decide) i d := by
  unfold head normedHead
  pointwise [k0_pay25, k0_pay24]
  simp only [hc, hs, mul_one, mul_zero, add_zero]

theorem key1_apply : k0_pay2 cs sn mask (k0_pay27 y) (k0_pay28 g) (k0_pay29 y) k0_pay30 (ix3 0 i d) = head y g 640 (by decide) i d := by
  unfold head normedHead
  pointwise [k0_pay2, k0_pay1, k0_pay27, k0_pay28, k0_pay29, k0_pay30]
  simp only [hc, hs, mul_one, mul_zero, add_zero]

omit hc hs

theorem cache0_apply : k0_pay26 y g (ix3 0 i d) = head y g 512 (by decide) i d := by
  unfold head normedHead
  pointwise [k0_pay26, k0_pay24]

theorem cache1_apply : k0_pay3 (k0_pay27 y) (k0_pay28 g) (k0_pay29 y) k0_pay30 (ix3 0 i d) = head y g 640 (by decide) i d := by
  unfold head normedHead
  pointwise [k0_pay3, k0_pay1, k0_pay27, k0_pay28, k0_pay29, k0_pay30]

/-- A tile of heads laid side by side from column `o` on. -/
def heads (o : ℕ) {n : ℕ} (ho : o + n ≤ 1024) (hn : n % 128 = 0) (i : Fin 512) (d : Fin n) : EReal :=
  head y g (o + 128 * (d.val / 128)) (by omega) i ⟨d.val % 128, by omega⟩

theorem heads_at (o : ℕ) {n : ℕ} (ho : o + n ≤ 1024) (hn : n % 128 = 0) (k l : ℕ) (hk : k = o + l) (hl : l % 128 = 0) (hln : l + 128 ≤ n) :
    head y g k (by omega) i d = heads y g o ho hn i ⟨l + d.val, by omega⟩ := by
  unfold heads head
  exact normedHead_congr _ (fun e => congrArg (fun m : Fin 1024 => y (ix2 i m)) (Fin.ext (by dsimp only; omega))) (by dsimp only; omega)

include hc hs

/-- The four query heads' tile. -/
theorem query_tile (D : Fin 512) :
    View.canon ([⟨r0_14, k0_pay23 (k0_pay22 y cs sn mask g)⟩, ⟨r0_13, k0_pay21 cs sn mask (k0_pay18 y) (k0_pay19 g) (k0_pay20 y)⟩,
        ⟨r0_12, k0_pay17 y cs sn mask g⟩, ⟨r0_11, k0_pay16 (k0_pay14 y cs sn g) k0_pay15⟩] : List (View.Piece (Elt Ideal) S1x512x512 .bf16)) (ix3 0 i D)
      = heads y g 0 (n := 512) (by decide) (by decide) i D * ((scale : ℝ) : EReal) := by
  let f : Fin 512 → Fin 512 → EReal := fun i D => heads y g 0 (n := 512) (by decide) (by decide) i D * ((scale : ℝ) : EReal)
  refine View.canon_apply_of_pieces (Val := Elt Ideal) (tile f) _ (fun p hp => ?_) (ix3 0 i D) (cover0_10 _ _ _ _ _)
  simp only [List.mem_cons, List.not_mem_nil, or_false] at hp
  rcases hp with rfl | rfl | rfl | rfl
  · exact strip_entry f 384 (by decide) inb_S1x512x512_S1x512x128_0_0_384 _ fun i d => (query3_apply y cs sn mask g hc hs i d).trans (congrArg (· * _) (heads_at y g i d 0 _ _ 384 384 rfl rfl (by decide)))
  · exact strip_entry f 256 (by decide) inb_S1x512x512_S1x512x128_0_0_256 _ fun i d => (query2_apply y cs sn mask g hc hs i d).trans (congrArg (· * _) (heads_at y g i d 0 _ _ 256 256 rfl rfl (by decide)))
  · exact strip_entry f 128 (by decide) inb_S1x512x512_S1x512x128_0_0_128 _ fun i d => (query1_apply y cs sn mask g hc hs i d).trans (congrArg (· * _) (heads_at y g i d 0 _ _ 128 128 rfl rfl (by decide)))
  · exact strip_entry f 0 (by decide) inb_S1x512x512_S1x512x128_0_0_0 _ fun i d => (query0_apply y cs sn g hc hs i d).trans (congrArg (· * _) (heads_at y g i d 0 _ _ 0 0 rfl rfl (by decide)))

/-- The two key heads' tile. -/
theorem key_tile (D : Fin 256) :
    View.canon ([⟨r0_16, k0_pay2 cs sn mask (k0_pay27 y) (k0_pay28 g) (k0_pay29 y) k0_pay30⟩, ⟨r0_15, k0_pay25 y cs sn mask g⟩] : List (View.Piece (Elt Ideal) S1x512x256 .bf16)) (ix3 0 i D)
      = heads y g 512 (n := 256) (by decide) (by decide) i D := by
  let f : Fin 512 → Fin 256 → EReal := heads y g 512 (n := 256) (by decide) (by decide)
  refine View.canon_apply_of_pieces (Val := Elt Ideal) (tile f) _ (fun p hp => ?_) (ix3 0 i D) (cover0_11 _ _ _)
  simp only [List.mem_cons, List.not_mem_nil, or_false] at hp
  rcases hp with rfl | rfl
  · exact strip_entry f 128 (by decide) inb_S1x512x256_S1x512x128_0_0_128 _ fun i d => (key1_apply y cs sn mask g hc hs i d).trans (heads_at y g i d 512 _ _ 640 128 rfl rfl (by decide))
  · exact strip_entry f 0 (by decide) inb_S1x512x256_S1x512x128_0_0_0 _ fun i d => (key0_apply y cs sn mask g hc hs i d).trans (heads_at y g i d 512 _ _ 512 0 rfl rfl (by decide))

omit hc hs

/-- The two key heads' tile of the cache. -/
theorem cache_tile (D : Fin 256) :
    View.canon ([⟨r0_16, k0_pay3 (k0_pay27 y) (k0_pay28 g) (k0_pay29 y) k0_pay30⟩, ⟨r0_15, k0_pay26 y g⟩] : List (View.Piece (Elt Ideal) S1x512x256 .f32)) (ix3 0 i D)
      = heads y g 512 (n := 256) (by decide) (by decide) i D := by
  let f : Fin 512 → Fin 256 → EReal := heads y g 512 (n := 256) (by decide) (by decide)
  refine View.canon_apply_of_pieces (Val := Elt Ideal) (tile f) _ (fun p hp => ?_) (ix3 0 i D) (cover0_13 _ _ _)
  simp only [List.mem_cons, List.not_mem_nil, or_false] at hp
  rcases hp with rfl | rfl
  · exact strip_entry f 128 (by decide) inb_S1x512x256_S1x512x128_0_0_128 _ fun i d => (cache1_apply y g i d).trans (heads_at y g i d 512 _ _ 640 128 rfl rfl (by decide))
  · exact strip_entry f 0 (by decide) inb_S1x512x256_S1x512x128_0_0_0 _ fun i d => (cache0_apply y g i d).trans (heads_at y g i d 512 _ _ 512 0 rfl rfl (by decide))

end Heads

/-! ## The loads -/

/-- Row `k` of the modulation's block. -/
theorem ld_row (X : Vec Ideal S1x6x1024 .f32) (k : ℕ) (hk : k < 6) (inb) (d : Fin 1024) :
    View.ld X (Rect.unit (s := S1x6x1024) ![0, k, 0] ![1, 1, 1024] inb) (ix3 0 0 d) = X (ix3 0 ⟨k, hk⟩ d) := by
  refine congrArg X (funext fun a => Fin.ext ?_)
  match a with
  | ⟨0, _⟩ => rfl
  | ⟨1, _⟩ => show k + 1 * 0 = k; omega
  | ⟨2, _⟩ => show 0 + 1 * d.val = d.val; omega

/-- The matrix's columns that the three products read. -/
def mixW (X : Vec Ideal S1024x3200 .bf16) : Vec Ideal S1024x2048 .bf16 := View.ld X (Rect.unit ![0, 0] ![1024, 2048] inb_S1024x3200_S1024x2048_0_0)
def attnW (X : Vec Ideal S1024x3200 .bf16) : Vec Ideal S1024x1024 .bf16 := View.ld X (Rect.unit ![0, 2048] ![1024, 1024] inb_S1024x3200_S1024x1024_0_2048)
def gateW (X : Vec Ideal S1024x3200 .bf16) : Vec Ideal S1024x128 .bf16 := View.ld X (Rect.unit ![0, 3072] ![1024, 128] inb_S1024x3200_S1024x128_0_3072)

theorem mixW_apply (X : Vec Ideal S1024x3200 .bf16) (e : Fin 1024) (n : Fin 2048) : mixW X (ix2 e n) = X (ix2 e ⟨n.val, by omega⟩) := by
  refine congrArg X (funext fun a => Fin.ext ?_)
  match a with
  | ⟨0, _⟩ => show 0 + 1 * e.val = e.val; omega
  | ⟨1, _⟩ => show 0 + 1 * n.val = n.val; omega

theorem attnW_apply (X : Vec Ideal S1024x3200 .bf16) (e : Fin 1024) (n : Fin 1024) : attnW X (ix2 e n) = X (ix2 e ⟨2048 + n.val, by omega⟩) := by
  refine congrArg X (funext fun a => Fin.ext ?_)
  match a with
  | ⟨0, _⟩ => show 0 + 1 * e.val = e.val; omega
  | ⟨1, _⟩ => show 2048 + 1 * n.val = 2048 + n.val; omega

theorem gateW_apply (X : Vec Ideal S1024x3200 .bf16) (e : Fin 1024) (n : Fin 128) : gateW X (ix2 e n) = X (ix2 e ⟨3072 + n.val, by omega⟩) := by
  refine congrArg X (funext fun a => Fin.ext ?_)
  match a with
  | ⟨0, _⟩ => show 0 + 1 * e.val = e.val; omega
  | ⟨1, _⟩ => show 3072 + 1 * n.val = 3072 + n.val; omega

theorem ld_table (X : Vec Ideal S512x128 .f32) : View.ld X r0_9 = X :=
  View.ld_unit_zero (funext fun a => match a with | ⟨0, _⟩ => rfl | ⟨1, _⟩ => rfl) _ X
theorem ld_weights (X : Vec Ideal S1x128 .f32) : View.ld X r0_10 = X :=
  View.ld_unit_zero (funext fun a => match a with | ⟨0, _⟩ => rfl | ⟨1, _⟩ => rfl) _ X

/-! ## The matrix as it is laid out for the launch -/

/-- The gates' columns, padded to 128 lanes. -/
def lanes (T : FVec Ideal S1024x16 .f32) : FVec Ideal S1024x128 .f32 :=
  pad S1024x128 ![0, 0] ![0, 112] ![0, 0] T (sitofp (F := Ideal) .f32 (constantI S_ 32 0#32)) pads_S1024x16_S1024x128_000_01120 h_S_

/-- The columns of the input matrix in the launch's order. -/
def laid (W : FVec Ideal S1024x3088 .f32) : FVec Ideal S1024x3200 .bf16 :=
  truncf (F := Ideal) .bf16 (concatenate S1024x3200 1 [⟨S1024x2048, extractStridedSlice S1024x2048 ![0, 0] W slices_S1024x3088_S1024x2048_0_0⟩,
    ⟨S1024x1024, extractStridedSlice S1024x1024 ![0, 2064] W slices_S1024x3088_S1024x1024_0_2064⟩,
    ⟨S1024x128, lanes (extractStridedSlice S1024x16 ![0, 2048] W slices_S1024x3088_S1024x16_0_2048)⟩]
    concatenates_S1024x2048_S1024x1024_S1024x128_S1024x3200_d1) bitsLt_bf16_f32

theorem lanes_apply (T : FVec Ideal S1024x16 .f32) (e : Fin 1024) (l : Fin 128) :
    lanes T (ix2 e l) = if h : l.val < 16 then T (ix2 e ⟨l.val, h⟩) else (0 : EReal) := by
  have z : (FloatOps.sitofp (F := Ideal) FTy.f32 0#32 : EReal) = 0 := by
    show (((0#32 : BitVec 32).toInt : ℝ) : EReal) = 0
    simp
  pointwise [lanes]
  rw [z]

theorem laid_mix (W : FVec Ideal S1024x3088 .f32) (e : Fin 1024) (n : Fin 2048) : laid W (ix2 e ⟨n.val, by omega⟩) = W (ix2 e ⟨n.val, by omega⟩) := by
  pointwise [laid]

theorem laid_attn (W : FVec Ideal S1024x3088 .f32) (e : Fin 1024) (n : Fin 1024) : laid W (ix2 e ⟨2048 + n.val, by omega⟩) = W (ix2 e ⟨2064 + n.val, by omega⟩) := by
  pointwise [laid]

theorem laid_gate (W : FVec Ideal S1024x3088 .f32) (e : Fin 1024) (l : Fin 128) :
    laid W (ix2 e ⟨3072 + l.val, by omega⟩) = if h : l.val < 16 then W (ix2 e ⟨2048 + l.val, by omega⟩) else (0 : EReal) := by
  pointwise [laid]
  rw [dif_neg (by omega), dif_neg (by omega)]
  have el : (⟨3072 + l.val - 2048 - 1024, by omega⟩ : Fin 128) = l := Fin.ext (by dsimp only; omega)
  rw [el, lanes_apply]
  split_ifs with h
  · pointwise
  · rfl

/-! ## The blocks of the argument arrays -/

theorem cast_rows (x : Vec Ideal S16x256x1024 .f32) (s : Fin 4096) (d : Fin 1024) :
    shapeCast S1x4096x1024 x shapeCasts_S16x256x1024_S1x4096x1024 (ix3 0 s d) = x (ix3 ⟨s.val / 256, by omega⟩ ⟨s.val % 256, by omega⟩ d) := by
  pointwise

theorem cast_mod (x : Vec Ideal S6144 .f32) (k : Fin 6) (d : Fin 1024) :
    shapeCast S1x6x1024 x shapeCasts_S6144_S1x6x1024 (ix3 0 k d) = x (ix1 ⟨1024 * k.val + d.val, by omega⟩) := by
  pointwise
  exact congrArg (fun e : Fin 6144 => x (ix1 e)) (Fin.ext (by dsimp only; omega))

theorem cast_head (x : Vec Ideal S128 .f32) (d : Fin 128) : shapeCast S1x128 x shapeCasts_S128_S1x128 (ix2 0 d) = x (ix1 d) := by
  pointwise

theorem cast_row (x : Vec Ideal S1024 .f32) (d : Fin 1024) : shapeCast S1x1024 x shapeCasts_S1024_S1x1024 (ix2 0 d) = x (ix1 d) := by
  pointwise

variable (m : (ℓ : Loc nD τ sig) → Buf (Elt Ideal) ℓ) (c : Dev nD)

abbrev argX : Vec Ideal S16x256x1024 .f32 := m ((c.tc : Thread nD τ).loc main_arg0)
abbrev argM : Vec Ideal S6144 .f32 := m ((c.tc : Thread nD τ).loc main_arg1)
abbrev argG : Vec Ideal S1024 .f32 := m ((c.tc : Thread nD τ).loc main_arg2)
abbrev argW : Vec Ideal S1024x3088 .f32 := m ((c.tc : Thread nD τ).loc main_arg3)
abbrev argQ : Vec Ideal S128 .f32 := m ((c.tc : Thread nD τ).loc main_arg4)
abbrev argK : Vec Ideal S128 .f32 := m ((c.tc : Thread nD τ).loc main_arg5)

/-- The input blocks of a point, at their shapes. -/
abbrev blkX (t : Fin cfg0.N) : Vec Ideal S1x512x1024 .f32 := iblk m c 0 t
abbrev blkM (t : Fin cfg0.N) : Vec Ideal S1x6x1024 .f32 := iblk m c 1 t
abbrev blkG (t : Fin cfg0.N) : Vec Ideal S1x1024 .f32 := iblk m c 2 t
abbrev blkW (t : Fin cfg0.N) : Vec Ideal S1024x3200 .bf16 := iblk m c 3 t
abbrev blkC (t : Fin cfg0.N) : Vec Ideal S512x128 .f32 := iblk m c 4 t
abbrev blkS (t : Fin cfg0.N) : Vec Ideal S512x128 .f32 := iblk m c 5 t
abbrev blkQ (t : Fin cfg0.N) : Vec Ideal S1x128 .f32 := iblk m c 6 t
abbrev blkK (t : Fin cfg0.N) : Vec Ideal S1x128 .f32 := iblk m c 7 t

/-- A row of a point's tile. -/
def row (t : Fin cfg0.N) (i : Fin 512) : Fin 4096 := ⟨512 * t.val + i.val, by have := Nat.lt_of_lt_of_eq t.isLt N_0; omega⟩

theorem coord0 (t : Fin cfg0.N) : (BitVec.ofNat 32 (grid0.coords t 0).val).toNat = 0 := by
  have e : (grid0.coords t 0).val < 1 := (grid0.coords t 0).isLt
  rw [BitVec.toNat_ofNat]; omega
theorem coord1 (t : Fin cfg0.N) : (BitVec.ofNat 32 (grid0.coords t 1).val).toNat = t.val := by
  have ht : t.val < 8 := Nat.lt_of_lt_of_eq t.isLt N_0
  have e : (grid0.coords t 1).val = t.val / 1 % 8 := Pipeline.Grid.coords_val t 1 (by decide) rfl
  rw [e, BitVec.toNat_ofNat]; omega

theorem V_x : V m c main_v8 = shapeCast S1x4096x1024 (argX m c) shapeCasts_S16x256x1024_S1x4096x1024 := by entry_read; rfl
theorem V_m : V m c main_v9 = shapeCast S1x6x1024 (argM m c) shapeCasts_S6144_S1x6x1024 := by entry_read; rfl
theorem V_g : V m c main_v10 = shapeCast S1x1024 (argG m c) shapeCasts_S1024_S1x1024 := by entry_read; rfl
theorem V_w : @Eq (Vec Ideal S1024x3200 .bf16) (V m c main_v5) (laid (argW m c)) := by entry_read; rfl
theorem V_q : V m c main_v11 = shapeCast S1x128 (argQ m c) shapeCasts_S128_S1x128 := by entry_read; rfl
theorem V_k : V m c main_v12 = shapeCast S1x128 (argK m c) shapeCasts_S128_S1x128 := by entry_read; rfl
theorem V_cos : V m c main_v6 = broadcastInDim S512x128 ![] bcast_S_S512x128 (constant (F := Ideal) S_ .f32 0x3F800000#32) := by entry_read; rfl
theorem V_sin : V m c main_v7 = broadcastInDim S512x128 ![] bcast_S_S512x128 (constant (F := Ideal) S_ .f32 0x00000000#32) := by entry_read; rfl

theorem blkX_apply (t : Fin cfg0.N) (i : Fin 512) (d : Fin 1024) :
    blkX m c t (ix3 0 i d) = argX m c (ix3 ⟨(row t i).val / 256, by omega⟩ ⟨(row t i).val % 256, by omega⟩ d) := by
  refine Eq.trans ?_ (cast_rows (argX m c) (row t i) d)
  rw [← V_x]
  unfold blkX iblk
  rw [View.read_apply]
  show V m c main_v8 _ = V m c main_v8 _
  refine congrArg (V m c main_v8) (funext fun a => Fin.ext ?_)
  match a with
  | ⟨0, _⟩ => show (BitVec.ofNat 32 (grid0.coords t 0).val).toNat * 1 + 1 * 0 = 0; rw [coord0]
  | ⟨1, _⟩ => show (BitVec.ofNat 32 (grid0.coords t 1).val).toNat * 512 + 1 * i.val = 512 * t.val + i.val; rw [coord1]; omega
  | ⟨2, _⟩ => show 0 * 1024 + 1 * d.val = d.val; omega

theorem blkM_apply (t : Fin cfg0.N) (k : Fin 6) (d : Fin 1024) : blkM m c t (ix3 0 k d) = argM m c (ix1 ⟨1024 * k.val + d.val, by omega⟩) := by
  refine Eq.trans ?_ (cast_mod (argM m c) k d)
  rw [← V_m]
  unfold blkM iblk
  rw [View.read_apply]
  show V m c main_v9 _ = V m c main_v9 _
  refine congrArg (V m c main_v9) (funext fun a => Fin.ext ?_)
  match a with
  | ⟨0, _⟩ => show 0 * 1 + 1 * 0 = 0; omega
  | ⟨1, _⟩ => show 0 * 6 + 1 * k.val = k.val; omega
  | ⟨2, _⟩ => show 0 * 1024 + 1 * d.val = d.val; omega

theorem blkG_apply (t : Fin cfg0.N) (d : Fin 1024) : blkG m c t (ix2 0 d) = argG m c (ix1 d) := by
  refine Eq.trans ?_ (cast_row (argG m c) d)
  rw [← V_g]
  unfold blkG iblk
  rw [View.read_apply]
  show V m c main_v10 _ = V m c main_v10 _
  refine congrArg (V m c main_v10) (funext fun a => Fin.ext ?_)
  match a with
  | ⟨0, _⟩ => show 0 * 1 + 1 * 0 = 0; omega
  | ⟨1, _⟩ => show 0 * 1024 + 1 * d.val = d.val; omega

theorem blkW_apply (t : Fin cfg0.N) (k : Fin 1024) (n : Fin 3200) : blkW m c t (ix2 k n) = laid (argW m c) (ix2 k n) := by
  refine Eq.trans ?_ (congrFun (V_w m c) (ix2 k n))
  unfold blkW iblk
  rw [View.read_apply]
  show V m c main_v5 _ = V m c main_v5 _
  refine congrArg (V m c main_v5) (funext fun a => Fin.ext ?_)
  match a with
  | ⟨0, _⟩ => show 0 * 1024 + 1 * k.val = k.val; omega
  | ⟨1, _⟩ => show 0 * 3200 + 1 * n.val = n.val; omega

theorem blkQ_apply (t : Fin cfg0.N) (d : Fin 128) : blkQ m c t (ix2 0 d) = argQ m c (ix1 d) := by
  refine Eq.trans ?_ (cast_head (argQ m c) d)
  rw [← V_q]
  unfold blkQ iblk
  rw [View.read_apply]
  show V m c main_v11 _ = V m c main_v11 _
  refine congrArg (V m c main_v11) (funext fun a => Fin.ext ?_)
  match a with
  | ⟨0, _⟩ => show 0 * 1 + 1 * 0 = 0; omega
  | ⟨1, _⟩ => show 0 * 128 + 1 * d.val = d.val; omega

theorem blkK_apply (t : Fin cfg0.N) (d : Fin 128) : blkK m c t (ix2 0 d) = argK m c (ix1 d) := by
  refine Eq.trans ?_ (cast_head (argK m c) d)
  rw [← V_k]
  unfold blkK iblk
  rw [View.read_apply]
  show V m c main_v12 _ = V m c main_v12 _
  refine congrArg (V m c main_v12) (funext fun a => Fin.ext ?_)
  match a with
  | ⟨0, _⟩ => show 0 * 1 + 1 * 0 = 0; omega
  | ⟨1, _⟩ => show 0 * 128 + 1 * d.val = d.val; omega

/-- The rotation's tables hold ones and zeros throughout. -/
theorem blkC_apply (t : Fin cfg0.N) (i : Fin 512) (d : Fin 128) : blkC m c t (ix2 i d) = 1 := by
  refine Eq.trans ?_ unit_eq
  unfold blkC iblk
  rw [View.read_apply]
  exact congrFun (V_cos m c) _

theorem blkS_apply (t : Fin cfg0.N) (i : Fin 512) (d : Fin 128) : blkS m c t (ix2 i d) = 0 := by
  refine Eq.trans ?_ zero_eq
  unfold blkS iblk
  rw [View.read_apply]
  exact congrFun (V_sin m c) _

theorem cos_apply (t : Fin cfg0.N) (i : Fin 512) (d : Fin 128) : k0_pay11 (blkC m c t) (ix2 i d) = 1 := by
  pointwise [k0_pay11]
  exact blkC_apply m c t i d
theorem sin_apply (t : Fin cfg0.N) (i : Fin 512) (d : Fin 128) : k0_pay12 (blkS m c t) (ix2 i d) = 0 := by
  pointwise [k0_pay12]
  exact blkS_apply m c t i d

/-! ## The arrays' entries -/

/-- A row of the input, as it enters the products. -/
def inRow (s : Fin 4096) : Fin 1024 → EReal :=
  entering (fun e => argX m c (ix3 ⟨s.val / 256, by omega⟩ ⟨s.val % 256, by omega⟩ e)) (fun e => argG m c (ix1 e))
    (fun e => argM m c (ix1 ⟨1024 + e.val, by omega⟩)) fun e => argM m c (ix1 ⟨e.val, by omega⟩)

/-- One entry of the projections. -/
def proj (s : Fin 4096) (n : Fin 3088) : EReal := column (inRow m c s) fun e => argW m c (ix2 e n)

/-- What a point's entering row is, from its blocks. -/
theorem row_eq (t : Fin cfg0.N) (i : Fin 512) (inb1 inb0) :
    rowIn (blkX m c t) (blkG m c t) (View.ld (blkM m c t) (Rect.unit ![0, 1, 0] ![1, 1, 1024] inb1)) (View.ld (blkM m c t) (Rect.unit ![0, 0, 0] ![1, 1, 1024] inb0)) i
      = inRow m c (row t i) := by
  have e1 : ∀ d : Fin 1024, View.ld (blkM m c t) (Rect.unit ![0, 1, 0] ![1, 1, 1024] inb1) (ix3 0 0 d) = argM m c (ix1 ⟨1024 + d.val, by omega⟩) := fun d =>
    ((ld_row _ 1 (by decide) inb1 d).trans (blkM_apply m c t 1 d)).trans (congrArg (fun e : Fin 6144 => argM m c (ix1 e)) (Fin.ext (by show 1024 * 1 + d.val = 1024 + d.val; omega)))
  have e0 : ∀ d : Fin 1024, View.ld (blkM m c t) (Rect.unit ![0, 0, 0] ![1, 1, 1024] inb0) (ix3 0 0 d) = argM m c (ix1 ⟨d.val, by omega⟩) := fun d =>
    ((ld_row _ 0 (by decide) inb0 d).trans (blkM_apply m c t 0 d)).trans (congrArg (fun e : Fin 6144 => argM m c (ix1 e)) (Fin.ext (by show 1024 * 0 + d.val = d.val; omega)))
  unfold rowIn inRow
  simp only [e1, e0, blkX_apply, blkG_apply]

theorem out8_eq (t : Fin cfg0.N) : (dats m 0 c).after 8 t
    = k0_pay9 (k0_pay8 (blkX m c t) (blkG m c t) (View.ld (blkM m c t) (Rect.unit ![0, 1, 0] ![1, 1, 1024] inb_S1x6x1024_S1x1x1024_0_1_0))
        (View.ld (blkM m c t) (Rect.unit ![0, 0, 0] ![1, 1, 1024] inb_S1x6x1024_S1x1x1024_0_0_0)) (mixW (blkW m c t))) := by
  rw [after0_8]; unfold mixW; frame_out

theorem out9_eq (t : Fin cfg0.N) : (dats m 0 c).after 9 t
    = k0_pay10 (k0_pay6 (blkX m c t) (blkG m c t) (View.ld (blkM m c t) (Rect.unit ![0, 1, 0] ![1, 1, 1024] inb_S1x6x1024_S1x1x1024_0_1_0))
        (View.ld (blkM m c t) (Rect.unit ![0, 0, 0] ![1, 1, 1024] inb_S1x6x1024_S1x1x1024_0_0_0))) (gateW (blkW m c t)) := by
  rw [after0_9]; unfold gateW; frame_out

/-- The product that a point's five attention results share. -/
def shared (t : Fin cfg0.N) : FVec Ideal S512x1024 .f32 :=
  k0_pay7 (blkX m c t) (blkG m c t) (View.ld (blkM m c t) (Rect.unit ![0, 1, 0] ![1, 1, 1024] inb_S1x6x1024_S1x1x1024_0_1_0))
    (View.ld (blkM m c t) (Rect.unit ![0, 0, 0] ![1, 1, 1024] inb_S1x6x1024_S1x1x1024_0_0_0)) (attnW (blkW m c t))

theorem shared_eq (t : Fin cfg0.N) : k0_pay31 (blkX m c t) (blkM m c t) (blkG m c t) (blkW m c t) (blkC m c t) (blkS m c t) (blkQ m c t) (blkK m c t) = shared m c t := by
  unfold k0_pay31 shared attnW
  rw [View.ld_unit_zero (funext fun a => match a with | ⟨0, _⟩ => rfl | ⟨1, _⟩ => rfl | ⟨2, _⟩ => rfl) _ (blkX m c t),
    View.ld_unit_zero (funext fun a => match a with | ⟨0, _⟩ => rfl | ⟨1, _⟩ => rfl) _ (blkG m c t)]

theorem out12_eq (t : Fin cfg0.N) : (dats m 0 c).after 12 t = k0_pay4 (shared m c t) := by rw [after0_12]; unfold shared attnW; unfold_out out0_12; frame_out
theorem out14_eq (t : Fin cfg0.N) : (dats m 0 c).after 14 t = k0_pay5 (shared m c t) := by rw [after0_14]; unfold shared attnW; unfold_out out0_14; frame_out

theorem shared_apply (t : Fin cfg0.N) (i : Fin 512) (n : Fin 1024) : shared m c t (ix2 i n) = proj m c (row t i) ⟨2064 + n.val, by omega⟩ := by
  unfold shared proj
  rw [pay7_apply, row_eq]
  simp only [attnW_apply, blkW_apply, laid_attn]

theorem out8_apply (t : Fin cfg0.N) (i : Fin 512) (d : Fin 2048) : (dats m 0 c).after 8 t (ix3 0 i d) = proj m c (row t i) ⟨d.val, by omega⟩ := by
  rw [out8_eq, pay9_apply, row_eq]
  simp only [mixW_apply, blkW_apply, laid_mix]
  rfl

theorem out9_apply (t : Fin cfg0.N) (i : Fin 512) (l : Fin 128) : (dats m 0 c).after 9 t (ix3 0 i l) = gateLane (proj m c (row t i)) l := by
  rw [out9_eq, pay10_apply, row_eq]
  simp only [gateW_apply, blkW_apply, laid_gate]
  unfold gateLane proj
  split_ifs
  · rfl
  · exact column_zero _

/-- Heads of the shared product are heads of the row's projections. -/
theorem heads_shared (o : ℕ) {n : ℕ} (ho : o + n ≤ 1024) (hn : n % 128 = 0) (G : Vec Ideal S1x128 .f32) (g : Fin 128 → EReal) (hg : ∀ e, G (ix2 0 e) = g e)
    (t : Fin cfg0.N) (i : Fin 512) (d : Fin n) :
    heads (shared m c t) G o ho hn i d
      = normedHead (fun e => proj m c (row t i) ⟨2064 + o + (128 * (d.val / 128) + e.val), by omega⟩) g ⟨d.val % 128, by omega⟩ := by
  unfold heads head
  rw [funext hg]
  refine normedHead_congr g (fun e => ?_) rfl
  rw [shared_apply]
  exact congrArg (proj m c (row t i)) (Fin.ext (by dsimp only; omega))

theorem out10_apply (t : Fin cfg0.N) (i d : Fin 512) : (dats m 0 c).after 10 t (ix3 0 i d)
    = normedHead (fun e => proj m c (row t i) ⟨2064 + (128 * (d.val / 128) + e.val), by omega⟩) (fun e => argQ m c (ix1 e)) ⟨d.val % 128, by omega⟩ * ((scale : ℝ) : EReal) := by
  rw [after0_10]
  unfold out0_10
  rw [shared_eq]
  unfold k0_pay32 k0_pay33
  rw [ld_table, ld_table, ld_weights]
  refine (query_tile (shared m c t) (k0_pay11 (blkC m c t)) (k0_pay12 (blkS m c t)) k0_pay13 (blkQ m c t) (cos_apply m c t) (sin_apply m c t) i d).trans ?_
  exact congrArg (· * _) (heads_shared m c 0 _ _ _ _ (blkQ_apply m c t) t i d)

theorem out11_apply (t : Fin cfg0.N) (i : Fin 512) (d : Fin 256) : (dats m 0 c).after 11 t (ix3 0 i d)
    = normedHead (fun e => proj m c (row t i) ⟨2576 + (128 * (d.val / 128) + e.val), by omega⟩) (fun e => argK m c (ix1 e)) ⟨d.val % 128, by omega⟩ := by
  rw [after0_11]
  unfold out0_11 k0_pay35 k0_pay36 k0_pay37 k0_pay38
  rw [shared_eq]
  unfold k0_pay32 k0_pay33
  rw [ld_table, ld_table, ld_weights]
  refine (key_tile (shared m c t) (k0_pay11 (blkC m c t)) (k0_pay12 (blkS m c t)) k0_pay13 (blkK m c t) (cos_apply m c t) (sin_apply m c t) i d).trans ?_
  exact heads_shared m c 512 _ _ _ _ (blkK_apply m c t) t i d

theorem out13_apply (t : Fin cfg0.N) (i : Fin 512) (d : Fin 256) : (dats m 0 c).after 13 t (ix3 0 i d)
    = normedHead (fun e => proj m c (row t i) ⟨2576 + (128 * (d.val / 128) + e.val), by omega⟩) (fun e => argK m c (ix1 e)) ⟨d.val % 128, by omega⟩ := by
  rw [after0_13]
  unfold out0_13 k0_pay35 k0_pay36 k0_pay37 k0_pay38
  rw [shared_eq, ld_weights]
  exact (cache_tile (shared m c t) (blkK m c t) i d).trans (heads_shared m c 512 _ _ _ _ (blkK_apply m c t) t i d)

theorem out12_apply (t : Fin cfg0.N) (i : Fin 512) (d : Fin 256) : (dats m 0 c).after 12 t (ix3 0 i d) = proj m c (row t i) ⟨2832 + d.val, by omega⟩ := by
  rw [out12_eq, pay4_apply, shared_apply]
  exact congrArg (proj m c (row t i)) (Fin.ext (by dsimp only; omega))
theorem out14_apply (t : Fin cfg0.N) (i : Fin 512) (d : Fin 256) : (dats m 0 c).after 14 t (ix3 0 i d) = proj m c (row t i) ⟨2832 + d.val, by omega⟩ := by
  rw [out14_eq, pay5_apply, shared_apply]
  exact congrArg (proj m c (row t i)) (Fin.ext (by dsimp only; omega))

/-! ## The launch's arrays -/

/-- The point whose tile holds a row. -/
def tileOf (s : ℕ) (hs : s < 4096) : Fin cfg0.N := ⟨s / 512, Nat.lt_of_lt_of_eq (by omega : _ < 8) N_0.symm⟩

/-- Where a point's tile starts. -/
theorem start0 (t : Fin cfg0.N) : (BitVec.ofNat 32 (grid0.coords t 0).val).toNat * 1 = 0 := by rw [coord0]
theorem start1 (t : Fin cfg0.N) : (BitVec.ofNat 32 (grid0.coords t 1).val).toNat * 512 = 512 * t.val := by rw [coord1]; omega
theorem row_at (t : Fin cfg0.N) (r : Fin 512) : (row t r).val = (BitVec.ofNat 32 (grid0.coords t 1).val).toNat * 512 + 1 * r.val := by
  show 512 * t.val + r.val = _
  rw [coord1]; omega
theorem col_at (n d : ℕ) : d = 0 * n + 1 * d := by omega

/-- The entries of the results, by row and column; the caches hold the entries of the keys and values. -/
def mixAt (s : Fin 4096) (d : Fin 2048) : EReal := proj m c s ⟨d.val, by omega⟩
def gateAt (s : Fin 4096) (d : Fin 128) : EReal := gateLane (proj m c s) d
def queryAt (s : Fin 4096) (d : Fin 512) : EReal :=
  normedHead (fun e => proj m c s ⟨2064 + (128 * (d.val / 128) + e.val), by omega⟩) (fun e => argQ m c (ix1 e)) ⟨d.val % 128, by omega⟩ * ((scale : ℝ) : EReal)
def keyAt (s : Fin 4096) (d : Fin 256) : EReal :=
  normedHead (fun e => proj m c s ⟨2576 + (128 * (d.val / 128) + e.val), by omega⟩) (fun e => argK m c (ix1 e)) ⟨d.val % 128, by omega⟩
def valueAt (s : Fin 4096) (d : Fin 256) : EReal := proj m c s ⟨2832 + d.val, by omega⟩

/-- The seven arrays of the results. -/
def mix : Buf (Elt Ideal) ((c.tc : Thread nD τ).loc main_v13_0) := arr (mixAt m c)
def gate : Buf (Elt Ideal) ((c.tc : Thread nD τ).loc main_v13_1) := arr (gateAt m c)
def query : Buf (Elt Ideal) ((c.tc : Thread nD τ).loc main_v13_2) := arr (queryAt m c)
def key : Buf (Elt Ideal) ((c.tc : Thread nD τ).loc main_v13_3) := arr (keyAt m c)
def value : Buf (Elt Ideal) ((c.tc : Thread nD τ).loc main_v13_4) := arr (valueAt m c)
def keyCache : Buf (Elt Ideal) ((c.tc : Thread nD τ).loc main_v13_5) := arr (keyAt m c)
def valueCache : Buf (Elt Ideal) ((c.tc : Thread nD τ).loc main_v13_6) := arr (valueAt m c)

theorem final8 : (dats m 0 c).arrAt 8 cfg0.N = mix m c := by
  refine (dats m 0 c).arrAt_eq_of_cover 8 (mix m c) (fun t _ => ?_) fun i : S1x4096x2048.Idx => ⟨tileOf (i 1).val (i 1).isLt, flush0_8 _, ?_⟩
  · rw [Value.flushed8, ← after0_8]
    exact funext fun y => tile_entry (mixAt m c) _ (row t) (out8_apply m c t) y _ (row_at t _) (col_at 2048 _)
  · let t := tileOf (i 1).val (i 1).isLt
    show i ∈ ((View.whole main_v13_0).slice (win0_8.rect t)).set
    rw [View.set_slice_whole]
    exact mem_tile i _ (start0 _) (start1 _) (Nat.zero_mul 2048) _

theorem final9 : (dats m 0 c).arrAt 9 cfg0.N = gate m c := by
  refine (dats m 0 c).arrAt_eq_of_cover 9 (gate m c) (fun t _ => ?_) fun i : S1x4096x128.Idx => ⟨tileOf (i 1).val (i 1).isLt, flush0_9 _, ?_⟩
  · rw [Value.flushed9, ← after0_9]
    exact funext fun y => tile_entry (gateAt m c) _ (row t) (out9_apply m c t) y _ (row_at t _) (col_at 128 _)
  · let t := tileOf (i 1).val (i 1).isLt
    show i ∈ ((View.whole main_v13_1).slice (win0_9.rect t)).set
    rw [View.set_slice_whole]
    exact mem_tile i _ (start0 _) (start1 _) (Nat.zero_mul 128) _

theorem final10 : (dats m 0 c).arrAt 10 cfg0.N = query m c := by
  refine (dats m 0 c).arrAt_eq_of_cover 10 (query m c) (fun t _ => ?_) fun i : S1x4096x512.Idx => ⟨tileOf (i 1).val (i 1).isLt, flush0_10 _, ?_⟩
  · rw [Value.flushed10, ← after0_10]
    exact funext fun y => tile_entry (queryAt m c) _ (row t) (out10_apply m c t) y _ (row_at t _) (col_at 512 _)
  · let t := tileOf (i 1).val (i 1).isLt
    show i ∈ ((View.whole main_v13_2).slice (win0_10.rect t)).set
    rw [View.set_slice_whole]
    exact mem_tile i _ (start0 _) (start1 _) (Nat.zero_mul 512) _

theorem final11 : (dats m 0 c).arrAt 11 cfg0.N = key m c := by
  refine (dats m 0 c).arrAt_eq_of_cover 11 (key m c) (fun t _ => ?_) fun i : S1x4096x256.Idx => ⟨tileOf (i 1).val (i 1).isLt, flush0_11 _, ?_⟩
  · rw [Value.flushed11, ← after0_11]
    exact funext fun y => tile_entry (keyAt m c) _ (row t) (out11_apply m c t) y _ (row_at t _) (col_at 256 _)
  · let t := tileOf (i 1).val (i 1).isLt
    show i ∈ ((View.whole main_v13_3).slice (win0_11.rect t)).set
    rw [View.set_slice_whole]
    exact mem_tile i _ (start0 _) (start1 _) (Nat.zero_mul 256) _

theorem final12 : (dats m 0 c).arrAt 12 cfg0.N = value m c := by
  refine (dats m 0 c).arrAt_eq_of_cover 12 (value m c) (fun t _ => ?_) fun i : S1x4096x256.Idx => ⟨tileOf (i 1).val (i 1).isLt, flush0_12 _, ?_⟩
  · rw [Value.flushed12, ← after0_12]
    exact funext fun y => tile_entry (valueAt m c) _ (row t) (out12_apply m c t) y _ (row_at t _) (col_at 256 _)
  · let t := tileOf (i 1).val (i 1).isLt
    show i ∈ ((View.whole main_v13_4).slice (win0_12.rect t)).set
    rw [View.set_slice_whole]
    exact mem_tile i _ (start0 _) (start1 _) (Nat.zero_mul 256) _

theorem final13 : (dats m 0 c).arrAt 13 cfg0.N = keyCache m c := by
  refine (dats m 0 c).arrAt_eq_of_cover 13 (keyCache m c) (fun t _ => ?_) fun i : S1x4096x256.Idx => ⟨tileOf (i 1).val (i 1).isLt, flush0_13 _, ?_⟩
  · rw [Value.flushed13, ← after0_13]
    exact funext fun y => tile_entry (keyAt m c) _ (row t) (out13_apply m c t) y _ (row_at t _) (col_at 256 _)
  · let t := tileOf (i 1).val (i 1).isLt
    show i ∈ ((View.whole main_v13_5).slice (win0_13.rect t)).set
    rw [View.set_slice_whole]
    exact mem_tile i _ (start0 _) (start1 _) (Nat.zero_mul 256) _

theorem final14 : (dats m 0 c).arrAt 14 cfg0.N = valueCache m c := by
  refine (dats m 0 c).arrAt_eq_of_cover 14 (valueCache m c) (fun t _ => ?_) fun i : S1x4096x256.Idx => ⟨tileOf (i 1).val (i 1).isLt, flush0_14 _, ?_⟩
  · rw [Value.flushed14, ← after0_14]
    exact funext fun y => tile_entry (valueAt m c) _ (row t) (out14_apply m c t) y _ (row_at t _) (col_at 256 _)
  · let t := tileOf (i 1).val (i 1).isLt
    show i ∈ ((View.whole main_v13_6).slice (win0_14.rect t)).set
    rw [View.set_slice_whole]
    exact mem_tile i _ (start0 _) (start1 _) (Nat.zero_mul 256) _

/-- The run: the result arrays hold the formulas' entries, and the arguments are as they were. -/
theorem run_value (ρ : Dev nD → PrngReg) : θ_run defs (onTc (τ := τ) (main (F := Ideal))) ⟨m, fun _ => 0, ρ⟩ fun r => ∀ c : Dev nD,
      r.2.mem ((c.tc : Thread nD τ).loc main_v13_0) = mix m c
      ∧ r.2.mem ((c.tc : Thread nD τ).loc main_v13_1) = gate m c
      ∧ r.2.mem ((c.tc : Thread nD τ).loc main_v13_2) = query m c
      ∧ r.2.mem ((c.tc : Thread nD τ).loc main_v13_3) = key m c
      ∧ r.2.mem ((c.tc : Thread nD τ).loc main_v13_4) = value m c
      ∧ r.2.mem ((c.tc : Thread nD τ).loc main_v13_5) = keyCache m c
      ∧ r.2.mem ((c.tc : Thread nD τ).loc main_v13_6) = valueCache m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final8 m c), (h c).2.1.trans (final9 m c), (h c).2.2.1.trans (final10 m c), (h c).2.2.2.1.trans (final11 m c),
    (h c).2.2.2.2.1.trans (final12 m c), (h c).2.2.2.2.2.1.trans (final13 m c), (h c).2.2.2.2.2.2.1.trans (final14 m c), (h c).2.2.2.2.2.2.2⟩) (Value.run_blocks m ρ)

end Cert.Kernel3Ideal.Inproj

end
-- ==== Proof.Inproj.EvenReference.lean ====
/-
  The even layers' input call as the reference states it, entry by entry.
-/
module

public import proofs.«01_k».proof.Proof.Inproj.Formula
public import proofs.«01_k».proof.Proof.Gen.Reference3Ideal.Run
public import Idealize.ShloMosaic.Lib.Pointwise

@[expose] public section

set_option maxRecDepth 16384

noncomputable section

namespace Cert.Reference3Ideal.Inproj

open Idealize.ShloMosaic Idealize.ShloMosaic.TcCoe Idealize.SL.Sem
open Cert.Reference3Ideal Cert.Reference3Ideal.Gen Cert.Reference3Ideal.Value
open Cert.Mlp (unitScale entering)
open Cert.Inproj
open Facts

/-- A row brought to unit root mean square and scaled by the learned weights. -/
def normed (X : FVec Ideal S16x256x1024 .f32) (G : FVec Ideal S1024 .f32) : FVec Ideal S16x256x1024 .f32 :=
  mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 G))

def rowsIn (Y : FVec Ideal S16x256x1024 .f32) (M : FVec Ideal S6144 .f32) : FVec Ideal S16x256x1024 .f32 :=
  addf (mulf Y (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 1024] (broadcastInDim S1x1x6144 ![2] bcast_S6144_S1x1x6144_2 M) slices_S1x1x6144_S1x1x1024_0_0_1024)))) (broadcastInDim S16x256x1024 ![0, 1, 2] bcast_S1x1x1024_S16x256x1024_0_1_2 (extractStridedSlice S1x1x1024 ![0, 0, 0] (broadcastInDim S1x1x6144 ![2] bcast_S6144_S1x1x6144_2 M) slices_S1x1x6144_S1x1x1024_0_0_0))

def products (H : FVec Ideal S16x256x1024 .f32) (W : FVec Ideal S1024x3088 .f32) : FVec Ideal S16x256x3088 .f32 :=
  Host.dotGeneral dot_S16x256x1024_S1024x3088_S16x256x3088_2_0_01_1_n_n none H W

/-- The groups of columns. -/
def mixCols (P : FVec Ideal S16x256x3088 .f32) : FVec Ideal S16x256x2048 .f32 :=
  concatenate S16x256x2048 2 [⟨S16x256x512, extractStridedSlice S16x256x512 ![0, 0, 0] P slices_S16x256x3088_S16x256x512_0_0_0⟩, ⟨S16x256x512, extractStridedSlice S16x256x512 ![0, 0, 512] P slices_S16x256x3088_S16x256x512_0_0_512⟩, ⟨S16x256x512, extractStridedSlice S16x256x512 ![0, 0, 1024] P slices_S16x256x3088_S16x256x512_0_0_1024⟩, ⟨S16x256x512, extractStridedSlice S16x256x512 ![0, 0, 1536] P slices_S16x256x3088_S16x256x512_0_0_1536⟩] concatenates_S16x256x512_S16x256x512_S16x256x512_S16x256x512_S16x256x2048_d2

def gateCols (P : FVec Ideal S16x256x3088 .f32) : FVec Ideal S16x256x128 .f32 :=
  concatenate S16x256x128 2 [⟨S16x256x8, extractStridedSlice S16x256x8 ![0, 0, 2048] P slices_S16x256x3088_S16x256x8_0_0_2048⟩, ⟨S16x256x8, extractStridedSlice S16x256x8 ![0, 0, 2056] P slices_S16x256x3088_S16x256x8_0_0_2056⟩, ⟨S16x256x112, broadcastInDim S16x256x112 ![] bcast_S_S16x256x112 (constant S_ .f32 0x00000000#32)⟩] concatenates_S16x256x8_S16x256x8_S16x256x112_S16x256x128_d2

/-- The query heads and the key heads, still to be normed. -/
def queryHeads (P : FVec Ideal S16x256x3088 .f32) : FVec Ideal S16x256x4x128 .f32 :=
  shapeCast S16x256x4x128 (extractStridedSlice S16x256x512 ![0, 0, 2064] P slices_S16x256x3088_S16x256x512_0_0_2064) shapeCasts_S16x256x512_S16x256x4x128

def keyHeads (P : FVec Ideal S16x256x3088 .f32) : FVec Ideal S16x256x2x128 .f32 :=
  shapeCast S16x256x2x128 (extractStridedSlice S16x256x256 ![0, 0, 2576] P slices_S16x256x3088_S16x256x256_0_0_2576) shapeCasts_S16x256x256_S16x256x2x128

def normedQuery (X : FVec Ideal S16x256x4x128 .f32) (G : FVec Ideal S128 .f32) : FVec Ideal S16x256x4x128 .f32 :=
  mulf (mulf X (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf X X) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 G))

def scaled (X : FVec Ideal S16x256x4x128 .f32) : FVec Ideal S16x256x4x128 .f32 :=
  mulf X (broadcastInDim S16x256x4x128 ![] bcast_S_S16x256x4x128 (Host.divf (Host.rsqrt (constant S_ .f32 0x43000000#32)) (Host.log (constant S_ .f32 0x40000000#32))))

def normedKey (X : FVec Ideal S16x256x2x128 .f32) (G : FVec Ideal S128 .f32) : FVec Ideal S16x256x2x128 .f32 :=
  mulf (mulf X (broadcastInDim S16x256x2x128 ![0, 1, 2, 3] bcast_S16x256x2x1_S16x256x2x128_0_1_2_3 (Host.rsqrt (addf (Host.divf (broadcastInDim S16x256x2x1 ![0, 1, 2] bcast_S16x256x2_S16x256x2x1_0_1_2 (Host.reduceAdd (mulf X X) (constant S_ .f32 0x00000000#32) reducesTo_S16x256x2x128_S16x256x2_d3 h_S_)) (broadcastInDim S16x256x2x1 ![] bcast_S_S16x256x2x1 (constant S_ .f32 0x43000000#32))) (broadcastInDim S16x256x2x1 ![] bcast_S_S16x256x2x1 (constant S_ .f32 0x358637BD#32)))))) (broadcastInDim S16x256x2x128 ![0, 1, 2, 3] bcast_S1x1x1x128_S16x256x2x128_0_1_2_3 (broadcastInDim S1x1x1x128 ![3] bcast_S128_S1x1x1x128_3 G))

def valueCols (P : FVec Ideal S16x256x3088 .f32) : FVec Ideal S16x256x256 .f32 := extractStridedSlice S16x256x256 ![0, 0, 2832] P slices_S16x256x3088_S16x256x256_0_0_2832

theorem normed_apply (X : FVec Ideal S16x256x1024 .f32) (G : FVec Ideal S1024 .f32) (b : Fin 16) (s : Fin 256) (d : Fin 1024) :
    normed X G (ix3 b s d) = X (ix3 b s d) * unitScale (fun e => X (ix3 b s e)) * G (ix1 d) := by
  unfold unitScale
  pointwise [normed]

theorem rowsIn_apply (Y : FVec Ideal S16x256x1024 .f32) (M : FVec Ideal S6144 .f32) (b : Fin 16) (s : Fin 256) (d : Fin 1024) :
    rowsIn Y M (ix3 b s d) = Y (ix3 b s d) * (Ideal.ofBits .f32 0x3F800000#32 + M (ix1 ⟨1024 + d.val, by omega⟩)) + M (ix1 ⟨d.val, by omega⟩) := by
  pointwise [rowsIn]

theorem products_apply (H : FVec Ideal S16x256x1024 .f32) (W : FVec Ideal S1024x3088 .f32) (b : Fin 16) (s : Fin 256) (n : Fin 3088) :
    products H W (ix3 b s n) = column (fun e => H (ix3 b s e)) fun e => W (ix2 e n) := by
  unfold column
  pointwise [products]

theorem mixCols_apply (P : FVec Ideal S16x256x3088 .f32) (b : Fin 16) (s : Fin 256) (d : Fin 2048) : mixCols P (ix3 b s d) = P (ix3 b s ⟨d.val, by omega⟩) := by
  pointwise [mixCols]
  split_ifs <;> first | omega | rfl | exact congrArg (fun n : Fin 3088 => P (ix3 b s n)) (Fin.ext (by dsimp only; omega))

theorem gateCols_apply (P : FVec Ideal S16x256x3088 .f32) (b : Fin 16) (s : Fin 256) (l : Fin 128) : gateCols P (ix3 b s l) = gateLane (fun n => P (ix3 b s n)) l := by
  unfold gateLane
  pointwise [gateCols]
  rcases Nat.lt_or_ge l.val 16 with hl | hl
  · rw [dif_pos hl]
    split_ifs <;> first | omega | rfl | exact congrArg (fun n : Fin 3088 => P (ix3 b s n)) (Fin.ext (by dsimp only; omega))
  · rw [dif_neg (Nat.not_lt.mpr hl)]
    split_ifs <;> first | omega | rfl

theorem queryHeads_apply (P : FVec Ideal S16x256x3088 .f32) (b : Fin 16) (s : Fin 256) (h : Fin 4) (d : Fin 128) :
    queryHeads P (ix4 b s h d) = P (ix3 b s ⟨2064 + (128 * h.val + d.val), by omega⟩) := by
  pointwise [queryHeads]
  exact congrArg (fun n : Fin 3088 => P (ix3 b s n)) (Fin.ext (by dsimp only; omega))

theorem keyHeads_apply (P : FVec Ideal S16x256x3088 .f32) (b : Fin 16) (s : Fin 256) (h : Fin 2) (d : Fin 128) :
    keyHeads P (ix4 b s h d) = P (ix3 b s ⟨2576 + (128 * h.val + d.val), by omega⟩) := by
  pointwise [keyHeads]
  exact congrArg (fun n : Fin 3088 => P (ix3 b s n)) (Fin.ext (by dsimp only; omega))

theorem normedQuery_apply (X : FVec Ideal S16x256x4x128 .f32) (G : FVec Ideal S128 .f32) (b : Fin 16) (s : Fin 256) (h : Fin 4) (d : Fin 128) :
    normedQuery X G (ix4 b s h d) = normedHead (fun e => X (ix4 b s h e)) (fun e => G (ix1 e)) d := by
  unfold normedHead
  pointwise [normedQuery]

theorem normedKey_apply (X : FVec Ideal S16x256x2x128 .f32) (G : FVec Ideal S128 .f32) (b : Fin 16) (s : Fin 256) (h : Fin 2) (d : Fin 128) :
    normedKey X G (ix4 b s h d) = normedHead (fun e => X (ix4 b s h e)) (fun e => G (ix1 e)) d := by
  unfold normedHead
  pointwise [normedKey]

theorem scaled_apply (X : FVec Ideal S16x256x4x128 .f32) (b : Fin 16) (s : Fin 256) (h : Fin 4) (d : Fin 128) : scaled X (ix4 b s h d) = X (ix4 b s h d) * ((scale : ℝ) : EReal) := by
  rw [← scale_eq]
  pointwise [scaled]

theorem valueCols_apply (P : FVec Ideal S16x256x3088 .f32) (b : Fin 16) (s d : Fin 256) : valueCols P (ix3 b s d) = P (ix3 b s ⟨2832 + d.val, by omega⟩) := by
  pointwise [valueCols]

/-! ## The sequences laid end to end -/

theorem rows2048_apply (X : FVec Ideal S16x256x2048 .f32) (s : Fin 4096) (d : Fin 2048) :
    shapeCast S1x4096x2048 X shapeCasts_S16x256x2048_S1x4096x2048 (ix3 0 s d) = X (ix3 ⟨s.val / 256, by omega⟩ ⟨s.val % 256, by omega⟩ d) := by
  pointwise

theorem rows128_apply (X : FVec Ideal S16x256x128 .f32) (s : Fin 4096) (d : Fin 128) :
    shapeCast S1x4096x128 X shapeCasts_S16x256x128_S1x4096x128 (ix3 0 s d) = X (ix3 ⟨s.val / 256, by omega⟩ ⟨s.val % 256, by omega⟩ d) := by
  pointwise

theorem rows256_apply {φ : FTy} (X : FVec Ideal S16x256x256 φ) (s : Fin 4096) (d : Fin 256) :
    shapeCast S1x4096x256 X shapeCasts_S16x256x256_S1x4096x256 (ix3 0 s d) = X (ix3 ⟨s.val / 256, by omega⟩ ⟨s.val % 256, by omega⟩ d) := by
  pointwise

theorem heads4_apply {φ : FTy} (X : FVec Ideal S16x256x4x128 φ) (s : Fin 4096) (d : Fin 512) :
    shapeCast S1x4096x512 X shapeCasts_S16x256x4x128_S1x4096x512 (ix3 0 s d) = X (ix4 ⟨s.val / 256, by omega⟩ ⟨s.val % 256, by omega⟩ ⟨d.val / 128, by omega⟩ ⟨d.val % 128, by omega⟩) := by
  pointwise

theorem heads2_apply {φ : FTy} (X : FVec Ideal S16x256x2x128 φ) (s : Fin 4096) (d : Fin 256) :
    shapeCast S1x4096x256 X shapeCasts_S16x256x2x128_S1x4096x256 (ix3 0 s d) = X (ix4 ⟨s.val / 256, by omega⟩ ⟨s.val % 256, by omega⟩ ⟨d.val / 128, by omega⟩ ⟨d.val % 128, by omega⟩) := by
  pointwise

variable (m : (ℓ : Loc nD τ sig) → Buf (Elt Ideal) ℓ) (c : Dev nD)

/-- The projections of all rows. -/
def proj : FVec Ideal S16x256x3088 .f32 :=
  products (rowsIn (normed (m ((c.tc : Thread nD τ).loc main_arg0)) (m ((c.tc : Thread nD τ).loc main_arg2))) (m ((c.tc : Thread nD τ).loc main_arg1)))
    (m ((c.tc : Thread nD τ).loc main_arg3))

theorem proj_apply (b : Fin 16) (s : Fin 256) (n : Fin 3088) :
    proj m c (ix3 b s n)
      = column (entering (fun e => m ((c.tc : Thread nD τ).loc main_arg0) (ix3 b s e)) (fun e => m ((c.tc : Thread nD τ).loc main_arg2) (ix1 e))
          (fun e => m ((c.tc : Thread nD τ).loc main_arg1) (ix1 ⟨1024 + e.val, by omega⟩)) (fun e => m ((c.tc : Thread nD τ).loc main_arg1) (ix1 ⟨e.val, by omega⟩)))
        fun e => m ((c.tc : Thread nD τ).loc main_arg3) (ix2 e n) := by
  unfold proj
  rw [products_apply]
  simp only [rowsIn_apply, normed_apply]
  rfl

/-! ## The results -/

def resMix : Buf (Elt Ideal) ((c.tc : Thread nD τ).loc main_v75) := shapeCast S1x4096x2048 (mixCols (proj m c)) shapeCasts_S16x256x2048_S1x4096x2048
def resGate : Buf (Elt Ideal) ((c.tc : Thread nD τ).loc main_v76) := shapeCast S1x4096x128 (gateCols (proj m c)) shapeCasts_S16x256x128_S1x4096x128
def resQuery : Buf (Elt Ideal) ((c.tc : Thread nD τ).loc main_v77) :=
  shapeCast S1x4096x512 (truncf (F := Ideal) .bf16 (scaled (normedQuery (queryHeads (proj m c)) (m ((c.tc : Thread nD τ).loc main_arg4)))) bitsLt_bf16_f32) shapeCasts_S16x256x4x128_S1x4096x512
def resKey : Buf (Elt Ideal) ((c.tc : Thread nD τ).loc main_v78) :=
  shapeCast S1x4096x256 (truncf (F := Ideal) .bf16 (normedKey (keyHeads (proj m c)) (m ((c.tc : Thread nD τ).loc main_arg5))) bitsLt_bf16_f32) shapeCasts_S16x256x2x128_S1x4096x256
def resValue : Buf (Elt Ideal) ((c.tc : Thread nD τ).loc main_v79) :=
  shapeCast S1x4096x256 (truncf (F := Ideal) .bf16 (valueCols (proj m c)) bitsLt_bf16_f32) shapeCasts_S16x256x256_S1x4096x256
def resKeyCache : Buf (Elt Ideal) ((c.tc : Thread nD τ).loc main_v80) :=
  shapeCast S1x4096x256 (normedKey (keyHeads (proj m c)) (m ((c.tc : Thread nD τ).loc main_arg5))) shapeCasts_S16x256x2x128_S1x4096x256
def resValueCache : Buf (Elt Ideal) ((c.tc : Thread nD τ).loc main_v81) := shapeCast S1x4096x256 (valueCols (proj m c)) shapeCasts_S16x256x256_S1x4096x256

/-- The sequence of a row, and its place there. -/
def seq (s : Fin 4096) : Fin 16 := ⟨s.val / 256, by omega⟩
def pos (s : Fin 4096) : Fin 256 := ⟨s.val % 256, by omega⟩

theorem resMix_apply (s : Fin 4096) (d : Fin 2048) : resMix m c (ix3 0 s d) = proj m c (ix3 (seq s) (pos s) ⟨d.val, by omega⟩) :=
  (rows2048_apply _ s d).trans (mixCols_apply (proj m c) (seq s) (pos s) d)
theorem resGate_apply (s : Fin 4096) (l : Fin 128) : resGate m c (ix3 0 s l) = gateLane (fun n => proj m c (ix3 (seq s) (pos s) n)) l :=
  (rows128_apply _ s l).trans (gateCols_apply (proj m c) (seq s) (pos s) l)

/-- A key entry, normed within its head. -/
theorem key_apply (s : Fin 4096) (d : Fin 256) :
    normedKey (keyHeads (proj m c)) (m ((c.tc : Thread nD τ).loc main_arg5)) (ix4 (seq s) (pos s) ⟨d.val / 128, by omega⟩ ⟨d.val % 128, by omega⟩)
      = normedHead (fun e => proj m c (ix3 (seq s) (pos s) ⟨2576 + (128 * (d.val / 128) + e.val), by omega⟩)) (fun e => m ((c.tc : Thread nD τ).loc main_arg5) (ix1 e)) ⟨d.val % 128, by omega⟩ := by
  rw [normedKey_apply]
  simp only [keyHeads_apply]

theorem resQuery_apply (s : Fin 4096) (d : Fin 512) :
    resQuery m c (ix3 0 s d)
      = normedHead (fun e => proj m c (ix3 (seq s) (pos s) ⟨2064 + (128 * (d.val / 128) + e.val), by omega⟩)) (fun e => m ((c.tc : Thread nD τ).loc main_arg4) (ix1 e)) ⟨d.val % 128, by omega⟩
        * ((scale : ℝ) : EReal) := by
  refine (heads4_apply (φ := .bf16) _ s d).trans ((scaled_apply _ (seq s) (pos s) ⟨d.val / 128, by omega⟩ ⟨d.val % 128, by omega⟩).trans ?_)
  rw [normedQuery_apply]
  simp only [queryHeads_apply]
theorem resKey_apply (s : Fin 4096) (d : Fin 256) :
    resKey m c (ix3 0 s d)
      = normedHead (fun e => proj m c (ix3 (seq s) (pos s) ⟨2576 + (128 * (d.val / 128) + e.val), by omega⟩)) (fun e => m ((c.tc : Thread nD τ).loc main_arg5) (ix1 e)) ⟨d.val % 128, by omega⟩ :=
  (heads2_apply (φ := .bf16) _ s d).trans (key_apply m c s d)
theorem resValue_apply (s : Fin 4096) (d : Fin 256) : resValue m c (ix3 0 s d) = proj m c (ix3 (seq s) (pos s) ⟨2832 + d.val, by omega⟩) :=
  (rows256_apply (φ := .bf16) _ s d).trans (valueCols_apply (proj m c) (seq s) (pos s) d)
theorem resKeyCache_apply (s : Fin 4096) (d : Fin 256) :
    resKeyCache m c (ix3 0 s d)
      = normedHead (fun e => proj m c (ix3 (seq s) (pos s) ⟨2576 + (128 * (d.val / 128) + e.val), by omega⟩)) (fun e => m ((c.tc : Thread nD τ).loc main_arg5) (ix1 e)) ⟨d.val % 128, by omega⟩ :=
  (heads2_apply (φ := .f32) _ s d).trans (key_apply m c s d)
theorem resValueCache_apply (s : Fin 4096) (d : Fin 256) : resValueCache m c (ix3 0 s d) = proj m c (ix3 (seq s) (pos s) ⟨2832 + d.val, by omega⟩) :=
  (rows256_apply (φ := .f32) _ s d).trans (valueCols_apply (proj m c) (seq s) (pos s) d)

/-- The reference's run, its results stage by stage. -/
theorem run_res (ρ : Dev nD → PrngReg) : θ_run defs (onTc (τ := τ) (main (F := Ideal))) ⟨m, fun _ => 0, ρ⟩ fun r => ∀ c : Dev nD,
      r.2.mem ((c.tc : Thread nD τ).loc main_v75) = resMix m c
      ∧ r.2.mem ((c.tc : Thread nD τ).loc main_v76) = resGate m c
      ∧ r.2.mem ((c.tc : Thread nD τ).loc main_v77) = resQuery m c
      ∧ r.2.mem ((c.tc : Thread nD τ).loc main_v78) = resKey m c
      ∧ r.2.mem ((c.tc : Thread nD τ).loc main_v79) = resValue m c
      ∧ r.2.mem ((c.tc : Thread nD τ).loc main_v80) = resKeyCache m c
      ∧ r.2.mem ((c.tc : Thread nD τ).loc main_v81) = resValueCache m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans rfl, (h c).2.2.2.1.trans rfl, (h c).2.2.2.2.1.trans rfl,
    (h c).2.2.2.2.2.1.trans rfl, (h c).2.2.2.2.2.2.1.trans rfl, (h c).2.2.2.2.2.2.2⟩) (run (F := Ideal) m ρ)

end Cert.Reference3Ideal.Inproj

end
-- ==== Proof.Inproj.EvenMatch.lean ====
/-
  The even layers' input call and its reference, from arguments that agree: the same projections, and so the same seven results.
-/
module

public import proofs.«01_k».proof.Proof.Inproj.Even
public import proofs.«01_k».proof.Proof.Inproj.EvenReference

@[expose] public section

noncomputable section

namespace Cert.Inproj.Even

open Idealize.ShloMosaic Idealize.ShloMosaic.TcCoe Idealize.SL.Sem
open Cert.Inproj

/-- Memories of the two programs that agree on the arguments. -/
def Agree (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
    ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
    ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
    ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
    ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
    ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)

variable {m : (ℓ : Loc Cert.Kernel3Ideal.nD Cert.Kernel3Ideal.τ Cert.Kernel3Ideal.sig) → Buf (Elt Ideal) ℓ} {m' : (ℓ : Loc Cert.Reference3Ideal.nD Cert.Reference3Ideal.τ Cert.Reference3Ideal.sig) → Buf (Elt Ideal) ℓ} {c : Dev Cert.Kernel3Ideal.nD} (h : Agree m m' c)

include h

theorem proj_eq (s : Fin 4096) (n : Fin 3088) : Cert.Reference3Ideal.Inproj.proj m' c (ix3 (Cert.Reference3Ideal.Inproj.seq s) (Cert.Reference3Ideal.Inproj.pos s) n) = Cert.Kernel3Ideal.Inproj.proj m c s n := by
  obtain ⟨h0, h1, h2, h3, h4, h5⟩ := h
  rw [Cert.Reference3Ideal.Inproj.proj_apply, h0, h1, h2, h3]
  rfl

theorem mix_eq : Cert.Reference3Ideal.Inproj.resMix m' c = Cert.Kernel3Ideal.Inproj.mix m c :=
  rows_ext fun s d => (Cert.Reference3Ideal.Inproj.resMix_apply m' c s d).trans (proj_eq h s _)

theorem gate_eq : Cert.Reference3Ideal.Inproj.resGate m' c = Cert.Kernel3Ideal.Inproj.gate m c :=
  rows_ext fun s d => (Cert.Reference3Ideal.Inproj.resGate_apply m' c s d).trans (congrArg (fun p : Fin 3088 → EReal => gateLane p d) (funext (proj_eq h s)))

theorem query_eq : Cert.Reference3Ideal.Inproj.resQuery m' c = Cert.Kernel3Ideal.Inproj.query m c := by
  refine rows_ext fun s d => (Cert.Reference3Ideal.Inproj.resQuery_apply m' c s d).trans ?_
  obtain ⟨_, _, _, _, h4, h5⟩ := id h
  rw [h4]
  simp only [proj_eq h]
  rfl

theorem key_eq : Cert.Reference3Ideal.Inproj.resKey m' c = Cert.Kernel3Ideal.Inproj.key m c := by
  refine rows_ext fun s d => (Cert.Reference3Ideal.Inproj.resKey_apply m' c s d).trans ?_
  obtain ⟨_, _, _, _, h4, h5⟩ := id h
  rw [h5]
  simp only [proj_eq h]
  rfl

theorem value_eq : Cert.Reference3Ideal.Inproj.resValue m' c = Cert.Kernel3Ideal.Inproj.value m c :=
  rows_ext fun s d => (Cert.Reference3Ideal.Inproj.resValue_apply m' c s d).trans (proj_eq h s _)

theorem keyCache_eq : Cert.Reference3Ideal.Inproj.resKeyCache m' c = Cert.Kernel3Ideal.Inproj.keyCache m c := by
  refine rows_ext fun s d => (Cert.Reference3Ideal.Inproj.resKeyCache_apply m' c s d).trans ?_
  obtain ⟨_, _, _, _, h4, h5⟩ := id h
  rw [h5]
  simp only [proj_eq h]
  rfl

theorem valueCache_eq : Cert.Reference3Ideal.Inproj.resValueCache m' c = Cert.Kernel3Ideal.Inproj.valueCache m c :=
  rows_ext fun s d => (Cert.Reference3Ideal.Inproj.resValueCache_apply m' c s d).trans (proj_eq h s _)

end Cert.Inproj.Even

end
-- ==== Proof.Inproj.Odd.lean ====
/-
  The odd layers' input call: what one point computes from its blocks, the blocks read back to the arguments, and the arrays that the
  launch leaves, entry by entry.
-/
module

public import proofs.«01_k».proof.Proof.Inproj.Formula
public import proofs.«01_k».proof.Proof.Inproj.Tiles
public import proofs.«01_k».proof.Proof.Gen.Kernel4Ideal.Value
public import Idealize.ShloMosaic.Lib.Pointwise
public import Idealize.ShloMosaic.Lib.Pipeline.ValueKit.Acc

@[expose] public section

set_option maxRecDepth 16384

noncomputable section

namespace Cert.Kernel4Ideal.Inproj

open Idealize.ShloMosaic Idealize.ShloMosaic.TcCoe Idealize.SL.Sem
open Idealize.ShloMosaic.Pipeline (Dat)
open Cert.Kernel4Ideal.Gen
open Cert.Mlp (unitScale entering)
open Cert.Inproj

/-! ## The payloads -/

section Payloads

variable (x : Vec Ideal S1x512x1024 .f32) (g : Vec Ideal S1x1024 .f32) (s b : Vec Ideal S1x1x1024 .f32) (i : Fin 512)

/-- An entering row of a point. -/
abbrev rowIn : Fin 1024 → EReal :=
  entering (fun e => x (ix3 0 i e)) (fun e => g (ix2 0 e)) (fun e => s (ix3 0 0 e)) fun e => b (ix3 0 0 e)

theorem pay1_apply (e : Fin 1024) : k0_pay1 x g s b (ix2 i e) = rowIn x g s b i e := by
  unfold rowIn entering unitScale
  pointwise [k0_pay1]
  rw [mul_assoc (_ * _) (g (ix2 0 e))]

theorem pay2_apply (w : Vec Ideal S1024x1536 .bf16) (n : Fin 1536) : k0_pay2 x g s b w (ix2 i n) = column (rowIn x g s b i) fun e => w (ix2 e n) := by
  unfold column
  pointwise [k0_pay2]
  simp only [pay1_apply]

theorem pay3_apply (w : Vec Ideal S1024x1536 .bf16) (n : Fin 1536) : k0_pay4 (k0_pay3 x g s b w) (ix3 0 i n) = column (rowIn x g s b i) fun e => w (ix2 e n) := by
  unfold column
  pointwise [k0_pay3, k0_pay4]
  simp only [pay1_apply]

theorem pay5_apply (w : Vec Ideal S1024x256 .bf16) (n : Fin 256) : k0_pay5 (k0_pay1 x g s b) w (ix3 0 i n) = column (rowIn x g s b i) fun e => w (ix2 e n) := by
  unfold column
  pointwise [k0_pay5]
  simp only [pay1_apply]

variable (y : FVec Ideal S512x1536 .f32) (d : Fin 512)

theorem pay6_apply : k0_pay6 y (ix3 0 i d) = y (ix2 i ⟨d.val, by omega⟩) * ((scale : ℝ) : EReal) := by
  have e : (Named.named κ "qk_scale_log2" (φ := .f32) 0x3E0293EE#32 : Ideal .f32) = ((scale : ℝ) : EReal) := by simp [Named.named, κ, scale]
  pointwise [k0_pay6]
  rw [e]
theorem pay7_apply : k0_pay7 y (ix3 0 i d) = y (ix2 i ⟨512 + d.val, by omega⟩) := by pointwise [k0_pay7]
theorem pay8_apply : k0_pay8 y (ix3 0 i d) = y (ix2 i ⟨512 + d.val, by omega⟩) := by pointwise [k0_pay8]
theorem pay9_apply : k0_pay9 y (ix3 0 i d) = y (ix2 i ⟨1024 + d.val, by omega⟩) := by pointwise [k0_pay9]
theorem pay10_apply : k0_pay10 y (ix3 0 i d) = y (ix2 i ⟨1024 + d.val, by omega⟩) := by pointwise [k0_pay10]

end Payloads

/-! ## The loads -/

/-- Row `k` of the modulation's block. -/
theorem ld_row (X : Vec Ideal S1x6x1024 .f32) (k : ℕ) (hk : k < 6) (inb) (d : Fin 1024) :
    View.ld X (Rect.unit (s := S1x6x1024) ![0, k, 0] ![1, 1, 1024] inb) (ix3 0 0 d) = X (ix3 0 ⟨k, hk⟩ d) := by
  refine congrArg X (funext fun a => Fin.ext ?_)
  match a with
  | ⟨0, _⟩ => rfl
  | ⟨1, _⟩ => show k + 1 * 0 = k; omega
  | ⟨2, _⟩ => show 0 + 1 * d.val = d.val; omega

/-- The matrix's columns that the three products read. -/
def mixW (X : Vec Ideal S1024x3328 .bf16) : Vec Ideal S1024x1536 .bf16 := View.ld X (Rect.unit ![0, 0] ![1024, 1536] inb_S1024x3328_S1024x1536_0_0)
def attnW (X : Vec Ideal S1024x3328 .bf16) : Vec Ideal S1024x1536 .bf16 := View.ld X (Rect.unit ![0, 1536] ![1024, 1536] inb_S1024x3328_S1024x1536_0_1536)
def stepW (X : Vec Ideal S1024x3328 .bf16) : Vec Ideal S1024x256 .bf16 := View.ld X (Rect.unit ![0, 3072] ![1024, 256] inb_S1024x3328_S1024x256_0_3072)

theorem mixW_apply (X : Vec Ideal S1024x3328 .bf16) (e : Fin 1024) (n : Fin 1536) : mixW X (ix2 e n) = X (ix2 e ⟨n.val, by omega⟩) := by
  refine congrArg X (funext fun a => Fin.ext ?_)
  match a with
  | ⟨0, _⟩ => show 0 + 1 * e.val = e.val; omega
  | ⟨1, _⟩ => show 0 + 1 * n.val = n.val; omega

theorem attnW_apply (X : Vec Ideal S1024x3328 .bf16) (e : Fin 1024) (n : Fin 1536) : attnW X (ix2 e n) = X (ix2 e ⟨1536 + n.val, by omega⟩) := by
  refine congrArg X (funext fun a => Fin.ext ?_)
  match a with
  | ⟨0, _⟩ => show 0 + 1 * e.val = e.val; omega
  | ⟨1, _⟩ => show 1536 + 1 * n.val = 1536 + n.val; omega

theorem stepW_apply (X : Vec Ideal S1024x3328 .bf16) (e : Fin 1024) (n : Fin 256) : stepW X (ix2 e n) = X (ix2 e ⟨3072 + n.val, by omega⟩) := by
  refine congrArg X (funext fun a => Fin.ext ?_)
  match a with
  | ⟨0, _⟩ => show 0 + 1 * e.val = e.val; omega
  | ⟨1, _⟩ => show 3072 + 1 * n.val = 3072 + n.val; omega

/-! ## The matrix as it is laid out for the launch -/

/-- The step sizes' columns, by group, either group padded to 128 lanes. -/
def lanes (T : FVec Ideal S1024x16 .f32) : FVec Ideal S1024x256 .f32 :=
  shapeCast S1024x256 (pad S1024x2x128 ![0, 0, 0] ![0, 0, 120] ![0, 0, 0]
    (shapeCast S1024x2x8 (transpose S1024x2x2x4 [0, 2, 1, 3] (shapeCast S1024x2x2x4 T shapeCasts_S1024x16_S1024x2x2x4) transposes_S1024x2x2x4_S1024x2x2x4_0_2_1_3)
      shapeCasts_S1024x2x2x4_S1024x2x8)
    (sitofp (F := Ideal) .f32 (constantI S_ 32 0#32)) pads_S1024x2x8_S1024x2x128_000_000_01200 h_S_) shapeCasts_S1024x2x128_S1024x256

/-- The columns of the input matrix in the launch's order. -/
def laid (W : FVec Ideal S1024x3088 .f32) : FVec Ideal S1024x3328 .bf16 :=
  truncf (F := Ideal) .bf16 (concatenate S1024x3328 1 [⟨S1024x1024, extractStridedSlice S1024x1024 ![0, 512] W slices_S1024x3088_S1024x1024_0_512⟩,
    ⟨S1024x512, extractStridedSlice S1024x512 ![0, 0] W slices_S1024x3088_S1024x512_0_0⟩,
    ⟨S1024x1536, extractStridedSlice S1024x1536 ![0, 1552] W slices_S1024x3088_S1024x1536_0_1552⟩,
    ⟨S1024x256, lanes (extractStridedSlice S1024x16 ![0, 1536] W slices_S1024x3088_S1024x16_0_1536)⟩]
    concatenates_S1024x1024_S1024x512_S1024x1536_S1024x256_S1024x3328_d1) bitsLt_bf16_f32

theorem lanes_apply (T : FVec Ideal S1024x16 .f32) (e : Fin 1024) (l : Fin 256) :
    lanes T (ix2 e l) = if l.val % 128 < 8 then T (ix2 e ⟨8 * (l.val % 8 / 4) + 4 * (l.val / 128) + l.val % 4, by omega⟩) else (0 : EReal) := by
  have z : (FloatOps.sitofp (F := Ideal) FTy.f32 0#32 : EReal) = 0 := by
    show (((0#32 : BitVec 32).toInt : ℝ) : EReal) = 0
    simp
  pointwise [lanes]
  rw [z]
  split_ifs with h k
  · exact congrArg (fun n : Fin 16 => T (ix2 e n)) (Fin.ext (by dsimp only; omega))
  · omega
  · omega
  · rfl

theorem laid_mix (W : FVec Ideal S1024x3088 .f32) (e : Fin 1024) (n : Fin 1536) : laid W (ix2 e ⟨n.val, by omega⟩) = W (ix2 e (oddMix n)) := by
  unfold oddMix
  pointwise [laid]
  split_ifs <;> first | omega | exact congrArg (fun k : Fin 3088 => W (ix2 e k)) (Fin.ext (by dsimp only; omega))

theorem laid_attn (W : FVec Ideal S1024x3088 .f32) (e : Fin 1024) (n : Fin 1536) : laid W (ix2 e ⟨1536 + n.val, by omega⟩) = W (ix2 e ⟨1552 + n.val, by omega⟩) := by
  pointwise [laid]
  rw [dif_neg (by omega), dif_neg (by omega), dif_pos (by omega)]
  exact congrArg (fun k : Fin 3088 => W (ix2 e k)) (Fin.ext (by dsimp only; omega))

theorem laid_step (W : FVec Ideal S1024x3088 .f32) (e : Fin 1024) (l : Fin 256) :
    laid W (ix2 e ⟨3072 + l.val, by omega⟩) = if l.val % 128 < 8 then W (ix2 e (oddStep l)) else (0 : EReal) := by
  unfold oddStep
  pointwise [laid]
  rw [dif_neg (by omega), dif_neg (by omega), dif_neg (by omega)]
  have el : (⟨3072 + l.val - 1024 - 512 - 1536, by omega⟩ : Fin 256) = l := Fin.ext (by dsimp only; omega)
  rw [el, lanes_apply]
  split_ifs with h
  · pointwise
    exact congrArg (fun k : Fin 3088 => W (ix2 e k)) (Fin.ext (by dsimp only; omega))
  · rfl

/-! ## The blocks of the argument arrays -/

theorem cast_rows (x : Vec Ideal S16x256x1024 .f32) (s : Fin 4096) (d : Fin 1024) :
    shapeCast S1x4096x1024 x shapeCasts_S16x256x1024_S1x4096x1024 (ix3 0 s d) = x (ix3 ⟨s.val / 256, by omega⟩ ⟨s.val % 256, by omega⟩ d) := by
  pointwise

theorem cast_mod (x : Vec Ideal S6144 .f32) (k : Fin 6) (d : Fin 1024) :
    shapeCast S1x6x1024 x shapeCasts_S6144_S1x6x1024 (ix3 0 k d) = x (ix1 ⟨1024 * k.val + d.val, by omega⟩) := by
  pointwise
  exact congrArg (fun e : Fin 6144 => x (ix1 e)) (Fin.ext (by dsimp only; omega))

theorem cast_row (x : Vec Ideal S1024 .f32) (d : Fin 1024) : shapeCast S1x1024 x shapeCasts_S1024_S1x1024 (ix2 0 d) = x (ix1 d) := by
  pointwise

variable (m : (ℓ : Loc nD τ sig) → Buf (Elt Ideal) ℓ) (c : Dev nD)

abbrev argX : Vec Ideal S16x256x1024 .f32 := m ((c.tc : Thread nD τ).loc main_arg0)
abbrev argM : Vec Ideal S6144 .f32 := m ((c.tc : Thread nD τ).loc main_arg1)
abbrev argG : Vec Ideal S1024 .f32 := m ((c.tc : Thread nD τ).loc main_arg2)
abbrev argW : Vec Ideal S1024x3088 .f32 := m ((c.tc : Thread nD τ).loc main_arg3)

/-- The input blocks of a point, at their shapes. -/
abbrev blkX (t : Fin cfg0.N) : Vec Ideal S1x512x1024 .f32 := iblk m c 0 t
abbrev blkM (t : Fin cfg0.N) : Vec Ideal S1x6x1024 .f32 := iblk m c 1 t
abbrev blkG (t : Fin cfg0.N) : Vec Ideal S1x1024 .f32 := iblk m c 2 t
abbrev blkW (t : Fin cfg0.N) : Vec Ideal S1024x3328 .bf16 := iblk m c 3 t

/-- A row of a point's tile. -/
def row (t : Fin cfg0.N) (i : Fin 512) : Fin 4096 := ⟨512 * t.val + i.val, by have := Nat.lt_of_lt_of_eq t.isLt N_0; omega⟩

theorem coord0 (t : Fin cfg0.N) : (BitVec.ofNat 32 (grid0.coords t 0).val).toNat = 0 := by
  have e : (grid0.coords t 0).val < 1 := (grid0.coords t 0).isLt
  rw [BitVec.toNat_ofNat]; omega
theorem coord1 (t : Fin cfg0.N) : (BitVec.ofNat 32 (grid0.coords t 1).val).toNat = t.val := by
  have ht : t.val < 8 := Nat.lt_of_lt_of_eq t.isLt N_0
  have e : (grid0.coords t 1).val = t.val / 1 % 8 := Pipeline.Grid.coords_val t 1 (by decide) rfl
  rw [e, BitVec.toNat_ofNat]; omega

theorem V_x : V m c main_v11 = shapeCast S1x4096x1024 (argX m c) shapeCasts_S16x256x1024_S1x4096x1024 := by entry_read; rfl
theorem V_m : V m c main_v12 = shapeCast S1x6x1024 (argM m c) shapeCasts_S6144_S1x6x1024 := by entry_read; rfl
theorem V_g : V m c main_v13 = shapeCast S1x1024 (argG m c) shapeCasts_S1024_S1x1024 := by entry_read; rfl
theorem V_w : @Eq (Vec Ideal S1024x3328 .bf16) (V m c main_v10) (laid (argW m c)) := by entry_read; rfl

theorem blkX_apply (t : Fin cfg0.N) (i : Fin 512) (d : Fin 1024) :
    blkX m c t (ix3 0 i d) = argX m c (ix3 ⟨(row t i).val / 256, by omega⟩ ⟨(row t i).val % 256, by omega⟩ d) := by
  refine Eq.trans ?_ (cast_rows (argX m c) (row t i) d)
  rw [← V_x]
  unfold blkX iblk
  rw [View.read_apply]
  show V m c main_v11 _ = V m c main_v11 _
  refine congrArg (V m c main_v11) (funext fun a => Fin.ext ?_)
  match a with
  | ⟨0, _⟩ => show (BitVec.ofNat 32 (grid0.coords t 0).val).toNat * 1 + 1 * 0 = 0; rw [coord0]
  | ⟨1, _⟩ => show (BitVec.ofNat 32 (grid0.coords t 1).val).toNat * 512 + 1 * i.val = 512 * t.val + i.val; rw [coord1]; omega
  | ⟨2, _⟩ => show 0 * 1024 + 1 * d.val = d.val; omega

theorem blkM_apply (t : Fin cfg0.N) (k : Fin 6) (d : Fin 1024) : blkM m c t (ix3 0 k d) = argM m c (ix1 ⟨1024 * k.val + d.val, by omega⟩) := by
  refine Eq.trans ?_ (cast_mod (argM m c) k d)
  rw [← V_m]
  unfold blkM iblk
  rw [View.read_apply]
  show V m c main_v12 _ = V m c main_v12 _
  refine congrArg (V m c main_v12) (funext fun a => Fin.ext ?_)
  match a with
  | ⟨0, _⟩ => show 0 * 1 + 1 * 0 = 0; omega
  | ⟨1, _⟩ => show 0 * 6 + 1 * k.val = k.val; omega
  | ⟨2, _⟩ => show 0 * 1024 + 1 * d.val = d.val; omega

theorem blkG_apply (t : Fin cfg0.N) (d : Fin 1024) : blkG m c t (ix2 0 d) = argG m c (ix1 d) := by
  refine Eq.trans ?_ (cast_row (argG m c) d)
  rw [← V_g]
  unfold blkG iblk
  rw [View.read_apply]
  show V m c main_v13 _ = V m c main_v13 _
  refine congrArg (V m c main_v13) (funext fun a => Fin.ext ?_)
  match a with
  | ⟨0, _⟩ => show 0 * 1 + 1 * 0 = 0; omega
  | ⟨1, _⟩ => show 0 * 1024 + 1 * d.val = d.val; omega

theorem blkW_apply (t : Fin cfg0.N) (k : Fin 1024) (n : Fin 3328) : blkW m c t (ix2 k n) = laid (argW m c) (ix2 k n) := by
  refine Eq.trans ?_ (congrFun (V_w m c) (ix2 k n))
  unfold blkW iblk
  rw [View.read_apply]
  show V m c main_v10 _ = V m c main_v10 _
  refine congrArg (V m c main_v10) (funext fun a => Fin.ext ?_)
  match a with
  | ⟨0, _⟩ => show 0 * 1024 + 1 * k.val = k.val; omega
  | ⟨1, _⟩ => show 0 * 3328 + 1 * n.val = n.val; omega

/-! ## The arrays' entries -/

/-- A row of the input, as it enters the products. -/
def inRow (s : Fin 4096) : Fin 1024 → EReal :=
  entering (fun e => argX m c (ix3 ⟨s.val / 256, by omega⟩ ⟨s.val % 256, by omega⟩ e)) (fun e => argG m c (ix1 e))
    (fun e => argM m c (ix1 ⟨1024 + e.val, by omega⟩)) fun e => argM m c (ix1 ⟨e.val, by omega⟩)

/-- One entry of the projections. -/
def proj (s : Fin 4096) (n : Fin 3088) : EReal := column (inRow m c s) fun e => argW m c (ix2 e n)

/-- What a point's entering row is, from its blocks. -/
theorem row_eq (t : Fin cfg0.N) (i : Fin 512) (inb1 inb0) :
    rowIn (blkX m c t) (blkG m c t) (View.ld (blkM m c t) (Rect.unit ![0, 1, 0] ![1, 1, 1024] inb1)) (View.ld (blkM m c t) (Rect.unit ![0, 0, 0] ![1, 1, 1024] inb0)) i
      = inRow m c (row t i) := by
  have e1 : ∀ d : Fin 1024, View.ld (blkM m c t) (Rect.unit ![0, 1, 0] ![1, 1, 1024] inb1) (ix3 0 0 d) = argM m c (ix1 ⟨1024 + d.val, by omega⟩) := fun d =>
    ((ld_row _ 1 (by decide) inb1 d).trans (blkM_apply m c t 1 d)).trans (congrArg (fun e : Fin 6144 => argM m c (ix1 e)) (Fin.ext (by show 1024 * 1 + d.val = 1024 + d.val; omega)))
  have e0 : ∀ d : Fin 1024, View.ld (blkM m c t) (Rect.unit ![0, 0, 0] ![1, 1, 1024] inb0) (ix3 0 0 d) = argM m c (ix1 ⟨d.val, by omega⟩) := fun d =>
    ((ld_row _ 0 (by decide) inb0 d).trans (blkM_apply m c t 0 d)).trans (congrArg (fun e : Fin 6144 => argM m c (ix1 e)) (Fin.ext (by show 1024 * 0 + d.val = d.val; omega)))
  unfold rowIn inRow
  simp only [e1, e0, blkX_apply, blkG_apply]

theorem out4_eq (t : Fin cfg0.N) : (dats m 0 c).after 4 t
    = k0_pay4 (k0_pay3 (blkX m c t) (blkG m c t) (View.ld (blkM m c t) (Rect.unit ![0, 1, 0] ![1, 1, 1024] inb_S1x6x1024_S1x1x1024_0_1_0))
        (View.ld (blkM m c t) (Rect.unit ![0, 0, 0] ![1, 1, 1024] inb_S1x6x1024_S1x1x1024_0_0_0)) (mixW (blkW m c t))) := by
  rw [after0_4]; unfold mixW; frame_out

theorem out5_eq (t : Fin cfg0.N) : (dats m 0 c).after 5 t
    = k0_pay5 (k0_pay1 (blkX m c t) (blkG m c t) (View.ld (blkM m c t) (Rect.unit ![0, 1, 0] ![1, 1, 1024] inb_S1x6x1024_S1x1x1024_0_1_0))
        (View.ld (blkM m c t) (Rect.unit ![0, 0, 0] ![1, 1, 1024] inb_S1x6x1024_S1x1x1024_0_0_0))) (stepW (blkW m c t)) := by
  rw [after0_5]; unfold stepW; frame_out

/-- The product that a point's five attention results share. -/
def shared (t : Fin cfg0.N) : FVec Ideal S512x1536 .f32 :=
  k0_pay2 (blkX m c t) (blkG m c t) (View.ld (blkM m c t) (Rect.unit ![0, 1, 0] ![1, 1, 1024] inb_S1x6x1024_S1x1x1024_0_1_0))
    (View.ld (blkM m c t) (Rect.unit ![0, 0, 0] ![1, 1, 1024] inb_S1x6x1024_S1x1x1024_0_0_0)) (attnW (blkW m c t))

theorem out6_eq (t : Fin cfg0.N) : (dats m 0 c).after 6 t = k0_pay6 (shared m c t) := by rw [after0_6]; unfold shared attnW; unfold_out out0_6; frame_out
theorem out7_eq (t : Fin cfg0.N) : (dats m 0 c).after 7 t = k0_pay7 (shared m c t) := by rw [after0_7]; unfold shared attnW; unfold_out out0_7; frame_out
theorem out8_eq (t : Fin cfg0.N) : (dats m 0 c).after 8 t = k0_pay9 (shared m c t) := by rw [after0_8]; unfold shared attnW; unfold_out out0_8; frame_out
theorem out9_eq (t : Fin cfg0.N) : (dats m 0 c).after 9 t = k0_pay8 (shared m c t) := by rw [after0_9]; unfold shared attnW; unfold_out out0_9; frame_out
theorem out10_eq (t : Fin cfg0.N) : (dats m 0 c).after 10 t = k0_pay10 (shared m c t) := by rw [after0_10]; unfold shared attnW; unfold_out out0_10; frame_out

theorem shared_apply (t : Fin cfg0.N) (i : Fin 512) (n : Fin 1536) : shared m c t (ix2 i n) = proj m c (row t i) ⟨1552 + n.val, by omega⟩ := by
  unfold shared proj
  rw [pay2_apply, row_eq]
  simp only [attnW_apply, blkW_apply, laid_attn]

theorem out4_apply (t : Fin cfg0.N) (i : Fin 512) (d : Fin 1536) : (dats m 0 c).after 4 t (ix3 0 i d) = proj m c (row t i) (oddMix d) := by
  rw [out4_eq, pay3_apply, row_eq]
  simp only [mixW_apply, blkW_apply, laid_mix]
  rfl

theorem out5_apply (t : Fin cfg0.N) (i : Fin 512) (l : Fin 256) : (dats m 0 c).after 5 t (ix3 0 i l) = stepLane (proj m c (row t i)) l := by
  rw [out5_eq, pay5_apply, row_eq]
  simp only [stepW_apply, blkW_apply, laid_step]
  unfold stepLane proj
  split_ifs
  · rfl
  · exact column_zero _

theorem out6_apply (t : Fin cfg0.N) (i d : Fin 512) : (dats m 0 c).after 6 t (ix3 0 i d) = proj m c (row t i) ⟨1552 + d.val, by omega⟩ * ((scale : ℝ) : EReal) := by
  rw [out6_eq, pay6_apply, shared_apply]
theorem out7_apply (t : Fin cfg0.N) (i d : Fin 512) : (dats m 0 c).after 7 t (ix3 0 i d) = proj m c (row t i) ⟨2064 + d.val, by omega⟩ := by
  rw [out7_eq, pay7_apply, shared_apply]
  exact congrArg (proj m c (row t i)) (Fin.ext (by dsimp only; omega))
theorem out9_apply (t : Fin cfg0.N) (i d : Fin 512) : (dats m 0 c).after 9 t (ix3 0 i d) = proj m c (row t i) ⟨2064 + d.val, by omega⟩ := by
  rw [out9_eq, pay8_apply, shared_apply]
  exact congrArg (proj m c (row t i)) (Fin.ext (by dsimp only; omega))
theorem out8_apply (t : Fin cfg0.N) (i d : Fin 512) : (dats m 0 c).after 8 t (ix3 0 i d) = proj m c (row t i) ⟨2576 + d.val, by omega⟩ := by
  rw [out8_eq, pay9_apply, shared_apply]
  exact congrArg (proj m c (row t i)) (Fin.ext (by dsimp only; omega))
theorem out10_apply (t : Fin cfg0.N) (i d : Fin 512) : (dats m 0 c).after 10 t (ix3 0 i d) = proj m c (row t i) ⟨2576 + d.val, by omega⟩ := by
  rw [out10_eq, pay10_apply, shared_apply]
  exact congrArg (proj m c (row t i)) (Fin.ext (by dsimp only; omega))

/-! ## The launch's arrays -/

/-- The point whose tile holds a row. -/
def tileOf (s : ℕ) (hs : s < 4096) : Fin cfg0.N := ⟨s / 512, Nat.lt_of_lt_of_eq (by omega : _ < 8) N_0.symm⟩

/-- Where a point's tile starts. -/
theorem start0 (t : Fin cfg0.N) : (BitVec.ofNat 32 (grid0.coords t 0).val).toNat * 1 = 0 := by rw [coord0]
theorem start1 (t : Fin cfg0.N) : (BitVec.ofNat 32 (grid0.coords t 1).val).toNat * 512 = 512 * t.val := by rw [coord1]; omega
theorem row_at (t : Fin cfg0.N) (r : Fin 512) : (row t r).val = (BitVec.ofNat 32 (grid0.coords t 1).val).toNat * 512 + 1 * r.val := by
  show 512 * t.val + r.val = _
  rw [coord1]; omega
theorem col_at (n d : ℕ) : d = 0 * n + 1 * d := by omega

/-- The entries of the results, by row and column; the caches hold the entries of the keys and values. -/
def mixAt (s : Fin 4096) (d : Fin 1536) : EReal := proj m c s (oddMix d)
def stepsAt (s : Fin 4096) (d : Fin 256) : EReal := stepLane (proj m c s) d
def queryAt (s : Fin 4096) (d : Fin 512) : EReal := proj m c s ⟨1552 + d.val, by omega⟩ * ((scale : ℝ) : EReal)
def keyAt (s : Fin 4096) (d : Fin 512) : EReal := proj m c s ⟨2064 + d.val, by omega⟩
def valueAt (s : Fin 4096) (d : Fin 512) : EReal := proj m c s ⟨2576 + d.val, by omega⟩

/-- The seven arrays of the results. -/
def mix : Buf (Elt Ideal) ((c.tc : Thread nD τ).loc main_v14_0) := arr (mixAt m c)
def steps : Buf (Elt Ideal) ((c.tc : Thread nD τ).loc main_v14_1) := arr (stepsAt m c)
def query : Buf (Elt Ideal) ((c.tc : Thread nD τ).loc main_v14_2) := arr (queryAt m c)
def key : Buf (Elt Ideal) ((c.tc : Thread nD τ).loc main_v14_3) := arr (keyAt m c)
def value : Buf (Elt Ideal) ((c.tc : Thread nD τ).loc main_v14_4) := arr (valueAt m c)
def keyCache : Buf (Elt Ideal) ((c.tc : Thread nD τ).loc main_v14_5) := arr (keyAt m c)
def valueCache : Buf (Elt Ideal) ((c.tc : Thread nD τ).loc main_v14_6) := arr (valueAt m c)

theorem final4 : (dats m 0 c).arrAt 4 cfg0.N = mix m c := by
  refine (dats m 0 c).arrAt_eq_of_cover 4 (mix m c) (fun t _ => ?_) fun i : S1x4096x1536.Idx => ⟨tileOf (i 1).val (i 1).isLt, flush0_4 _, ?_⟩
  · rw [Value.flushed4, ← after0_4]
    exact funext fun y => tile_entry (mixAt m c) _ (row t) (out4_apply m c t) y _ (row_at t _) (col_at 1536 _)
  · let t := tileOf (i 1).val (i 1).isLt
    show i ∈ ((View.whole main_v14_0).slice (win0_4.rect t)).set
    rw [View.set_slice_whole]
    exact mem_tile i _ (start0 _) (start1 _) (Nat.zero_mul 1536) _

theorem final5 : (dats m 0 c).arrAt 5 cfg0.N = steps m c := by
  refine (dats m 0 c).arrAt_eq_of_cover 5 (steps m c) (fun t _ => ?_) fun i : S1x4096x256.Idx => ⟨tileOf (i 1).val (i 1).isLt, flush0_5 _, ?_⟩
  · rw [Value.flushed5, ← after0_5]
    exact funext fun y => tile_entry (stepsAt m c) _ (row t) (out5_apply m c t) y _ (row_at t _) (col_at 256 _)
  · let t := tileOf (i 1).val (i 1).isLt
    show i ∈ ((View.whole main_v14_1).slice (win0_5.rect t)).set
    rw [View.set_slice_whole]
    exact mem_tile i _ (start0 _) (start1 _) (Nat.zero_mul 256) _

theorem final6 : (dats m 0 c).arrAt 6 cfg0.N = query m c := by
  refine (dats m 0 c).arrAt_eq_of_cover 6 (query m c) (fun t _ => ?_) fun i : S1x4096x512.Idx => ⟨tileOf (i 1).val (i 1).isLt, flush0_6 _, ?_⟩
  · rw [Value.flushed6, ← after0_6]
    exact funext fun y => tile_entry (queryAt m c) _ (row t) (out6_apply m c t) y _ (row_at t _) (col_at 512 _)
  · let t := tileOf (i 1).val (i 1).isLt
    show i ∈ ((View.whole main_v14_2).slice (win0_6.rect t)).set
    rw [View.set_slice_whole]
    exact mem_tile i _ (start0 _) (start1 _) (Nat.zero_mul 512) _

theorem final7 : (dats m 0 c).arrAt 7 cfg0.N = key m c := by
  refine (dats m 0 c).arrAt_eq_of_cover 7 (key m c) (fun t _ => ?_) fun i : S1x4096x512.Idx => ⟨tileOf (i 1).val (i 1).isLt, flush0_7 _, ?_⟩
  · rw [Value.flushed7, ← after0_7]
    exact funext fun y => tile_entry (keyAt m c) _ (row t) (out7_apply m c t) y _ (row_at t _) (col_at 512 _)
  · let t := tileOf (i 1).val (i 1).isLt
    show i ∈ ((View.whole main_v14_3).slice (win0_7.rect t)).set
    rw [View.set_slice_whole]
    exact mem_tile i _ (start0 _) (start1 _) (Nat.zero_mul 512) _

theorem final8 : (dats m 0 c).arrAt 8 cfg0.N = value m c := by
  refine (dats m 0 c).arrAt_eq_of_cover 8 (value m c) (fun t _ => ?_) fun i : S1x4096x512.Idx => ⟨tileOf (i 1).val (i 1).isLt, flush0_8 _, ?_⟩
  · rw [Value.flushed8, ← after0_8]
    exact funext fun y => tile_entry (valueAt m c) _ (row t) (out8_apply m c t) y _ (row_at t _) (col_at 512 _)
  · let t := tileOf (i 1).val (i 1).isLt
    show i ∈ ((View.whole main_v14_4).slice (win0_8.rect t)).set
    rw [View.set_slice_whole]
    exact mem_tile i _ (start0 _) (start1 _) (Nat.zero_mul 512) _

theorem final9 : (dats m 0 c).arrAt 9 cfg0.N = keyCache m c := by
  refine (dats m 0 c).arrAt_eq_of_cover 9 (keyCache m c) (fun t _ => ?_) fun i : S1x4096x512.Idx => ⟨tileOf (i 1).val (i 1).isLt, flush0_9 _, ?_⟩
  · rw [Value.flushed9, ← after0_9]
    exact funext fun y => tile_entry (keyAt m c) _ (row t) (out9_apply m c t) y _ (row_at t _) (col_at 512 _)
  · let t := tileOf (i 1).val (i 1).isLt
    show i ∈ ((View.whole main_v14_5).slice (win0_9.rect t)).set
    rw [View.set_slice_whole]
    exact mem_tile i _ (start0 _) (start1 _) (Nat.zero_mul 512) _

theorem final10 : (dats m 0 c).arrAt 10 cfg0.N = valueCache m c := by
  refine (dats m 0 c).arrAt_eq_of_cover 10 (valueCache m c) (fun t _ => ?_) fun i : S1x4096x512.Idx => ⟨tileOf (i 1).val (i 1).isLt, flush0_10 _, ?_⟩
  · rw [Value.flushed10, ← after0_10]
    exact funext fun y => tile_entry (valueAt m c) _ (row t) (out10_apply m c t) y _ (row_at t _) (col_at 512 _)
  · let t := tileOf (i 1).val (i 1).isLt
    show i ∈ ((View.whole main_v14_6).slice (win0_10.rect t)).set
    rw [View.set_slice_whole]
    exact mem_tile i _ (start0 _) (start1 _) (Nat.zero_mul 512) _

/-- The run: the result arrays hold the formulas' entries, and the arguments are as they were. -/
theorem run_value (ρ : Dev nD → PrngReg) : θ_run defs (onTc (τ := τ) (main (F := Ideal))) ⟨m, fun _ => 0, ρ⟩ fun r => ∀ c : Dev nD,
      r.2.mem ((c.tc : Thread nD τ).loc main_v14_0) = mix m c
      ∧ r.2.mem ((c.tc : Thread nD τ).loc main_v14_1) = steps m c
      ∧ r.2.mem ((c.tc : Thread nD τ).loc main_v14_2) = query m c
      ∧ r.2.mem ((c.tc : Thread nD τ).loc main_v14_3) = key m c
      ∧ r.2.mem ((c.tc : Thread nD τ).loc main_v14_4) = value m c
      ∧ r.2.mem ((c.tc : Thread nD τ).loc main_v14_5) = keyCache m c
      ∧ r.2.mem ((c.tc : Thread nD τ).loc main_v14_6) = valueCache m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final4 m c), (h c).2.1.trans (final5 m c), (h c).2.2.1.trans (final6 m c), (h c).2.2.2.1.trans (final7 m c),
    (h c).2.2.2.2.1.trans (final8 m c), (h c).2.2.2.2.2.1.trans (final9 m c), (h c).2.2.2.2.2.2.1.trans (final10 m c), (h c).2.2.2.2.2.2.2⟩) (Value.run_blocks m ρ)

end Cert.Kernel4Ideal.Inproj

end
-- ==== Proof.Inproj.OddReference.lean ====
/-
  The odd layers' input call as the reference states it, entry by entry.
-/
module

public import proofs.«01_k».proof.Proof.Inproj.Formula
public import proofs.«01_k».proof.Proof.Gen.Reference4Ideal.Run
public import Idealize.ShloMosaic.Lib.Pointwise

@[expose] public section

set_option maxRecDepth 16384

noncomputable section

namespace Cert.Reference4Ideal.Inproj

open Idealize.ShloMosaic Idealize.ShloMosaic.TcCoe Idealize.SL.Sem
open Cert.Reference4Ideal Cert.Reference4Ideal.Gen Cert.Reference4Ideal.Value
open Cert.Mlp (unitScale entering)
open Cert.Inproj
open Facts

/-- A row brought to unit root mean square and scaled by the learned weights. -/
def normed (X : FVec Ideal S16x256x1024 .f32) (G : FVec Ideal S1024 .f32) : FVec Ideal S16x256x1024 .f32 :=
  mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 G))

def rowsIn (Y : FVec Ideal S16x256x1024 .f32) (M : FVec Ideal S6144 .f32) : FVec Ideal S16x256x1024 .f32 :=
  addf (mulf Y (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 0, 1024] (broadcastInDim S1x1x6144 ![2] bcast_S6144_S1x1x6144_2 M) slices_S1x1x6144_S1x1x1024_0_0_1024)))) (broadcastInDim S16x256x1024 ![0, 1, 2] bcast_S1x1x1024_S16x256x1024_0_1_2 (extractStridedSlice S1x1x1024 ![0, 0, 0] (broadcastInDim S1x1x6144 ![2] bcast_S6144_S1x1x6144_2 M) slices_S1x1x6144_S1x1x1024_0_0_0))

def products (H : FVec Ideal S16x256x1024 .f32) (W : FVec Ideal S1024x3088 .f32) : FVec Ideal S16x256x3088 .f32 :=
  Host.dotGeneral dot_S16x256x1024_S1024x3088_S16x256x3088_2_0_01_1_n_n none H W

/-- The five groups of columns. -/
def mixCols (P : FVec Ideal S16x256x3088 .f32) : FVec Ideal S16x256x1536 .f32 :=
  concatenate S16x256x1536 2 [⟨S16x256x512, extractStridedSlice S16x256x512 ![0, 0, 512] P slices_S16x256x3088_S16x256x512_0_0_512⟩, ⟨S16x256x256, extractStridedSlice S16x256x256 ![0, 0, 1024] P slices_S16x256x3088_S16x256x256_0_0_1024⟩, ⟨S16x256x256, extractStridedSlice S16x256x256 ![0, 0, 1280] P slices_S16x256x3088_S16x256x256_0_0_1280⟩, ⟨S16x256x512, extractStridedSlice S16x256x512 ![0, 0, 0] P slices_S16x256x3088_S16x256x512_0_0_0⟩] concatenates_S16x256x512_S16x256x256_S16x256x256_S16x256x512_S16x256x1536_d2

def stepCols (P : FVec Ideal S16x256x3088 .f32) : FVec Ideal S16x256x16 .f32 := extractStridedSlice S16x256x16 ![0, 0, 1536] P slices_S16x256x3088_S16x256x16_0_0_1536

def stepLanes (T : FVec Ideal S16x256x16 .f32) : FVec Ideal S16x256x256 .f32 :=
  concatenate S16x256x256 2 [⟨S16x256x4, extractStridedSlice S16x256x4 ![0, 0, 0] T slices_S16x256x16_S16x256x4_0_0_0⟩, ⟨S16x256x4, extractStridedSlice S16x256x4 ![0, 0, 8] T slices_S16x256x16_S16x256x4_0_0_8⟩, ⟨S16x256x120, broadcastInDim S16x256x120 ![] bcast_S_S16x256x120 (constant S_ .f32 0x00000000#32)⟩, ⟨S16x256x4, extractStridedSlice S16x256x4 ![0, 0, 4] T slices_S16x256x16_S16x256x4_0_0_4⟩, ⟨S16x256x4, extractStridedSlice S16x256x4 ![0, 0, 12] T slices_S16x256x16_S16x256x4_0_0_12⟩, ⟨S16x256x120, broadcastInDim S16x256x120 ![] bcast_S_S16x256x120 (constant S_ .f32 0x00000000#32)⟩] concatenates_S16x256x4_S16x256x4_S16x256x120_S16x256x4_S16x256x4_S16x256x120_S16x256x256_d2

def queryCols (P : FVec Ideal S16x256x3088 .f32) : FVec Ideal S16x256x512 .f32 :=
  mulf (extractStridedSlice S16x256x512 ![0, 0, 1552] P slices_S16x256x3088_S16x256x512_0_0_1552) (broadcastInDim S16x256x512 ![] bcast_S_S16x256x512 (Host.divf (Host.rsqrt (constant S_ .f32 0x43000000#32)) (Host.log (constant S_ .f32 0x40000000#32))))

def keyCols (P : FVec Ideal S16x256x3088 .f32) : FVec Ideal S16x256x512 .f32 := extractStridedSlice S16x256x512 ![0, 0, 2064] P slices_S16x256x3088_S16x256x512_0_0_2064

def valueCols (P : FVec Ideal S16x256x3088 .f32) : FVec Ideal S16x256x512 .f32 := extractStridedSlice S16x256x512 ![0, 0, 2576] P slices_S16x256x3088_S16x256x512_0_0_2576

theorem normed_apply (X : FVec Ideal S16x256x1024 .f32) (G : FVec Ideal S1024 .f32) (b : Fin 16) (s : Fin 256) (d : Fin 1024) :
    normed X G (ix3 b s d) = X (ix3 b s d) * unitScale (fun e => X (ix3 b s e)) * G (ix1 d) := by
  unfold unitScale
  pointwise [normed]

theorem rowsIn_apply (Y : FVec Ideal S16x256x1024 .f32) (M : FVec Ideal S6144 .f32) (b : Fin 16) (s : Fin 256) (d : Fin 1024) :
    rowsIn Y M (ix3 b s d) = Y (ix3 b s d) * (Ideal.ofBits .f32 0x3F800000#32 + M (ix1 ⟨1024 + d.val, by omega⟩)) + M (ix1 ⟨d.val, by omega⟩) := by
  pointwise [rowsIn]

theorem products_apply (H : FVec Ideal S16x256x1024 .f32) (W : FVec Ideal S1024x3088 .f32) (b : Fin 16) (s : Fin 256) (n : Fin 3088) :
    products H W (ix3 b s n) = column (fun e => H (ix3 b s e)) fun e => W (ix2 e n) := by
  unfold column
  pointwise [products]

theorem mixCols_apply (P : FVec Ideal S16x256x3088 .f32) (b : Fin 16) (s : Fin 256) (d : Fin 1536) : mixCols P (ix3 b s d) = P (ix3 b s (oddMix d)) := by
  unfold oddMix
  pointwise [mixCols]
  split_ifs <;> first | omega | exact congrArg (fun n : Fin 3088 => P (ix3 b s n)) (Fin.ext (by first | omega | (dsimp only; omega)))

theorem stepLanes_apply (P : FVec Ideal S16x256x3088 .f32) (b : Fin 16) (s l : Fin 256) :
    stepLanes (stepCols P) (ix3 b s l) = stepLane (fun n => P (ix3 b s n)) l := by
  unfold stepLane oddStep
  pointwise [stepLanes, stepCols]
  split_ifs <;> first
    | omega
    | exact (if_neg (by omega)).symm
    | (refine Eq.trans ?_ (if_pos (by omega)).symm; exact congrArg (fun n : Fin 3088 => P (ix3 b s n)) (Fin.ext (by dsimp only; omega)))
    | rfl

theorem queryCols_apply (P : FVec Ideal S16x256x3088 .f32) (b : Fin 16) (s : Fin 256) (d : Fin 512) :
    queryCols P (ix3 b s d) = P (ix3 b s ⟨1552 + d.val, by omega⟩) * Ideal.div (Ideal.rsqrt (Ideal.ofBits .f32 0x43000000#32)) (Ideal.log (Ideal.ofBits .f32 0x40000000#32)) := by
  pointwise [queryCols]

theorem keyCols_apply (P : FVec Ideal S16x256x3088 .f32) (b : Fin 16) (s : Fin 256) (d : Fin 512) : keyCols P (ix3 b s d) = P (ix3 b s ⟨2064 + d.val, by omega⟩) := by
  pointwise [keyCols]

theorem valueCols_apply (P : FVec Ideal S16x256x3088 .f32) (b : Fin 16) (s : Fin 256) (d : Fin 512) : valueCols P (ix3 b s d) = P (ix3 b s ⟨2576 + d.val, by omega⟩) := by
  pointwise [valueCols]

/-! ## The sequences laid end to end -/

theorem rows1536_apply (X : FVec Ideal S16x256x1536 .f32) (s : Fin 4096) (d : Fin 1536) :
    shapeCast S1x4096x1536 X shapeCasts_S16x256x1536_S1x4096x1536 (ix3 0 s d) = X (ix3 ⟨s.val / 256, by omega⟩ ⟨s.val % 256, by omega⟩ d) := by
  pointwise

theorem rows256_apply (X : FVec Ideal S16x256x256 .f32) (s : Fin 4096) (d : Fin 256) :
    shapeCast S1x4096x256 X shapeCasts_S16x256x256_S1x4096x256 (ix3 0 s d) = X (ix3 ⟨s.val / 256, by omega⟩ ⟨s.val % 256, by omega⟩ d) := by
  pointwise

theorem rows512_apply {φ : FTy} (X : FVec Ideal S16x256x512 φ) (s : Fin 4096) (d : Fin 512) :
    shapeCast S1x4096x512 X shapeCasts_S16x256x512_S1x4096x512 (ix3 0 s d) = X (ix3 ⟨s.val / 256, by omega⟩ ⟨s.val % 256, by omega⟩ d) := by
  pointwise

variable (m : (ℓ : Loc nD τ sig) → Buf (Elt Ideal) ℓ) (c : Dev nD)

/-- The projections of all rows. -/
def proj : FVec Ideal S16x256x3088 .f32 :=
  products (rowsIn (normed (m ((c.tc : Thread nD τ).loc main_arg0)) (m ((c.tc : Thread nD τ).loc main_arg2))) (m ((c.tc : Thread nD τ).loc main_arg1)))
    (m ((c.tc : Thread nD τ).loc main_arg3))

theorem proj_apply (b : Fin 16) (s : Fin 256) (n : Fin 3088) :
    proj m c (ix3 b s n)
      = column (entering (fun e => m ((c.tc : Thread nD τ).loc main_arg0) (ix3 b s e)) (fun e => m ((c.tc : Thread nD τ).loc main_arg2) (ix1 e))
          (fun e => m ((c.tc : Thread nD τ).loc main_arg1) (ix1 ⟨1024 + e.val, by omega⟩)) (fun e => m ((c.tc : Thread nD τ).loc main_arg1) (ix1 ⟨e.val, by omega⟩)))
        fun e => m ((c.tc : Thread nD τ).loc main_arg3) (ix2 e n) := by
  unfold proj
  rw [products_apply]
  simp only [rowsIn_apply, normed_apply]
  rfl

/-! ## The results -/

def resMix : Buf (Elt Ideal) ((c.tc : Thread nD τ).loc main_v50) := shapeCast S1x4096x1536 (mixCols (proj m c)) shapeCasts_S16x256x1536_S1x4096x1536
def resSteps : Buf (Elt Ideal) ((c.tc : Thread nD τ).loc main_v51) := shapeCast S1x4096x256 (stepLanes (stepCols (proj m c))) shapeCasts_S16x256x256_S1x4096x256
def resQuery : Buf (Elt Ideal) ((c.tc : Thread nD τ).loc main_v52) :=
  shapeCast S1x4096x512 (truncf (F := Ideal) .bf16 (queryCols (proj m c)) bitsLt_bf16_f32) shapeCasts_S16x256x512_S1x4096x512
def resKey : Buf (Elt Ideal) ((c.tc : Thread nD τ).loc main_v53) :=
  shapeCast S1x4096x512 (truncf (F := Ideal) .bf16 (keyCols (proj m c)) bitsLt_bf16_f32) shapeCasts_S16x256x512_S1x4096x512
def resValue : Buf (Elt Ideal) ((c.tc : Thread nD τ).loc main_v54) :=
  shapeCast S1x4096x512 (truncf (F := Ideal) .bf16 (valueCols (proj m c)) bitsLt_bf16_f32) shapeCasts_S16x256x512_S1x4096x512
def resKeyCache : Buf (Elt Ideal) ((c.tc : Thread nD τ).loc main_v55) := shapeCast S1x4096x512 (keyCols (proj m c)) shapeCasts_S16x256x512_S1x4096x512
def resValueCache : Buf (Elt Ideal) ((c.tc : Thread nD τ).loc main_v56) := shapeCast S1x4096x512 (valueCols (proj m c)) shapeCasts_S16x256x512_S1x4096x512

/-- The sequence of a row, and its place there. -/
def seq (s : Fin 4096) : Fin 16 := ⟨s.val / 256, by omega⟩
def pos (s : Fin 4096) : Fin 256 := ⟨s.val % 256, by omega⟩

theorem resMix_apply (s : Fin 4096) (d : Fin 1536) : resMix m c (ix3 0 s d) = proj m c (ix3 (seq s) (pos s) (oddMix d)) :=
  (rows1536_apply _ s d).trans (mixCols_apply (proj m c) (seq s) (pos s) d)
theorem resSteps_apply (s : Fin 4096) (l : Fin 256) : resSteps m c (ix3 0 s l) = stepLane (fun n => proj m c (ix3 (seq s) (pos s) n)) l :=
  (rows256_apply _ s l).trans (stepLanes_apply (proj m c) (seq s) (pos s) l)
theorem resQuery_apply (s : Fin 4096) (d : Fin 512) : resQuery m c (ix3 0 s d) = proj m c (ix3 (seq s) (pos s) ⟨1552 + d.val, by omega⟩) * ((scale : ℝ) : EReal) := by
  rw [← scale_eq]
  exact (rows512_apply (φ := .bf16) _ s d).trans (queryCols_apply (proj m c) (seq s) (pos s) d)
theorem resKey_apply (s : Fin 4096) (d : Fin 512) : resKey m c (ix3 0 s d) = proj m c (ix3 (seq s) (pos s) ⟨2064 + d.val, by omega⟩) :=
  (rows512_apply (φ := .bf16) _ s d).trans (keyCols_apply (proj m c) (seq s) (pos s) d)
theorem resValue_apply (s : Fin 4096) (d : Fin 512) : resValue m c (ix3 0 s d) = proj m c (ix3 (seq s) (pos s) ⟨2576 + d.val, by omega⟩) :=
  (rows512_apply (φ := .bf16) _ s d).trans (valueCols_apply (proj m c) (seq s) (pos s) d)
theorem resKeyCache_apply (s : Fin 4096) (d : Fin 512) : resKeyCache m c (ix3 0 s d) = proj m c (ix3 (seq s) (pos s) ⟨2064 + d.val, by omega⟩) :=
  (rows512_apply (φ := .f32) _ s d).trans (keyCols_apply (proj m c) (seq s) (pos s) d)
theorem resValueCache_apply (s : Fin 4096) (d : Fin 512) : resValueCache m c (ix3 0 s d) = proj m c (ix3 (seq s) (pos s) ⟨2576 + d.val, by omega⟩) :=
  (rows512_apply (φ := .f32) _ s d).trans (valueCols_apply (proj m c) (seq s) (pos s) d)

/-- The reference's run, its results stage by stage. -/
theorem run_res (ρ : Dev nD → PrngReg) : θ_run defs (onTc (τ := τ) (main (F := Ideal))) ⟨m, fun _ => 0, ρ⟩ fun r => ∀ c : Dev nD,
      r.2.mem ((c.tc : Thread nD τ).loc main_v50) = resMix m c
      ∧ r.2.mem ((c.tc : Thread nD τ).loc main_v51) = resSteps m c
      ∧ r.2.mem ((c.tc : Thread nD τ).loc main_v52) = resQuery m c
      ∧ r.2.mem ((c.tc : Thread nD τ).loc main_v53) = resKey m c
      ∧ r.2.mem ((c.tc : Thread nD τ).loc main_v54) = resValue m c
      ∧ r.2.mem ((c.tc : Thread nD τ).loc main_v55) = resKeyCache m c
      ∧ r.2.mem ((c.tc : Thread nD τ).loc main_v56) = resValueCache m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2.1.trans rfl, (h c).2.2.2.2.1.trans rfl,
    (h c).2.2.2.2.2.1.trans rfl, (h c).2.2.2.2.2.2.1.trans rfl, (h c).2.2.2.2.2.2.2⟩) (run (F := Ideal) m ρ)

end Cert.Reference4Ideal.Inproj

end
-- ==== Proof.Inproj.OddMatch.lean ====
/-
  The odd layers' input call and its reference, from arguments that agree: the same projections, and so the same seven results.
-/
module

public import proofs.«01_k».proof.Proof.Inproj.Odd
public import proofs.«01_k».proof.Proof.Inproj.OddReference

@[expose] public section

noncomputable section

namespace Cert.Inproj.Odd

open Idealize.ShloMosaic Idealize.ShloMosaic.TcCoe Idealize.SL.Sem
open Cert.Inproj

/-- Memories of the two programs that agree on the arguments. -/
def Agree (m : (ℓ : Loc Cert.Kernel4Ideal.nD Cert.Kernel4Ideal.τ Cert.Kernel4Ideal.sig) → Buf (Elt Ideal) ℓ) (m' : (ℓ : Loc Cert.Reference4Ideal.nD Cert.Reference4Ideal.τ Cert.Reference4Ideal.sig) → Buf (Elt Ideal) ℓ) (c : Dev Cert.Kernel4Ideal.nD) : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
    ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
    ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
    ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)

variable {m : (ℓ : Loc Cert.Kernel4Ideal.nD Cert.Kernel4Ideal.τ Cert.Kernel4Ideal.sig) → Buf (Elt Ideal) ℓ} {m' : (ℓ : Loc Cert.Reference4Ideal.nD Cert.Reference4Ideal.τ Cert.Reference4Ideal.sig) → Buf (Elt Ideal) ℓ} {c : Dev Cert.Kernel4Ideal.nD} (h : Agree m m' c)

include h

theorem proj_eq (s : Fin 4096) (n : Fin 3088) : Cert.Reference4Ideal.Inproj.proj m' c (ix3 (Cert.Reference4Ideal.Inproj.seq s) (Cert.Reference4Ideal.Inproj.pos s) n) = Cert.Kernel4Ideal.Inproj.proj m c s n := by
  obtain ⟨h0, h1, h2, h3⟩ := h
  rw [Cert.Reference4Ideal.Inproj.proj_apply, h0, h1, h2, h3]
  rfl

theorem mix_eq : Cert.Reference4Ideal.Inproj.resMix m' c = Cert.Kernel4Ideal.Inproj.mix m c :=
  rows_ext fun s d => (Cert.Reference4Ideal.Inproj.resMix_apply m' c s d).trans (proj_eq h s _)

theorem steps_eq : Cert.Reference4Ideal.Inproj.resSteps m' c = Cert.Kernel4Ideal.Inproj.steps m c :=
  rows_ext fun s d => (Cert.Reference4Ideal.Inproj.resSteps_apply m' c s d).trans (congrArg (fun p : Fin 3088 → EReal => stepLane p d) (funext (proj_eq h s)))

theorem query_eq : Cert.Reference4Ideal.Inproj.resQuery m' c = Cert.Kernel4Ideal.Inproj.query m c :=
  rows_ext fun s d => (Cert.Reference4Ideal.Inproj.resQuery_apply m' c s d).trans (congrArg (· * ((scale : ℝ) : EReal)) (proj_eq h s _))

theorem key_eq : Cert.Reference4Ideal.Inproj.resKey m' c = Cert.Kernel4Ideal.Inproj.key m c :=
  rows_ext fun s d => (Cert.Reference4Ideal.Inproj.resKey_apply m' c s d).trans (proj_eq h s _)

theorem value_eq : Cert.Reference4Ideal.Inproj.resValue m' c = Cert.Kernel4Ideal.Inproj.value m c :=
  rows_ext fun s d => (Cert.Reference4Ideal.Inproj.resValue_apply m' c s d).trans (proj_eq h s _)

theorem keyCache_eq : Cert.Reference4Ideal.Inproj.resKeyCache m' c = Cert.Kernel4Ideal.Inproj.keyCache m c :=
  rows_ext fun s d => (Cert.Reference4Ideal.Inproj.resKeyCache_apply m' c s d).trans (proj_eq h s _)

theorem valueCache_eq : Cert.Reference4Ideal.Inproj.resValueCache m' c = Cert.Kernel4Ideal.Inproj.valueCache m c :=
  rows_ext fun s d => (Cert.Reference4Ideal.Inproj.resValueCache_apply m' c s d).trans (proj_eq h s _)

end Cert.Inproj.Odd

end
-- ==== Proof.lean ====
/-
  The proof of `Cert.Claim`: the grouped-query attention call over the fresh and the cached keys runs, leaves its arguments and
  counters as they were, and computes over the extended reals the softmax attention that the reference states; the feed-forward
  calls likewise compute the normed, gated squared-ReLU products that their references state, the input calls their references' projections,
  and the output calls their references' gated products.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.FlashBits.Launch
public import proofs.«01_k».proof.Proof.Flash.Array
public import proofs.«01_k».proof.Proof.Flash.Reference
public import proofs.«01_k».proof.Proof.Flash.Precondition
public import proofs.«01_k».proof.Proof.Mlp.Array
public import proofs.«01_k».proof.Proof.Mlp.Reference
public import proofs.«01_k».proof.Proof.Mlp.ContextArray
public import proofs.«01_k».proof.Proof.Mlp.ContextReference
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Outproj.Even
public import proofs.«01_k».proof.Proof.Outproj.EvenReference
public import proofs.«01_k».proof.Proof.Outproj.Odd
public import proofs.«01_k».proof.Proof.Outproj.OddReference
public import proofs.«01_k».proof.Proof.Inproj.EvenMatch
public import proofs.«01_k».proof.Proof.Inproj.OddMatch
public import Idealize.ShloMosaic.Adequacy
public import Idealize.ShloMosaic.Init

@[expose] public section

noncomputable section

namespace Cert.Proof

open Idealize.ShloMosaic Idealize.ShloMosaic.TcCoe Idealize.SL.Sem

/-- The attention array of the kernel's arguments is the reference's result, where the two agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v26 m' c = Cert.KernelIdeal.Flash.result m c := by
  funext y
  have y0 : (y 0).val < 8 := (y 0).isLt
  have y1 : (y 1).val < 4096 := (y 1).isLt
  have y2 : (y 2).val < 512 := (y 2).isLt
  have ey : y = (ix3 (⟨(y 0).val, y0⟩ : Fin 8) (⟨(y 1).val, y1⟩ : Fin 4096)
      (⟨128 * (2 * (⟨(y 2).val / 256, by omega⟩ : Fin 2).val + (⟨(y 2).val / 128 % 2, by omega⟩ : Fin 2).val) + (⟨(y 2).val % 128, by omega⟩ : Fin 128).val, by dsimp only; omega⟩ : Fin 512) : Cert.ReferenceIdeal.S8x4096x512.Idx) := by
    funext a
    match a with
    | ⟨0, _⟩ => rfl
    | ⟨1, _⟩ => rfl
    | ⟨2, _⟩ => exact Fin.ext (by show (y 2).val = 128 * (2 * ((y 2).val / 256) + (y 2).val / 128 % 2) + (y 2).val % 128; omega)
  refine ((congrArg (Cert.ReferenceIdeal.Value.res_main_v26 m' c) ey).trans (Cert.ReferenceIdeal.Attend.res_apply m' c _ _ _ _ _)).trans ?_
  rw [h0, h1, h2, h3, h4]
  have e1 : (⟨2 * ((y 2).val / 256) + (y 2).val / 128 % 2, by omega⟩ : Fin 4) = ⟨(y 2).val / 128, by omega⟩ := Fin.ext (by dsimp only; omega)
  have e2 : (⟨(y 2).val / 256, by omega⟩ : Fin 2) = ⟨(y 2).val / 128 / 2, by omega⟩ := Fin.ext (by dsimp only; omega)
  unfold Cert.KernelIdeal.Flash.result Cert.KernelIdeal.Flash.att
  dsimp only
  simp only [e1, e2]

/-- The reference's frame: its generated run read at the arguments; it declares no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0 :=
  (θ_run Cert.ReferenceIdeal.defs _ _).mono (fun r h => And.intro (fun c => (h c).2) (sem_eq_zero_of_no_sems (by decide) r.2))
    (Cert.ReferenceIdeal.Value.run (F := Ideal) m g)

/-- The feed-forward array of the kernel's arguments is the reference's result, where the two agree on the arguments. -/
theorem result2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.res_main_v45 m' c = Cert.Kernel2Ideal.Mlp.result m c := by
  funext y
  have y0 : (y 0).val < 8 := (y 0).isLt
  have y1 : (y 1).val < 4096 := (y 1).isLt
  have y2 : (y 2).val < 1024 := (y 2).isLt
  have ey : y = (ix3 (⟨(y 0).val, y0⟩ : Fin 8) (⟨(y 1).val, y1⟩ : Fin 4096) (⟨(y 2).val, y2⟩ : Fin 1024) : Cert.Reference2Ideal.S8x4096x1024.Idx) := by
    funext a
    match a with
    | ⟨0, _⟩ => rfl
    | ⟨1, _⟩ => rfl
    | ⟨2, _⟩ => rfl
  refine ((congrArg (Cert.Reference2Ideal.Value.res_main_v45 m' c) ey).trans (Cert.Reference2Ideal.Mlp.res_apply m' c _ _ _)).trans ?_
  rw [h0, h1, h2, h3, h4, h5]
  rfl

/-- The feed-forward reference's frame. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0 :=
  (θ_run Cert.Reference2Ideal.defs _ _).mono (fun r h => And.intro (fun c => (h c).2) (sem_eq_zero_of_no_sems (by decide) r.2))
    (Cert.Reference2Ideal.Value.run (F := Ideal) m g)

/-- The even layers' output call's array is its reference's result, where the two agree on the arguments. -/
theorem result5_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    Cert.Reference5Ideal.Outproj.res m' c = Cert.Kernel5Ideal.Outproj.result m c := by
  funext y
  have ey : y = (ix3 (⟨(y 0).val, (y 0).isLt⟩ : Fin 8) (⟨(y 1).val, (y 1).isLt⟩ : Fin 4096) (⟨(y 2).val, (y 2).isLt⟩ : Fin 1024) : Cert.Reference5Ideal.S8x4096x1024.Idx) := by
    funext a
    match a with
    | ⟨0, _⟩ => rfl
    | ⟨1, _⟩ => rfl
    | ⟨2, _⟩ => rfl
  refine ((congrArg (Cert.Reference5Ideal.Outproj.res m' c) ey).trans (Cert.Reference5Ideal.Outproj.res_apply m' c _ _ _)).trans ?_
  rw [h0, h1, h2, h3, h4, h5]
  rfl

/-- The frame of the even layers' output call's reference. -/
theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0 :=
  (θ_run Cert.Reference5Ideal.defs _ _).mono (fun r h => And.intro (fun c => (h c).2) (sem_eq_zero_of_no_sems (by decide) r.2)) (Cert.Reference5Ideal.Outproj.run_res m g)

/-- The odd layers' output call's array is its reference's result, where the two agree on the arguments. -/
theorem result6_eq (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3))
    (h4 : m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4))
    (h5 : m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5))
    (h6 : m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) :
    Cert.Reference6Ideal.Outproj.res m' c = Cert.Kernel6Ideal.Outproj.result m c := by
  funext y
  have ey : y = (ix3 (⟨(y 0).val, (y 0).isLt⟩ : Fin 8) (⟨(y 1).val, (y 1).isLt⟩ : Fin 4096) (⟨(y 2).val, (y 2).isLt⟩ : Fin 1024) : Cert.Reference6Ideal.S8x4096x1024.Idx) := by
    funext a
    match a with
    | ⟨0, _⟩ => rfl
    | ⟨1, _⟩ => rfl
    | ⟨2, _⟩ => rfl
  refine ((congrArg (Cert.Reference6Ideal.Outproj.res m' c) ey).trans (Cert.Reference6Ideal.Outproj.res_apply m' c _ _ _)).trans ?_
  rw [h0, h1, h2, h3, h4, h5, h6]
  rfl

/-- The frame of the odd layers' output call's reference. -/
theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0 :=
  (θ_run Cert.Reference6Ideal.defs _ _).mono (fun r h => And.intro (fun c => (h c).2) (sem_eq_zero_of_no_sems (by decide) r.2)) (Cert.Reference6Ideal.Outproj.run_res m g)

/-- The frame of the even layers' input call's reference. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0 :=
  (θ_run Cert.Reference3Ideal.defs _ _).mono (fun r h => And.intro (fun c => (h c).2.2.2.2.2.2.2) (sem_eq_zero_of_no_sems (by decide) r.2)) (Cert.Reference3Ideal.Inproj.run_res m g)

/-- The frame of the odd layers' input call's reference. -/
theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0 :=
  (θ_run Cert.Reference4Ideal.defs _ _).mono (fun r h => And.intro (fun c => (h c).2.2.2.2.2.2.2) (sem_eq_zero_of_no_sems (by decide) r.2)) (Cert.Reference4Ideal.Inproj.run_res m g)

/-- The feed-forward call's array over the context tokens is its reference's result, where the two agree on the arguments. -/
theorem result7_eq (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0))
    (h1 : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1))
    (h2 : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2))
    (h3 : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3))
    (h4 : m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4))
    (h5 : m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) :
    Cert.Reference7Ideal.Value.res_main_v46 m' c = Cert.Kernel7Ideal.Mlp.result m c := by
  refine Cert.Inproj.rows_ext fun s d => ?_
  refine ((congrFun (Cert.Reference7Ideal.Mlp.res_eq m' c) _).trans ((Cert.Reference7Ideal.Mlp.joined_apply _ s d).trans (Cert.Reference7Ideal.Mlp.before_apply m' c _ _ _))).trans ?_
  rw [h0, h1, h2, h3, h4, h5]
  rfl

/-- The frame of its reference. -/
theorem frame_reference7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0 :=
  (θ_run Cert.Reference7Ideal.defs _ _).mono (fun r h => And.intro (fun c => (h c).2) (sem_eq_zero_of_no_sems (by decide) r.2)) (Cert.Reference7Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite_scores.Gen.facts,
    fun m g _ => Cert.Kernel.Flash.frame_run m g,
    fun m g _ => Cert.KernelIdeal.Flash.frame_run m g,
    fun m g _ => Cert.KernelIdeal.Flash.frame_run m g,
    fun m g _ => frame_reference m g,
    fun m g _ => frame_reference m g,
    fun m g _ => Cert.Kernel2.Gen.frame m g,
    fun m g _ => Cert.Kernel2Ideal.Gen.frame m g,
    fun m g _ => frame_reference2 m g,
    fun m g _ => Cert.Kernel3.Gen.frame m g,
    fun m g _ => Cert.Kernel3Ideal.Gen.frame m g,
    fun m g _ => frame_reference3 m g,
    fun m g _ => Cert.Kernel4.Gen.frame m g,
    fun m g _ => Cert.Kernel4Ideal.Gen.frame m g,
    fun m g _ => frame_reference4 m g,
    fun m g _ => Cert.Kernel5.Gen.frame m g,
    fun m g _ => Cert.Kernel5Ideal.Gen.frame m g,
    fun m g _ => frame_reference5 m g,
    fun m g _ => Cert.Kernel6.Gen.frame m g,
    fun m g _ => Cert.Kernel6Ideal.Gen.frame m g,
    fun m g _ => frame_reference6 m g,
    fun m g _ => Cert.Kernel7.Gen.frame m g,
    fun m g _ => Cert.Kernel7Ideal.Gen.frame m g,
    fun m g _ => frame_reference7 m g,
    IdealRules.named_const.statement Cert.KernelIdeal.κ "qk_scale_log2" .f32 0x3E0293EE#32 _ rfl,
    fun m g m' g' hpre hag =>
      ⟨fun c => Cert.KernelIdeal.Flash.result m c,
        Cert.KernelIdeal.Flash.run_value m g (Cert.Pre_finite_scores.Read.finite_of_pre m hpre),
        (θ_run Cert.ReferenceIdeal.defs _ _).mono
          (fun _ h c => ⟨(h c).1.trans (result_eq m m' c (hag c).1 (hag c).2.1 (hag c).2.2.1 (hag c).2.2.2.1 (hag c).2.2.2.2), (h c).2⟩)
          (Cert.ReferenceIdeal.Value.run (F := Ideal) m' g')⟩,
    trivial,
    fun m g m' g' _ hag =>
      ⟨fun c => Cert.Kernel2Ideal.Mlp.result m c,
        Cert.Kernel2Ideal.Mlp.run_value m g,
        (θ_run Cert.Reference2Ideal.defs _ _).mono
          (fun _ h c => ⟨(h c).1.trans (result2_eq m m' c (hag c).1 (hag c).2.1 (hag c).2.2.1 (hag c).2.2.2.1 (hag c).2.2.2.2.1 (hag c).2.2.2.2.2), (h c).2⟩)
          (Cert.Reference2Ideal.Value.run (F := Ideal) m' g')⟩,
    IdealRules.named_const.statement Cert.Kernel3Ideal.κ "qk_scale_log2" .f32 0x3E0293EE#32 _ rfl,
    fun m g m' g' _ hag =>
      ⟨fun c => Cert.Kernel3Ideal.Inproj.mix m c, fun c => Cert.Kernel3Ideal.Inproj.gate m c, fun c => Cert.Kernel3Ideal.Inproj.query m c, fun c => Cert.Kernel3Ideal.Inproj.key m c, fun c => Cert.Kernel3Ideal.Inproj.value m c, fun c => Cert.Kernel3Ideal.Inproj.keyCache m c, fun c => Cert.Kernel3Ideal.Inproj.valueCache m c,
        Cert.Kernel3Ideal.Inproj.run_value m g,
        (θ_run Cert.Reference3Ideal.defs _ _).mono
          (fun _ h c => ⟨(h c).1.trans (Cert.Inproj.Even.mix_eq (hag c)), (h c).2.1.trans (Cert.Inproj.Even.gate_eq (hag c)), (h c).2.2.1.trans (Cert.Inproj.Even.query_eq (hag c)), (h c).2.2.2.1.trans (Cert.Inproj.Even.key_eq (hag c)), (h c).2.2.2.2.1.trans (Cert.Inproj.Even.value_eq (hag c)), (h c).2.2.2.2.2.1.trans (Cert.Inproj.Even.keyCache_eq (hag c)), (h c).2.2.2.2.2.2.1.trans (Cert.Inproj.Even.valueCache_eq (hag c)), (h c).2.2.2.2.2.2.2⟩)
          (Cert.Reference3Ideal.Inproj.run_res m' g')⟩,
    IdealRules.named_const.statement Cert.Kernel4Ideal.κ "qk_scale_log2" .f32 0x3E0293EE#32 _ rfl,
    fun m g m' g' _ hag =>
      ⟨fun c => Cert.Kernel4Ideal.Inproj.mix m c, fun c => Cert.Kernel4Ideal.Inproj.steps m c, fun c => Cert.Kernel4Ideal.Inproj.query m c, fun c => Cert.Kernel4Ideal.Inproj.key m c, fun c => Cert.Kernel4Ideal.Inproj.value m c, fun c => Cert.Kernel4Ideal.Inproj.keyCache m c, fun c => Cert.Kernel4Ideal.Inproj.valueCache m c,
        Cert.Kernel4Ideal.Inproj.run_value m g,
        (θ_run Cert.Reference4Ideal.defs _ _).mono
          (fun _ h c => ⟨(h c).1.trans (Cert.Inproj.Odd.mix_eq (hag c)), (h c).2.1.trans (Cert.Inproj.Odd.steps_eq (hag c)), (h c).2.2.1.trans (Cert.Inproj.Odd.query_eq (hag c)), (h c).2.2.2.1.trans (Cert.Inproj.Odd.key_eq (hag c)), (h c).2.2.2.2.1.trans (Cert.Inproj.Odd.value_eq (hag c)), (h c).2.2.2.2.2.1.trans (Cert.Inproj.Odd.keyCache_eq (hag c)), (h c).2.2.2.2.2.2.1.trans (Cert.Inproj.Odd.valueCache_eq (hag c)), (h c).2.2.2.2.2.2.2⟩)
          (Cert.Reference4Ideal.Inproj.run_res m' g')⟩,
    trivial,
    fun m g m' g' _ hag =>
      ⟨fun c => Cert.Kernel5Ideal.Outproj.result m c,
        Cert.Kernel5Ideal.Outproj.run_value m g,
        (θ_run Cert.Reference5Ideal.defs _ _).mono
          (fun _ h c => ⟨(h c).1.trans (result5_eq m m' c (hag c).1 (hag c).2.1 (hag c).2.2.1 (hag c).2.2.2.1 (hag c).2.2.2.2.1 (hag c).2.2.2.2.2), (h c).2⟩)
          (Cert.Reference5Ideal.Outproj.run_res m' g')⟩,
    trivial,
    fun m g m' g' _ hag =>
      ⟨fun c => Cert.Kernel6Ideal.Outproj.result m c,
        Cert.Kernel6Ideal.Outproj.run_value m g,
        (θ_run Cert.Reference6Ideal.defs _ _).mono
          (fun _ h c => ⟨(h c).1.trans (result6_eq m m' c (hag c).1 (hag c).2.1 (hag c).2.2.1 (hag c).2.2.2.1 (hag c).2.2.2.2.1 (hag c).2.2.2.2.2.1 (hag c).2.2.2.2.2.2), (h c).2⟩)
          (Cert.Reference6Ideal.Outproj.run_res m' g')⟩,
    trivial,
    fun m g m' g' _ hag =>
      ⟨fun c => Cert.Kernel7Ideal.Mlp.result m c,
        Cert.Kernel7Ideal.Mlp.run_value m g,
        (θ_run Cert.Reference7Ideal.defs _ _).mono
          (fun _ h c => ⟨(h c).1.trans (result7_eq m m' c (hag c).1 (hag c).2.1 (hag c).2.2.1 (hag c).2.2.2.1 (hag c).2.2.2.2.1 (hag c).2.2.2.2.2), (h c).2⟩)
          (Cert.Reference7Ideal.Value.run (F := Ideal) m' g')⟩⟩

end Cert.Proof

end
